-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
-- ==== Pre_finite_inputs.lean ====
abbrev S8x4352x7680 : Shape := ⟨3, ![8, 4352, 7680]⟩
abbrev S64 : Shape := ⟨1, ![64]⟩
abbrev S8x4352x640 : Shape := ⟨3, ![8, 4352, 640]⟩
abbrev S_ : Shape := ⟨0, ![]⟩

class Facts : Prop where
  slices_S8x4352x7680_S8x4352x640_0_0_3072 : S8x4352x7680.Slices ![0, 0, 3072] S8x4352x640
  bcast_S_S8x4352x640 : S_.BroadcastsInDim S8x4352x640 (![] : Fin 0 → Fin S8x4352x640.rank)
  reducesTo_S8x4352x640_S_d0_1_2 : S8x4352x640.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8x4352x7680 .f32) (main_arg1 : FVec F S64 .f32) (main_arg2 : FVec F S64 .f32) : IVec S_ 1 :=
  let main_v0 : FVec F S8x4352x640 .f32 := (extractStridedSlice S8x4352x640 ![0, 0, 3072] · slices_S8x4352x7680_S8x4352x640_0_0_3072) main_arg0
  let main_v1 : FVec F S8x4352x640 .f32 := Host.absf main_v0
  let main_cst : FVec F S_ .f32 := constant S_ .f32 0x7F800000#32
  let main_v2 : FVec F S8x4352x640 .f32 := broadcastInDim S8x4352x640 ![] bcast_S_S8x4352x640 main_cst
  let main_v3 : IVec S8x4352x640 1 := cmpf .olt main_v1 main_v2
  let main_c : IVec S_ 1 := constantI S_ 1 1#1
  let main_v4 : IVec S_ 1 := (fun x v => Host.reduce IntOp.andi x v reducesTo_S8x4352x640_S_d0_1_2 h_S_) main_v3 main_c
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  main_v14
-- ==== Kernel.lean ====
abbrev S8x4352x7680 : Shape := ⟨3, ![8, 4352, 7680]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4096x2x1x16 : Shape := ⟨4, ![4096, 2, 1, 16]⟩
abbrev S4096x2x2x16 : Shape := ⟨4, ![4096, 2, 2, 16]⟩
abbrev S4096x64 : Shape := ⟨2, ![4096, 64]⟩
abbrev S256x64 : Shape := ⟨2, ![256, 64]⟩
abbrev S4352x64 : Shape := ⟨2, ![4352, 64]⟩
abbrev S1x4352x1x64 : Shape := ⟨4, ![1, 4352, 1, 64]⟩
abbrev S1x4352x2x64 : Shape := ⟨4, ![1, 4352, 2, 64]⟩
abbrev S4352x128 : Shape := ⟨2, ![4352, 128]⟩
abbrev S1x128 : Shape := ⟨2, ![1, 128]⟩
abbrev S2x64 : Shape := ⟨2, ![2, 64]⟩
abbrev S128 : Shape := ⟨1, ![128]⟩
abbrev S8x4352x1024 : Shape := ⟨3, ![8, 4352, 1024]⟩
abbrev S8x4352x512 : Shape := ⟨3, ![8, 4352, 512]⟩
abbrev S1x256x768 : Shape := ⟨3, ![1, 256, 768]⟩
abbrev S256x128 : Shape := ⟨2, ![256, 128]⟩
abbrev S1x256x1024 : Shape := ⟨3, ![1, 256, 1024]⟩
abbrev S1x256x512 : Shape := ⟨3, ![1, 256, 512]⟩
abbrev S128x128 : Shape := ⟨2, ![128, 128]⟩
abbrev S1x256x128 : Shape := ⟨3, ![1, 256, 128]⟩
abbrev S1 : Shape := ⟨1, ![1]⟩
abbrev S1x128x1024 : Shape := ⟨3, ![1, 128, 1024]⟩
abbrev S1x4352x512 : Shape := ⟨3, ![1, 4352, 512]⟩
abbrev S1x128x512 : Shape := ⟨3, ![1, 128, 512]⟩
abbrev S1x128x128 : Shape := ⟨3, ![1, 128, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x64 : Shape := ⟨2, ![512, 64]⟩
abbrev S128x64 : Shape := ⟨2, ![128, 64]⟩
abbrev S1x128x64 : Shape := ⟨3, ![1, 128, 64]⟩

abbrev nBuf : Space → Nat
  | .hbm => 85
  | .vmem => 19
  | .smem => 1
  | _ => 0

abbrev bufTy : (tb : Table) → Fin (tcTables nBuf tb) → BufTy
  | .hbm, ⟨0, _⟩ => ⟨S8x4352x7680, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64x1, .f32⟩
  | .hbm, ⟨5, _⟩ => ⟨S64x64, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S64x64, .f32⟩
  | .hbm, ⟨10, _⟩ => ⟨S4096, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096x1, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x1, .f32⟩
  | .hbm, ⟨25, _⟩ => ⟨S1x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x1x16, .f32⟩
  | .hbm, ⟨30, _⟩ => ⟨S4096x1x16, .f32⟩
  | .hbm, ⟨31, _⟩ => ⟨S4096x2x16, .f32⟩
  | .hbm, ⟨32, _⟩ => ⟨S4096x2x16, .f32⟩
  | .hbm, ⟨33, _⟩ => ⟨S4096x2x16, .f32⟩
  | .hbm, ⟨34, _⟩ => ⟨S4096x2x1x16, .f32⟩
  | .hbm, ⟨35, _⟩ => ⟨S4096x2x1x16, .f32⟩
  | .hbm, ⟨36, _⟩ => ⟨S4096x2x2x16, .f32⟩
  | .hbm, ⟨37, _⟩ => ⟨S4096x64, .f32⟩
  | .hbm, ⟨38, _⟩ => ⟨S4096x2x16, .f32⟩
  | .hbm, ⟨39, _⟩ => ⟨S4096x2x1x16, .f32⟩
  | .hbm, ⟨40, _⟩ => ⟨S4096x2x1x16, .f32⟩
  | .hbm, ⟨41, _⟩ => ⟨S4096x2x2x16, .f32⟩
  | .hbm, ⟨42, _⟩ => ⟨S4096x64, .f32⟩
  | .hbm, ⟨43, _⟩ => ⟨S_, .f32⟩
  | .hbm, ⟨44, _⟩ => ⟨S256x64, .f32⟩
  | .hbm, ⟨45, _⟩ => ⟨S4352x64, .f32⟩
  | .hbm, ⟨46, _⟩ => ⟨S_, .f32⟩
  | .hbm, ⟨47, _⟩ => ⟨S256x64, .f32⟩
  | .hbm, ⟨48, _⟩ => ⟨S4352x64, .f32⟩
  | .hbm, ⟨49, _⟩ => ⟨S1x4352x1x64, .f32⟩
  | .hbm, ⟨50, _⟩ => ⟨S1x4352x2x64, .f32⟩
  | .hbm, ⟨51, _⟩ => ⟨S4352x128, .f32⟩
  | .hbm, ⟨52, _⟩ => ⟨S1x4352x1x64, .f32⟩
  | .hbm, ⟨53, _⟩ => ⟨S1x4352x2x64, .f32⟩
  | .hbm, ⟨54, _⟩ => ⟨S4352x128, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1x128, .f32⟩
  | .hbm, ⟨73, _⟩ => ⟨S1x64, .f32⟩
  | .hbm, ⟨74, _⟩ => ⟨S2x64, .f32⟩
  | .hbm, ⟨75, _⟩ => ⟨S128, .f32⟩
  | .hbm, ⟨76, _⟩ => ⟨S1x128, .f32⟩
  | .hbm, ⟨77, _⟩ => ⟨S1x64, .f32⟩
  | .hbm, ⟨78, _⟩ => ⟨S2x64, .f32⟩
  | .hbm, ⟨79, _⟩ => ⟨S128, .f32⟩
  | .hbm, ⟨80, _⟩ => ⟨S1x128, .f32⟩
  | .hbm, ⟨81, _⟩ => ⟨S8x4352x1024, .bf16⟩
  | .hbm, ⟨82, _⟩ => ⟨S8x4352x512, .bf16⟩
  | .hbm, ⟨83, _⟩ => ⟨S_, .i32⟩
  | .hbm, ⟨84, _⟩ => ⟨S8x4352x512, .bf16⟩
  | .local _ .vmem, ⟨0, _⟩ => ⟨S1x256x768, .f32⟩
  | .local _ .vmem, ⟨1, _⟩ => ⟨S1x256x768, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x512, .bf16⟩
  | .local _ .vmem, ⟨12, _⟩ => ⟨S1x256x512, .bf16⟩
  | .local _ .vmem, ⟨13, _⟩ => ⟨S1x128x1024, .bf16⟩
  | .local _ .vmem, ⟨14, _⟩ => ⟨S1x128x1024, .bf16⟩
  | .local _ .vmem, ⟨15, _⟩ => ⟨S1x4352x512, .bf16⟩
  | .local _ .vmem, ⟨16, _⟩ => ⟨S1x4352x512, .bf16⟩
  | .local _ .vmem, ⟨17, _⟩ => ⟨S1x128x512, .bf16⟩
  | .local _ .vmem, ⟨18, _⟩ => ⟨S1x128x512, .bf16⟩
  | .local _ .smem, ⟨0, _⟩ => ⟨S1, .i32⟩
  | _, _ => ⟨S8x4352x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_call0_v0 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67_0 : Ref sig .tc := ⟨.hbm, 81, rfl⟩
abbrev main_v67_1 : Ref sig .tc := ⟨.hbm, 82, rfl⟩
abbrev main_v68 : Ref sig .tc := ⟨.hbm, 83, rfl⟩
abbrev main_v70 : Ref sig .tc := ⟨.hbm, 84, rfl⟩
abbrev main_v69 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 34], ![false, false]⟩

abbrev pre1 : Pipeline.Prefetch sig := ⟨1, ![main_v69.idx], fun | 0 => main_v69.names | ⟨_ + 1, h⟩ => absurd h (Nat.not_lt.2 (Nat.le_add_left _ _)), fun | 0 => rfl | ⟨_ + 1, h⟩ => absurd h (Nat.not_lt.2 (Nat.le_add_left _ _))⟩

def k1_cond1 (i : grid1.Coords) : BitVec 1 :=
  let arg1 : BitVec 32 := BitVec.ofNat 32 (i 1).val
  let c2_i32 : BitVec 32 := 2#32
  let v0 : BitVec 1 := Scalar.cmpi .slt arg1 c2_i32
  let v3 : BitVec 32 := Scalar.extui v0
  let c0_i32 : BitVec 32 := 0#32
  let v4 : BitVec 1 := Scalar.cmpi .ne v3 c0_i32
  v4

def k1_cond2 (i : grid1.Coords) (v1 : BitVec 32) : BitVec 1 :=
  let arg1 : BitVec 32 := BitVec.ofNat 32 (i 1).val
  let c2_i32 : BitVec 32 := 2#32
  let v0 : BitVec 1 := Scalar.cmpi .slt arg1 c2_i32
  let v_true : BitVec 1 := 1#1
  let v5 : BitVec 1 := Scalar.xori v0 v_true
  let c1_i32 : BitVec 32 := 1#32
  let v2 : BitVec 1 := Scalar.cmpi .eq v1 c1_i32
  let v6 : BitVec 1 := Scalar.andi v5 v2
  let v7 : BitVec 32 := Scalar.extui v6
  let c0_i32_0 : BitVec 32 := 0#32
  let v8 : BitVec 1 := Scalar.cmpi .ne v7 c0_i32_0
  v8

def k1_cond3 (i : grid1.Coords) (v1 : BitVec 32) : BitVec 1 :=
  let arg1 : BitVec 32 := BitVec.ofNat 32 (i 1).val
  let c2_i32 : BitVec 32 := 2#32
  let v0 : BitVec 1 := Scalar.cmpi .slt arg1 c2_i32
  let true_1 : BitVec 1 := 1#1
  let v9 : BitVec 1 := Scalar.xori v0 true_1
  let c1_i32 : BitVec 32 := 1#32
  let v2 : BitVec 1 := Scalar.cmpi .eq v1 c1_i32
  let true_2 : BitVec 1 := 1#1
  let v10 : BitVec 1 := Scalar.xori v2 true_2
  let v11 : BitVec 1 := Scalar.andi v9 v10
  let v12 : BitVec 32 := Scalar.extui v11
  let c0_i32_3 : BitVec 32 := 0#32
  let v13 : BitVec 1 := Scalar.cmpi .ne v12 c0_i32_3
  v13

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4352x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S8x4352x7680 : Shape := ⟨3, ![8, 4352, 7680]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S8x4352x512 : Shape := ⟨3, ![8, 4352, 512]⟩
abbrev S8x4352x8x64 : Shape := ⟨4, ![8, 4352, 8, 64]⟩
abbrev S8x8x4352x64 : Shape := ⟨4, ![8, 8, 4352, 64]⟩
abbrev S8x8x4352 : Shape := ⟨3, ![8, 8, 4352]⟩
abbrev S8x8x4352x1 : Shape := ⟨4, ![8, 8, 4352, 1]⟩
abbrev S1x1x1x64 : Shape := ⟨4, ![1, 1, 1, 64]⟩
abbrev S8x4352x128 : Shape := ⟨3, ![8, 4352, 128]⟩
abbrev S8x4352x2x64 : Shape := ⟨4, ![8, 4352, 2, 64]⟩
abbrev S8x2x4352x64 : Shape := ⟨4, ![8, 2, 4352, 64]⟩
abbrev S8x2x4352 : Shape := ⟨3, ![8, 2, 4352]⟩
abbrev S8x2x4352x1 : Shape := ⟨4, ![8, 2, 4352, 1]⟩
abbrev S8x2x256x64 : Shape := ⟨4, ![8, 2, 256, 64]⟩
abbrev S8x2x4096x64 : Shape := ⟨4, ![8, 2, 4096, 64]⟩
abbrev S8x2x4096x2x2x16 : Shape := ⟨6, ![8, 2, 4096, 2, 2, 16]⟩
abbrev S8x2x4096x2x1x16 : Shape := ⟨6, ![8, 2, 4096, 2, 1, 16]⟩
abbrev S8x2x4096x2x16 : Shape := ⟨5, ![8, 2, 4096, 2, 16]⟩
abbrev S1x1x4096x2x16 : Shape := ⟨5, ![1, 1, 4096, 2, 16]⟩
abbrev S8x8x256x64 : Shape := ⟨4, ![8, 8, 256, 64]⟩
abbrev S8x2x4x256x64 : Shape := ⟨5, ![8, 2, 4, 256, 64]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x256x8x64 : Shape := ⟨4, ![8, 256, 8, 64]⟩
abbrev S8x256x512 : Shape := ⟨3, ![8, 256, 512]⟩
abbrev S8x8x4096x64 : Shape := ⟨4, ![8, 8, 4096, 64]⟩
abbrev S8x8x4096x2x2x16 : Shape := ⟨6, ![8, 8, 4096, 2, 2, 16]⟩
abbrev S8x8x4096x2x1x16 : Shape := ⟨6, ![8, 8, 4096, 2, 1, 16]⟩
abbrev S8x8x4096x2x16 : Shape := ⟨5, ![8, 8, 4096, 2, 16]⟩
abbrev S8x2x4x4096x64 : Shape := ⟨5, ![8, 2, 4, 4096, 64]⟩
abbrev S8x2x4x4096x4352 : Shape := ⟨5, ![8, 2, 4, 4096, 4352]⟩
abbrev S8x2x4x4096 : Shape := ⟨4, ![8, 2, 4, 4096]⟩
abbrev S8x2x4x4096x1 : Shape := ⟨5, ![8, 2, 4, 4096, 1]⟩
abbrev S8x4096x8x64 : Shape := ⟨4, ![8, 4096, 8, 64]⟩
abbrev S8x4096x512 : Shape := ⟨3, ![8, 4096, 512]⟩

abbrev nBuf : Space → Nat
  | .hbm => 176
  | .vmem => 0
  | .smem => 0
  | _ => 0

abbrev hbmTy0_0 (i : Nat) : BufTy := match i % 128 with
  | 0 => ⟨S8x4352x7680, .f32⟩
  | 1 => ⟨S64, .f32⟩
  | 2 => ⟨S64, .f32⟩
  | 3 => ⟨S64, .f32⟩
  | 4 => ⟨S64x1, .f32⟩
  | 5 => ⟨S64x64, .f32⟩
  | 6 => ⟨S4096, .f32⟩
  | 7 => ⟨S64, .f32⟩
  | 8 => ⟨S1x64, .f32⟩
  | 9 => ⟨S64x64, .f32⟩
  | 10 => ⟨S4096, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S4096x1, .f32⟩
  | 20 => ⟨S1x16, .f32⟩
  | 21 => ⟨S4096x16, .f32⟩
  | 22 => ⟨S4096x16, .f32⟩
  | 23 => ⟨S4096x16, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x1x16, .f32⟩
  | 30 => ⟨S4096x1x16, .f32⟩
  | 31 => ⟨S4096x2x16, .f32⟩
  | 32 => ⟨S4096x2x16, .f32⟩
  | 33 => ⟨S4096x2x16, .f32⟩
  | 34 => ⟨S8x4352x512, .f32⟩
  | 35 => ⟨S8x4352x8x64, .f32⟩
  | 36 => ⟨S8x8x4352x64, .f32⟩
  | 37 => ⟨S8x8x4352x64, .f32⟩
  | 38 => ⟨S_, .f32⟩
  | 39 => ⟨S8x8x4352, .f32⟩
  | 40 => ⟨S8x8x4352x1, .f32⟩
  | 41 => ⟨S_, .f32⟩
  | 42 => ⟨S8x8x4352x1, .f32⟩
  | 43 => ⟨S8x8x4352x1, .f32⟩
  | 44 => ⟨S_, .f32⟩
  | 45 => ⟨S8x8x4352x1, .f32⟩
  | 46 => ⟨S8x8x4352x1, .f32⟩
  | 47 => ⟨S8x8x4352x1, .f32⟩
  | 48 => ⟨S8x8x4352x64, .f32⟩
  | 49 => ⟨S8x8x4352x64, .f32⟩
  | 50 => ⟨S1x1x1x64, .f32⟩
  | 51 => ⟨S8x8x4352x64, .f32⟩
  | 52 => ⟨S8x8x4352x64, .f32⟩
  | 53 => ⟨S8x4352x128, .f32⟩
  | 54 => ⟨S8x4352x2x64, .f32⟩
  | 55 => ⟨S8x2x4352x64, .f32⟩
  | 56 => ⟨S8x2x4352x64, .f32⟩
  | 57 => ⟨S_, .f32⟩
  | 58 => ⟨S8x2x4352, .f32⟩
  | 59 => ⟨S8x2x4352x1, .f32⟩
  | 60 => ⟨S_, .f32⟩
  | 61 => ⟨S8x2x4352x1, .f32⟩
  | 62 => ⟨S8x2x4352x1, .f32⟩
  | 63 => ⟨S_, .f32⟩
  | 64 => ⟨S8x2x4352x1, .f32⟩
  | 65 => ⟨S8x2x4352x1, .f32⟩
  | 66 => ⟨S8x2x4352x1, .f32⟩
  | 67 => ⟨S8x2x4352x64, .f32⟩
  | 68 => ⟨S8x2x4352x64, .f32⟩
  | 69 => ⟨S1x1x1x64, .f32⟩
  | 70 => ⟨S8x2x4352x64, .f32⟩
  | 71 => ⟨S8x2x4352x64, .f32⟩
  | 72 => ⟨S8x4352x128, .f32⟩
  | 73 => ⟨S8x4352x2x64, .f32⟩
  | 74 => ⟨S8x2x4352x64, .f32⟩
  | 75 => ⟨S8x2x256x64, .f32⟩
  | 76 => ⟨S8x2x4096x64, .f32⟩
  | 77 => ⟨S8x2x4096x2x2x16, .f32⟩
  | 78 => ⟨S8x2x4096x2x1x16, .f32⟩
  | 79 => ⟨S8x2x4096x2x16, .f32⟩
  | 80 => ⟨S8x2x4096x2x1x16, .f32⟩
  | 81 => ⟨S8x2x4096x2x16, .f32⟩
  | 82 => ⟨S1x1x4096x2x16, .f32⟩
  | 83 => ⟨S8x2x4096x2x16, .f32⟩
  | 84 => ⟨S8x2x4096x2x16, .f32⟩
  | 85 => ⟨S1x1x4096x2x16, .f32⟩
  | 86 => ⟨S8x2x4096x2x16, .f32⟩
  | 87 => ⟨S8x2x4096x2x16, .f32⟩
  | 88 => ⟨S8x2x4096x2x16, .f32⟩
  | 89 => ⟨S1x1x4096x2x16, .f32⟩
  | 90 => ⟨S8x2x4096x2x16, .f32⟩
  | 91 => ⟨S8x2x4096x2x16, .f32⟩
  | 92 => ⟨S1x1x4096x2x16, .f32⟩
  | 93 => ⟨S8x2x4096x2x16, .f32⟩
  | 94 => ⟨S8x2x4096x2x16, .f32⟩
  | 95 => ⟨S8x2x4096x2x16, .f32⟩
  | 96 => ⟨S8x2x4096x2x1x16, .f32⟩
  | 97 => ⟨S8x2x4096x2x1x16, .f32⟩
  | 98 => ⟨S8x2x4096x2x2x16, .f32⟩
  | 99 => ⟨S8x2x4096x64, .f32⟩
  | 100 => ⟨S8x2x4352x64, .f32⟩
  | 101 => ⟨S8x8x256x64, .f32⟩
  | 102 => ⟨S8x2x256x64, .f32⟩
  | 103 => ⟨S8x2x256x64, .f32⟩
  | 104 => ⟨S8x2x4x256x64, .f32⟩
  | 105 => ⟨S8x2x4x256x256, .f32⟩
  | 106 => ⟨S_, .f32⟩
  | 107 => ⟨S8x2x4x256x256, .f32⟩
  | 108 => ⟨S8x2x4x256x256, .f32⟩
  | 109 => ⟨S_, .f32⟩
  | 110 => ⟨S8x2x4x256, .f32⟩
  | 111 => ⟨S_, .f32⟩
  | 112 => ⟨S8x2x4x256, .f32⟩
  | 113 => ⟨S8x2x4x256, .f32⟩
  | 114 => ⟨S8x2x4x256x1, .f32⟩
  | 115 => ⟨S8x2x4x256x256, .f32⟩
  | 116 => ⟨S8x2x4x256x256, .f32⟩
  | 117 => ⟨S8x2x4x256x256, .f32⟩
  | 118 => ⟨S_, .f32⟩
  | 119 => ⟨S8x2x4x256, .f32⟩
  | 120 => ⟨S8x2x4x256x1, .f32⟩
  | 121 => ⟨S8x2x4x256x256, .f32⟩
  | 122 => ⟨S8x2x4x256x256, .f32⟩
  | 123 => ⟨S8x2x4x256x64, .f32⟩
  | 124 => ⟨S8x8x256x64, .f32⟩
  | 125 => ⟨S8x256x8x64, .f32⟩
  | 126 => ⟨S8x256x512, .f32⟩
  | 127 => ⟨S8x8x4096x64, .f32⟩
  | _ => ⟨S8x4352x7680, .f32⟩

abbrev hbmTy0_1 (i : Nat) : BufTy := match i % 128 with
  | 0 => ⟨S8x8x4096x2x2x16, .f32⟩
  | 1 => ⟨S8x8x4096x2x1x16, .f32⟩
  | 2 => ⟨S8x8x4096x2x16, .f32⟩
  | 3 => ⟨S8x8x4096x2x1x16, .f32⟩
  | 4 => ⟨S8x8x4096x2x16, .f32⟩
  | 5 => ⟨S1x1x4096x2x16, .f32⟩
  | 6 => ⟨S8x8x4096x2x16, .f32⟩
  | 7 => ⟨S8x8x4096x2x16, .f32⟩
  | 8 => ⟨S1x1x4096x2x16, .f32⟩
  | 9 => ⟨S8x8x4096x2x16, .f32⟩
  | 10 => ⟨S8x8x4096x2x16, .f32⟩
  | 11 => ⟨S8x8x4096x2x16, .f32⟩
  | 12 => ⟨S1x1x4096x2x16, .f32⟩
  | 13 => ⟨S8x8x4096x2x16, .f32⟩
  | 14 => ⟨S8x8x4096x2x16, .f32⟩
  | 15 => ⟨S1x1x4096x2x16, .f32⟩
  | 16 => ⟨S8x8x4096x2x16, .f32⟩
  | 17 => ⟨S8x8x4096x2x16, .f32⟩
  | 18 => ⟨S8x8x4096x2x16, .f32⟩
  | 19 => ⟨S8x8x4096x2x1x16, .f32⟩
  | 20 => ⟨S8x8x4096x2x1x16, .f32⟩
  | 21 => ⟨S8x8x4096x2x2x16, .f32⟩
  | 22 => ⟨S8x8x4096x64, .f32⟩
  | 23 => ⟨S8x2x4x4096x64, .f32⟩
  | 24 => ⟨S8x2x4x4096x4352, .f32⟩
  | 25 => ⟨S_, .f32⟩
  | 26 => ⟨S8x2x4x4096x4352, .f32⟩
  | 27 => ⟨S8x2x4x4096x4352, .f32⟩
  | 28 => ⟨S_, .f32⟩
  | 29 => ⟨S8x2x4x4096, .f32⟩
  | 30 => ⟨S_, .f32⟩
  | 31 => ⟨S8x2x4x4096, .f32⟩
  | 32 => ⟨S8x2x4x4096, .f32⟩
  | 33 => ⟨S8x2x4x4096x1, .f32⟩
  | 34 => ⟨S8x2x4x4096x4352, .f32⟩
  | 35 => ⟨S8x2x4x4096x4352, .f32⟩
  | 36 => ⟨S8x2x4x4096x4352, .f32⟩
  | 37 => ⟨S_, .f32⟩
  | 38 => ⟨S8x2x4x4096, .f32⟩
  | 39 => ⟨S8x2x4x4096x1, .f32⟩
  | 40 => ⟨S8x2x4x4096x4352, .f32⟩
  | 41 => ⟨S8x2x4x4096x4352, .f32⟩
  | 42 => ⟨S8x2x4x4096x64, .f32⟩
  | 43 => ⟨S8x8x4096x64, .f32⟩
  | 44 => ⟨S8x4096x8x64, .f32⟩
  | 45 => ⟨S8x4096x512, .f32⟩
  | 46 => ⟨S8x4352x512, .f32⟩
  | 47 => ⟨S8x4352x512, .bf16⟩
  | _ => ⟨S8x4352x7680, .f32⟩

abbrev hbmTy (i : Nat) : BufTy := match i / 128 with
  | 0 => hbmTy0_0 i
  | 1 => hbmTy0_1 i
  | _ => ⟨S8x4352x7680, .f32⟩

abbrev bufTy : (tb : Table) → Fin (tcTables nBuf tb) → BufTy
  | .hbm, ⟨i, _⟩ => hbmTy i
  | _, _ => ⟨S8x4352x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_7 : Ref sig .tc := ⟨.hbm, 106, rfl⟩
abbrev main_v95 : Ref sig .tc := ⟨.hbm, 107, rfl⟩
abbrev main_v96 : Ref sig .tc := ⟨.hbm, 108, rfl⟩
abbrev main_cst_8 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_10 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_cst_11 : Ref sig .tc := ⟨.hbm, 153, rfl⟩
abbrev main_v138 : Ref sig .tc := ⟨.hbm, 154, rfl⟩
abbrev main_v139 : Ref sig .tc := ⟨.hbm, 155, rfl⟩
abbrev main_cst_12 : Ref sig .tc := ⟨.hbm, 156, rfl⟩
abbrev main_v140 : Ref sig .tc := ⟨.hbm, 157, rfl⟩
abbrev main_cst_13 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_cst_14 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S8x1024 : Shape := ⟨2, ![8, 1024]⟩
abbrev S1024 : Shape := ⟨1, ![1024]⟩
abbrev S1024x7680 : Shape := ⟨2, ![1024, 7680]⟩
abbrev S8x4352x1024 : Shape := ⟨3, ![8, 4352, 1024]⟩
abbrev S8x1x1024 : Shape := ⟨3, ![8, 1, 1024]⟩
abbrev S8x2x1024 : Shape := ⟨3, ![8, 2, 1024]⟩
abbrev S16x1x1024 : Shape := ⟨3, ![16, 1, 1024]⟩
abbrev S_ : Shape := ⟨0, ![]⟩
abbrev S1x1x1024 : Shape := ⟨3, ![1, 1, 1024]⟩
abbrev S8x4352x7680 : Shape := ⟨3, ![8, 4352, 7680]⟩
abbrev S1x256x1024 : Shape := ⟨3, ![1, 256, 1024]⟩
abbrev S1024x3840 : Shape := ⟨2, ![1024, 3840]⟩
abbrev S1x256x3840 : Shape := ⟨3, ![1, 256, 3840]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x768 : Shape := ⟨2, ![1024, 768]⟩
abbrev S256x768 : Shape := ⟨2, ![256, 768]⟩
abbrev S1x256x768 : Shape := ⟨3, ![1, 256, 768]⟩
abbrev S1024x2048 : Shape := ⟨2, ![1024, 2048]⟩
abbrev S256x2048 : Shape := ⟨2, ![256, 2048]⟩
abbrev S1x256x2048 : Shape := ⟨3, ![1, 256, 2048]⟩
abbrev S1024x1024 : Shape := ⟨2, ![1024, 1024]⟩
abbrev S256x3840 : Shape := ⟨2, ![256, 3840]⟩

abbrev nBuf : Space → Nat
  | .hbm => 27
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x7680, .f32⟩
  | .hbm, ⟨8, _⟩ => ⟨S8x4352x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x2x1024, .f32⟩
  | .hbm, ⟨13, _⟩ => ⟨S16x1x1024, .f32⟩
  | .hbm, ⟨14, _⟩ => ⟨S_, .f32⟩
  | .hbm, ⟨15, _⟩ => ⟨S16x1x1024, .f32⟩
  | .hbm, ⟨16, _⟩ => ⟨S16x1x1024, .f32⟩
  | .hbm, ⟨17, _⟩ => ⟨S1x1x1024, .f32⟩
  | .hbm, ⟨18, _⟩ => ⟨S16x1x1024, .f32⟩
  | .hbm, ⟨19, _⟩ => ⟨S16x1x1024, .f32⟩
  | .hbm, ⟨20, _⟩ => ⟨S8x1024, .f32⟩
  | .hbm, ⟨21, _⟩ => ⟨S8x1x1024, .f32⟩
  | .hbm, ⟨22, _⟩ => ⟨S8x1x1024, .f32⟩
  | .hbm, ⟨23, _⟩ => ⟨S8x2x1024, .f32⟩
  | .hbm, ⟨24, _⟩ => ⟨S16x1x1024, .f32⟩
  | .hbm, ⟨25, _⟩ => ⟨S1024x7680, .bf16⟩
  | .hbm, ⟨26, _⟩ => ⟨S8x4352x7680, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3840, .bf16⟩
  | .local _ .vmem, ⟨7, _⟩ => ⟨S1024x3840, .bf16⟩
  | .local _ .vmem, ⟨8, _⟩ => ⟨S1x256x3840, .f32⟩
  | .local _ .vmem, ⟨9, _⟩ => ⟨S1x256x3840, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 17], ![false, false, false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_10 : BitVec 32 := 0#32
  let v23 : BitVec 1 := Scalar.cmpi .ne v22 c0_i32_10
  v23

def k0_cond2 (i : grid0.Coords) : BitVec 1 :=
  let arg0 : BitVec 32 := BitVec.ofNat 32 (i 0).val
  let c1_i32 : BitVec 32 := 1#32
  let v24 : BitVec 1 := Scalar.cmpi .eq arg0 c1_i32
  let v25 : BitVec 32 := Scalar.extui v24
  let c0_i32_11 : BitVec 32 := 0#32
  let v26 : BitVec 1 := Scalar.cmpi .ne v25 c0_i32_11
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.minsi arg2 c1_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.minsi arg2 c1_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x3840 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x3840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S8x4096x1024 : Shape := ⟨3, ![8, 4096, 1024]⟩
abbrev S8x256x1024 : Shape := ⟨3, ![8, 256, 1024]⟩
abbrev S8x1024 : Shape := ⟨2, ![8, 1024]⟩
abbrev S1024 : Shape := ⟨1, ![1024]⟩
abbrev S1024x7680 : Shape := ⟨2, ![1024, 7680]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x256 : Shape := ⟨2, ![8, 256]⟩
abbrev S8x256x1 : Shape := ⟨3, ![8, 256, 1]⟩
abbrev S8x4352x1024 : Shape := ⟨3, ![8, 4352, 1024]⟩
abbrev S8x4352x7680 : Shape := ⟨3, ![8, 4352, 7680]⟩
abbrev S8x4352x768 : Shape := ⟨3, ![8, 4352, 768]⟩
abbrev S8x4352x2048 : Shape := ⟨3, ![8, 4352, 2048]⟩
abbrev S8x4352x1792 : Shape := ⟨3, ![8, 4352, 1792]⟩
abbrev S8x4352x3072 : Shape := ⟨3, ![8, 4352, 3072]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x7680, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x256x1024, .f32⟩
  | .hbm, ⟨34, _⟩ => ⟨S_, .f32⟩
  | .hbm, ⟨35, _⟩ => ⟨S8x256, .f32⟩
  | .hbm, ⟨36, _⟩ => ⟨S8x256x1, .f32⟩
  | .hbm, ⟨37, _⟩ => ⟨S_, .f32⟩
  | .hbm, ⟨38, _⟩ => ⟨S8x256x1, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S8x256x1, .f32⟩
  | .hbm, ⟨44, _⟩ => ⟨S8x256x1024, .f32⟩
  | .hbm, ⟨45, _⟩ => ⟨S8x256x1024, .f32⟩
  | .hbm, ⟨46, _⟩ => ⟨S1x1x1024, .f32⟩
  | .hbm, ⟨47, _⟩ => ⟨S8x256x1024, .f32⟩
  | .hbm, ⟨48, _⟩ => ⟨S8x256x1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1x1x1024, .f32⟩
  | .hbm, ⟨53, _⟩ => ⟨S8x256x1024, .f32⟩
  | .hbm, ⟨54, _⟩ => ⟨S8x256x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S8x4352x1024, .f32⟩
  | .hbm, ⟨59, _⟩ => ⟨S8x4352x7680, .f32⟩
  | .hbm, ⟨60, _⟩ => ⟨S8x4352x768, .f32⟩
  | .hbm, ⟨61, _⟩ => ⟨S8x4352x2048, .f32⟩
  | .hbm, ⟨62, _⟩ => ⟨S8x4352x1792, .f32⟩
  | .hbm, ⟨63, _⟩ => ⟨S8x4352x1024, .f32⟩
  | .hbm, ⟨64, _⟩ => ⟨S8x4352x768, .f32⟩
  | .hbm, ⟨65, _⟩ => ⟨S8x4352x3072, .f32⟩
  | .hbm, ⟨66, _⟩ => ⟨S8x4352x7680, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.Prep.lean ====
/-
  The preparation kernel's body on one tile of 256 rows: the queries' and keys' heads normalised, rotated and laid out one
  head per 128 lanes, the values beside them. Its vector functions, what it leaves in the two result tiles, and its run,
  for any float values.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The vector functions of the body -/

/-- The 128 by 128 matrix with 1 where row and column lie in the same head (64 lanes), 0 elsewhere. -/
def sameHead : FVec F S128x128 .bf16 := k0_pay6 (F := F) k0_pay1 k0_pay2 k0_pay3 k0_pay4 k0_pay5

/-- Two heads side by side, each divided by its root mean square and multiplied by the gain. -/
def normed (x : Vec F S1x256x128 .f32) (g : Vec F S1x128 .f32) : FVec F S256x128 .f32 :=
  k0_pay10 k0_pay1 k0_pay2 k0_pay3 k0_pay4 k0_pay5 x g

/-- The lanes in the first half of their group of 32. -/
def firstHalf : IVec S256x128 1 := cmpi .slt k0_pay23 (broadcast S256x128 16#32)

/-- The rotation: `y` times the cosines, plus the two halves of each group of 32 lanes swapped, times the signed sines. -/
def rotated (y cos sin : FVec F S256x128 .f32) : FVec F S256x128 .f32 :=
  addf (mulf y cos) (mulf (select firstHalf (dynamicRotate 1 112#32 none y rotates_S256x128_d1)
    (dynamicRotate 1 16#32 none y rotates_S256x128_d1)) sin)

/-- The queries' scale, the head size's inverse root over the natural logarithm of 2. -/
def scaled (y : FVec F S256x128 .f32) : FVec F S256x128 .f32 :=
  mulf y (broadcast S256x128 (Named.named κ "q_scale" 0x3E38AA3B#32 : F .f32))

/-- What stands beside a query head: the shift in lane 64, zeros after it. -/
def fillQ (s : Vec F S1x128 .f32) : FVec F S256x128 .f32 :=
  k0_pay15 (iota .tc S256x128 32 [1] iota_S256x128_d1_w32) s
/-- What stands beside a key or value head: a one in lane 64, zeros after it. -/
def fillOne : FVec F S256x128 .f32 := k0_pay46 (F := F) (iota .tc S256x128 32 [1] iota_S256x128_d1_w32)

/-- The first of two heads in lanes 0–63, the fill in the others. -/
def headLo (y fill : FVec F S256x128 .f32) : FVec F S1x256x128 .bf16 :=
  shapeCast S1x256x128 (truncf .bf16 (select k0_pay9 y fill) bitsLt_bf16_f32) shapeCasts_S256x128_S1x256x128
/-- The second of two heads in lanes 0–63, the fill in the others. -/
def headHi (y fill : FVec F S256x128 .f32) : FVec F S1x256x128 .bf16 :=
  shapeCast S1x256x128 (truncf .bf16 (select k0_pay9 (dynamicRotate 1 64#32 none y rotates_S256x128_d1) fill) bitsLt_bf16_f32)
    shapeCasts_S256x128_S1x256x128

/-! ## The rectangles it reads and writes -/

abbrev ru0 : Rect S1x256x768 := Rect.unit (s := S1x256x768) ![0, 0, 0] S1x256x128.size inb_S1x256x768_S1x256x128_0_0_0
abbrev ru1 : Rect S1x256x768 := Rect.unit (s := S1x256x768) ![0, 0, 128] S1x256x128.size inb_S1x256x768_S1x256x128_0_0_128
abbrev ru2 : Rect S1x256x768 := Rect.unit (s := S1x256x768) ![0, 0, 256] S1x256x128.size inb_S1x256x768_S1x256x128_0_0_256
abbrev ru3 : Rect S1x256x768 := Rect.unit (s := S1x256x768) ![0, 0, 384] S1x256x128.size inb_S1x256x768_S1x256x128_0_0_384
abbrev ru4 : Rect S1x256x768 := Rect.unit (s := S1x256x768) ![0, 0, 512] S1x256x128.size inb_S1x256x768_S1x256x128_0_0_512
abbrev ru5 : Rect S1x256x768 := Rect.unit (s := S1x256x768) ![0, 0, 640] S1x256x128.size inb_S1x256x768_S1x256x128_0_0_640
abbrev rq0 : Rect S1x256x1024 := Rect.unit (s := S1x256x1024) ![0, 0, 0] S1x256x128.size inb_S1x256x1024_S1x256x128_0_0_0
abbrev rq1 : Rect S1x256x1024 := Rect.unit (s := S1x256x1024) ![0, 0, 128] S1x256x128.size inb_S1x256x1024_S1x256x128_0_0_128
abbrev rq2 : Rect S1x256x1024 := Rect.unit (s := S1x256x1024) ![0, 0, 256] S1x256x128.size inb_S1x256x1024_S1x256x128_0_0_256
abbrev rq3 : Rect S1x256x1024 := Rect.unit (s := S1x256x1024) ![0, 0, 384] S1x256x128.size inb_S1x256x1024_S1x256x128_0_0_384
abbrev rq4 : Rect S1x256x1024 := Rect.unit (s := S1x256x1024) ![0, 0, 512] S1x256x128.size inb_S1x256x1024_S1x256x128_0_0_512
abbrev rq5 : Rect S1x256x1024 := Rect.unit (s := S1x256x1024) ![0, 0, 640] S1x256x128.size inb_S1x256x1024_S1x256x128_0_0_640
abbrev rq6 : Rect S1x256x1024 := Rect.unit (s := S1x256x1024) ![0, 0, 768] S1x256x128.size inb_S1x256x1024_S1x256x128_0_0_768
abbrev rq7 : Rect S1x256x1024 := Rect.unit (s := S1x256x1024) ![0, 0, 896] S1x256x128.size inb_S1x256x1024_S1x256x128_0_0_896
abbrev rk0 : Rect S1x256x512 := Rect.unit (s := S1x256x512) ![0, 0, 0] S1x256x128.size inb_S1x256x512_S1x256x128_0_0_0
abbrev rk1 : Rect S1x256x512 := Rect.unit (s := S1x256x512) ![0, 0, 128] S1x256x128.size inb_S1x256x512_S1x256x128_0_0_128
abbrev rk2 : Rect S1x256x512 := Rect.unit (s := S1x256x512) ![0, 0, 256] S1x256x128.size inb_S1x256x512_S1x256x128_0_0_256
abbrev rk3 : Rect S1x256x512 := Rect.unit (s := S1x256x512) ![0, 0, 384] S1x256x128.size inb_S1x256x512_S1x256x128_0_0_384
abbrev rt : Rect S256x128 := Rect.unit (s := S256x128) ![0, 0] S256x128.size inb_S256x128_S256x128_0_0
abbrev rg : Rect S1x128 := Rect.unit (s := S1x128) ![0, 0] S1x128.size inb_S1x128_S1x128_0_0

/-! ## What it leaves -/

/-- Two query heads, normalised, rotated and scaled, from their 128 lanes `x`. -/
def queries (x : Vec F S1x256x128 .f32) (cos sin : Vec F S256x128 .f32) (g : Vec F S1x128 .f32) : FVec F S256x128 .f32 :=
  scaled (rotated (normed x g) (k0_pay7 cos) (k0_pay8 sin))
/-- The two key heads, normalised and rotated. -/
def keys (x : Vec F S1x256x128 .f32) (cos sin : Vec F S256x128 .f32) (g : Vec F S1x128 .f32) : FVec F S256x128 .f32 :=
  rotated (normed x g) (k0_pay7 cos) (k0_pay8 sin)

/-- The queries' tile after the body: eight heads, 128 lanes each. -/
def qOut (x0 : Vec F S1x256x768 .f32) (x1 x2 : Vec F S256x128 .f32) (x3 x4 x5 : Vec F S1x128 .f32) : Vec F S1x256x1024 .bf16 :=
  View.canon [
    ⟨rq7, headHi (queries (View.ld x0 ru3) (View.ld x1 rt) (View.ld x2 rt) (View.ld x3 rg)) (fillQ (View.ld x5 rg))⟩,
    ⟨rq6, headLo (queries (View.ld x0 ru3) (View.ld x1 rt) (View.ld x2 rt) (View.ld x3 rg)) (fillQ (View.ld x5 rg))⟩,
    ⟨rq5, headHi (queries (View.ld x0 ru2) (View.ld x1 rt) (View.ld x2 rt) (View.ld x3 rg)) (fillQ (View.ld x5 rg))⟩,
    ⟨rq4, headLo (queries (View.ld x0 ru2) (View.ld x1 rt) (View.ld x2 rt) (View.ld x3 rg)) (fillQ (View.ld x5 rg))⟩,
    ⟨rq3, headHi (queries (View.ld x0 ru1) (View.ld x1 rt) (View.ld x2 rt) (View.ld x3 rg)) (fillQ (View.ld x5 rg))⟩,
    ⟨rq2, headLo (queries (View.ld x0 ru1) (View.ld x1 rt) (View.ld x2 rt) (View.ld x3 rg)) (fillQ (View.ld x5 rg))⟩,
    ⟨rq1, headHi (queries (View.ld x0 ru0) (View.ld x1 rt) (View.ld x2 rt) (View.ld x3 rg)) (fillQ (View.ld x5 rg))⟩,
    ⟨rq0, headLo (queries (View.ld x0 ru0) (View.ld x1 rt) (View.ld x2 rt) (View.ld x3 rg)) (fillQ (View.ld x5 rg))⟩]

/-- The keys' and values' tile after the body: two key heads, then two value heads. -/
def kvOut (x0 : Vec F S1x256x768 .f32) (x1 x2 : Vec F S256x128 .f32) (x3 x4 x5 : Vec F S1x128 .f32) : Vec F S1x256x512 .bf16 :=
  View.canon [
    ⟨rk3, headHi (k0_pay49 (View.ld x0 ru5)) fillOne⟩,
    ⟨rk2, headLo (k0_pay49 (View.ld x0 ru5)) fillOne⟩,
    ⟨rk1, headHi (keys (View.ld x0 ru4) (View.ld x1 rt) (View.ld x2 rt) (View.ld x4 rg)) fillOne⟩,
    ⟨rk0, headLo (keys (View.ld x0 ru4) (View.ld x1 rt) (View.ld x2 rt) (View.ld x4 rg)) fillOne⟩]

/-- Eight pieces of 128 lanes tile the queries' tile, -/
theorem cover_q (p0 p1 p2 p3 p4 p5 p6 p7 : Vec F S1x256x128 .bf16) (y : S1x256x1024.Idx) :
    ∃ pc ∈ ([⟨rq7, p7⟩, ⟨rq6, p6⟩, ⟨rq5, p5⟩, ⟨rq4, p4⟩, ⟨rq3, p3⟩, ⟨rq2, p2⟩, ⟨rq1, p1⟩, ⟨rq0, p0⟩] : List (View.Piece (Elt F) S1x256x1024 .bf16)), y ∈ pc.1.set :=
  View.cover_of_tiled [⟨rq7, p7⟩, ⟨rq6, p6⟩, ⟨rq5, p5⟩, ⟨rq4, p4⟩, ⟨rq3, p3⟩, ⟨rq2, p2⟩, ⟨rq1, p1⟩, ⟨rq0, p0⟩] S1x256x128.size (by rfl) y
/-- and four the keys' and values'. -/
theorem cover_kv (p0 p1 p2 p3 : Vec F S1x256x128 .bf16) (y : S1x256x512.Idx) :
    ∃ pc ∈ ([⟨rk3, p3⟩, ⟨rk2, p2⟩, ⟨rk1, p1⟩, ⟨rk0, p0⟩] : List (View.Piece (Elt F) S1x256x512 .bf16)), y ∈ pc.1.set :=
  View.cover_of_tiled [⟨rk3, p3⟩, ⟨rk2, p2⟩, ⟨rk1, p1⟩, ⟨rk0, p0⟩] S1x256x128.size (by rfl) y

/-! ## The run -/

set_option maxHeartbeats 2000000 in
/-- The body on whole staging buffers, the six inputs at `x0` … `x5` and the results' at anything, runs to the continuation
    holding the inputs as they were and the results at `qOut` and `kvOut`. -/
theorem sound_prep (c : Dev nD) (E : Set ℕ) (i : grid0.Coords) (arg2 : Memref sig .tc .vmem S1x256x768 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256x1024 .bf16) (harg8 : arg8.IsWhole) (arg9 : Memref sig .tc .vmem S1x256x512 .bf16) (harg9 : arg9.IsWhole)
    (x0 : Vec F S1x256x768 .f32) (x1 x2 : Vec F S256x128 .f32) (x3 x4 x5 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (qOut x0 x1 x2 x3 x4 x5) ∗ owns (c : Thread nD τ) arg9 fullShare (kvOut x0 x1 x2 x3 x4 x5)) -∗ K ⟨⟩))
      ⊢ wp frame (wpE (defs₀ (F := F)) Variants.none c none) E
          (cc0_att_prep i arg2 harg2 arg3 harg3 arg4 harg4 arg5 harg5 arg6 harg6 arg7 harg7 arg8 harg8 arg9 harg9) K := by
  simp only [cc0_att_prep_eq_skeleton]; unfold cc0_att_prep_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_q _ _ _ _ _ _ _ _)).trans ?_
    rfl
  iexists _; isplitr
  swap; · iexact H7
  ipureintro
  refine (View.read_writes_eq_canon _ _ _ (cover_kv _ _ _ _)).trans ?_
  rfl

end Cert.Proof.Att

end
-- ==== Proof.Dats0.lean ====
/-
  The preparation's pipeline: its proof data over the contents `V` the region finds, and its body obligation.
-/
module

public import proofs.«01_k».proof.Proof.Gen.KernelIdeal.Skeleton
public import proofs.«01_k».proof.Proof.Prep
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (V : Dev nD → Valuation τ sig (Elt F))

/-- Window `w`'s block at point `t`, read off its array as the region finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The queries', -/
def q0At (c : Dev nD) (t : Fin cfg0.N) : Vec F S1x256x1024 .bf16 := qOut (block0 V c 0 t) (block0 V c 1 t) (block0 V c 2 t) (block0 V c 3 t) (block0 V c 4 t) (block0 V c 5 t)
/-- and the keys' and values' tile at point `t`. -/
def kv0At (c : Dev nD) (t : Fin cfg0.N) : Vec F S1x256x512 .bf16 := kvOut (block0 V c 0 t) (block0 V c 1 t) (block0 V c 2 t) (block0 V c 3 t) (block0 V c 4 t) (block0 V c 5 t)

/-- The proof data: each input's buffer at its block, the outputs' at the body's results, nothing owed, whole shares. -/
def dats0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => block0 V c 3 t
    | ⟨4, _⟩ => block0 V c 4 t
    | ⟨5, _⟩ => block0 V c 5 t
    | ⟨6, _⟩ => q0At V c t
    | ⟨7, _⟩ => kv0At V c t
  Φ _ := Pipeline.ΦA spec0 c
  q _ := fullShare
  owed _ := 0

theorem A0_eq (c : Dev nD) (w : Fin cfg0.W) : (dats0 V c).A w = V c (Pipeline.arrRef spec0 w) := by
  dsimp only [dats0]
theorem after0_0 (c : Dev nD) (t : Fin cfg0.N) : (dats0 V c).after 0 t = block0 V c 0 t := by dsimp only [dats0]
theorem after0_1 (c : Dev nD) (t : Fin cfg0.N) : (dats0 V c).after 1 t = block0 V c 1 t := by dsimp only [dats0]
theorem after0_2 (c : Dev nD) (t : Fin cfg0.N) : (dats0 V c).after 2 t = block0 V c 2 t := by dsimp only [dats0]
theorem after0_3 (c : Dev nD) (t : Fin cfg0.N) : (dats0 V c).after 3 t = block0 V c 3 t := by dsimp only [dats0]
theorem after0_4 (c : Dev nD) (t : Fin cfg0.N) : (dats0 V c).after 4 t = block0 V c 4 t := by dsimp only [dats0]
theorem after0_5 (c : Dev nD) (t : Fin cfg0.N) : (dats0 V c).after 5 t = block0 V c 5 t := by dsimp only [dats0]
theorem after0_6 (c : Dev nD) (t : Fin cfg0.N) : (dats0 V c).after 6 t = q0At V c t := by dsimp only [dats0]
theorem after0_7 (c : Dev nD) (t : Fin cfg0.N) : (dats0 V c).after 7 t = kv0At V c t := by dsimp only [dats0]

/-! Each input's buffer holds its block when the body runs, fetched there or not. -/
theorem before0_0 (c : Dev nD) (t : Fin cfg0.N) (d) : (dats0 V c).before 0 t d = block0 V c 0 t :=
  ((dats0 V c).before_in_eq_fetched 0 rfl (fun _ => rfl) (fun _ _ _ => rfl) (fun t => by rw [after0_0]; unfold Dat.blockOf block0; rw [A0_eq]; try rfl) t d).trans
    (by unfold Dat.fetched Dat.blockOf block0; rw [A0_eq]; try rfl)
theorem before0_1 (c : Dev nD) (t : Fin cfg0.N) (d) : (dats0 V c).before 1 t d = block0 V c 1 t :=
  ((dats0 V c).before_in_eq_fetched 1 rfl (fun _ => rfl) (fun _ _ _ => rfl) (fun t => by rw [after0_1]; unfold Dat.blockOf block0; rw [A0_eq]; try rfl) t d).trans
    (by unfold Dat.fetched Dat.blockOf block0; rw [A0_eq]; try rfl)
theorem before0_2 (c : Dev nD) (t : Fin cfg0.N) (d) : (dats0 V c).before 2 t d = block0 V c 2 t :=
  ((dats0 V c).before_in_eq_fetched 2 rfl (fun _ => rfl) (fun _ _ _ => rfl) (fun t => by rw [after0_2]; unfold Dat.blockOf block0; rw [A0_eq]; try rfl) t d).trans
    (by unfold Dat.fetched Dat.blockOf block0; rw [A0_eq]; try rfl)
theorem before0_3 (c : Dev nD) (t : Fin cfg0.N) (d) : (dats0 V c).before 3 t d = block0 V c 3 t :=
  ((dats0 V c).before_in_eq_fetched 3 rfl (fun _ => rfl) (fun _ _ _ => rfl) (fun t => by rw [after0_3]; unfold Dat.blockOf block0; rw [A0_eq]; try rfl) t d).trans
    (by unfold Dat.fetched Dat.blockOf block0; rw [A0_eq]; try rfl)
theorem before0_4 (c : Dev nD) (t : Fin cfg0.N) (d) : (dats0 V c).before 4 t d = block0 V c 4 t :=
  ((dats0 V c).before_in_eq_fetched 4 rfl (fun _ => rfl) (fun _ _ _ => rfl) (fun t => by rw [after0_4]; unfold Dat.blockOf block0; rw [A0_eq]; try rfl) t d).trans
    (by unfold Dat.fetched Dat.blockOf block0; rw [A0_eq]; try rfl)
theorem before0_5 (c : Dev nD) (t : Fin cfg0.N) (d) : (dats0 V c).before 5 t d = block0 V c 5 t :=
  ((dats0 V c).before_in_eq_fetched 5 rfl (fun _ => rfl) (fun _ _ _ => rfl) (fun t => by rw [after0_5]; unfold Dat.blockOf block0; rw [A0_eq]; try rfl) t d).trans
    (by unfold Dat.fetched Dat.blockOf block0; rw [A0_eq]; try rfl)

/-! ## The body obligation -/

/-- What the body is called with at point `t`, -/
def pre0 (c : Dev nD) (t : Fin cfg0.N) : sProp 𝕄 :=
  iprop((dats0 V c).Φ t.castSucc ∗ (dats0 V c).owesAt () t.castSucc
    ∗ (∃ d, owns (c : Thread nD τ) (st0_0 t) fullShare ((dats0 V c).before 0 t d))
    ∗ (∃ d, owns (c : Thread nD τ) (st0_1 t) fullShare ((dats0 V c).before 1 t d))
    ∗ (∃ d, owns (c : Thread nD τ) (st0_2 t) fullShare ((dats0 V c).before 2 t d))
    ∗ (∃ d, owns (c : Thread nD τ) (st0_3 t) fullShare ((dats0 V c).before 3 t d))
    ∗ (∃ d, owns (c : Thread nD τ) (st0_4 t) fullShare ((dats0 V c).before 4 t d))
    ∗ (∃ d, owns (c : Thread nD τ) (st0_5 t) fullShare ((dats0 V c).before 5 t d))
    ∗ (∃ d, owns (c : Thread nD τ) (st0_6 t) fullShare ((dats0 V c).before 6 t d))
    ∗ (∃ d, owns (c : Thread nD τ) (st0_7 t) fullShare ((dats0 V c).before 7 t d)))
/-- and what it returns. -/
def post0 (c : Dev nD) (t : Fin cfg0.N) : sProp 𝕄 :=
  iprop((dats0 V c).Φ t.succ ∗ (dats0 V c).owesAt () t.succ
    ∗ owns (c : Thread nD τ) (st0_0 t) fullShare ((dats0 V c).after 0 t)
    ∗ owns (c : Thread nD τ) (st0_1 t) fullShare ((dats0 V c).after 1 t)
    ∗ owns (c : Thread nD τ) (st0_2 t) fullShare ((dats0 V c).after 2 t)
    ∗ owns (c : Thread nD τ) (st0_3 t) fullShare ((dats0 V c).after 3 t)
    ∗ owns (c : Thread nD τ) (st0_4 t) fullShare ((dats0 V c).after 4 t)
    ∗ owns (c : Thread nD τ) (st0_5 t) fullShare ((dats0 V c).after 5 t)
    ∗ owns (c : Thread nD τ) (st0_6 t) fullShare ((dats0 V c).after 6 t)
    ∗ owns (c : Thread nD τ) (st0_7 t) fullShare ((dats0 V c).after 7 t))

theorem sound_body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dats0 V c).Φ t.succ = (dats0 V c).Φ t.castSucc from rfl,
    show (dats0 V c).owesAt () t.succ = (dats0 V c).owesAt () t.castSucc from rfl,
    after0_0, after0_1, after0_2, after0_3, after0_4, after0_5, after0_6, after0_7]
  unfold q0At kv0At
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_prep c Set.univ (grid0.coords t) _ _ _ _ _ _ _ _ _ _ _ _ _ _ _ _ (block0 V c 0 t) (block0 V c 1 t) (block0 V c 2 t) (block0 V c 3 t) (block0 V c 4 t) (block0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row0 (t : Fin cfg0.N) : defs₀ (F := F) .tc cfg0.body (cfg0.bodyArgs t (cfg0.slots t)) = bodyAt0 t := by
  unfold defs₀; rw [Defs.onTc_tc]

/-- The body obligation, at every point. -/
theorem body0 (c : Dev nD) : BodyObligation (dats0 V c) (defs₀ (F := F)) Variants.none () Set.univ := fun t => by
  rw [bigSep_W0, bigSep_W0, row0]
  exact triple_restated (sound_body0 V c t) rfl .rfl fun _ => .rfl

end Cert.Proof.Att

end
-- ==== Proof.FlagTable.lean ====
/-
  The one-word table the attention kernel prefetches: whether the scores are known to be bounded.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The flag the kernel prefetches, as the body is handed it. -/
abbrev flagMem : Memref sig .tc .smem S1 .i32 := Memref.whole main_v69

/-- The word of the flag table that the body branches on. -/
abbrev flagWord (T : S1.Idx → Elt F .i32) : BitVec 32 :=
  View.readAt (Elt F) flagMem.view (Rect.unit (s := S1) ![0] S1.size inb_S1_S1_0).toLoadRect T
    (Shape.Idx.first (numel1_S1.symm ▸ Nat.one_pos))

end Cert.Proof.Att

end
-- ==== Proof.Tiles.lean ====
/-
  The attention kernel's vector functions on one tile of 128 queries: the scores of a group of four heads against 256 keys,
  the running maximum, one step of the weighted sum, the final division, and the three paths' results as pieces of the tile.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-! ## One group of four heads -/

/-- The four query heads of a group, 128 rows each, one below the other. -/
def groupRows (a b c d : Vec F S1x128x128 .bf16) : FVec F S512x128 .bf16 :=
  concatenate S512x128 0 [⟨S128x128, shapeCast S128x128 a shapeCasts_S1x128x128_S128x128⟩, ⟨S128x128, shapeCast S128x128 b shapeCasts_S1x128x128_S128x128⟩,
    ⟨S128x128, shapeCast S128x128 c shapeCasts_S1x128x128_S128x128⟩, ⟨S128x128, shapeCast S128x128 d shapeCasts_S1x128x128_S128x128⟩]
    concatenates_S128x128_S128x128_S128x128_S128x128_S512x128_d0

/-- The scores against one tile of 256 keys. -/
def scores (q : FVec F S512x128 .bf16) (k : Vec F S1x256x128 .bf16) : FVec F S512x256 .f32 :=
  matmul dot_S512x128_S256x128_S512x256_1_1_0_0_n_n none q (shapeCast S256x128 k shapeCasts_S1x256x128_S256x128) (constant S512x256 .f32 0x00000000#32)

/-- The accumulator with the values weighted by the powers of two of `s` added. -/
def addValues (acc : FVec F S512x128 .f32) (s : FVec F S512x256 .f32) (v : Vec F S1x256x128 .bf16) : FVec F S512x128 .f32 :=
  addf acc (matmul dot_S512x256_S256x128_S512x128_1_0_0_1_n_n none (truncf .bf16 (exp2 s) bitsLt_bf16_f32)
    (shapeCast S256x128 v shapeCasts_S1x256x128_S256x128) (constant S512x128 .f32 0x00000000#32))

/-- The lane maximum after one tile of keys. -/
def maxStep (q : FVec F S512x128 .bf16) (m : FVec F S512x128 .f32) (k : Vec F S1x256x128 .bf16) : FVec F S512x128 .f32 :=
  maximumf (maximumf m (extractStridedSlice S512x128 ![0, 0] (scores q k) slices_S512x256_o0_0_S512x128))
    (extractStridedSlice S512x128 ![0, 128] (scores q k) slices_S512x256_o0_128_S512x128)

/-- The maximum of each row's lanes. -/
def rowMax (m : FVec F S512x128 .f32) : FVec F S512x1 .f32 :=
  shapeCast S512x1 (multiReduction .maximumf [1] S512 m 0xFF800000#32 reduces_S512x128_S512 (.inl rfl) rfl) shapeCasts_S512_S512x1

/-- One step without a maximum, -/
def stepBounded (q : FVec F S512x128 .bf16) (acc : FVec F S512x128 .f32) (k v : Vec F S1x256x128 .bf16) : FVec F S512x128 .f32 :=
  addValues acc (scores q k) v
/-- and with the row's maximum taken off the scores. -/
def stepFree (q : FVec F S512x128 .bf16) (m : FVec F S512x1 .f32) (acc : FVec F S512x128 .f32) (k v : Vec F S1x256x128 .bf16) : FVec F S512x128 .f32 :=
  addValues acc (subf (scores q k) (broadcastTo S512x256 m broadcasts_S512x1_S512x256)) v

/-- The accumulator's first 64 lanes over its lane 64. -/
def quotient (acc : FVec F S512x128 .f32) : FVec F S512x64 .f32 :=
  divf (extractStridedSlice S512x64 ![0, 0] acc slices_S512x128_o0_0_S512x64)
    (broadcastTo S512x64 (extractStridedSlice S512x1 ![0, 64] acc slices_S512x128_o0_64_S512x1) broadcasts_S512x1_S512x64)

/-- The accumulator at the start, -/
def acc0 : FVec F S512x128 .f32 := broadcast S512x128 (Scalar.ofBits .f32 0x00000000#32 : F .f32)
/-- and the maximum. -/
def max0 : FVec F S512x128 .f32 := broadcast S512x128 (Scalar.ofBits .f32 0xFF800000#32 : F .f32)

/-! ## The tiles of keys and values -/

/-- Tile `c`'s 256 rows of lanes `128 j` onwards. -/
abbrev kvRect (c : Fin 17) (j : Fin 4) : Rect S1x4352x512 :=
  Rect.unit (s := S1x4352x512) ![0, 256 * c.val, 128 * j.val] S1x256x128.size (by
    intro a; have := c.isLt; have := j.isLt
    fin_cases a <;> simp [S1x4352x512, S1x256x128] <;> omega)

/-- The tile's keys (`j` = 0, 1) or values (`j` = 2, 3). -/
abbrev kvTile (x1 : Vec F S1x4352x512 .bf16) (c : Fin 17) (j : Fin 4) : Vec F S1x256x128 .bf16 := View.ld x1 (kvRect c j)

/-- All the tiles, in order. -/
abbrev allTiles : List (Fin 17) := [0, 1, 2, 3, 4, 5, 6, 7, 8, 9, 10, 11, 12, 13, 14, 15, 16]

/-- A group's result over the tiles `cs` of keys `jk` and values `jv`, without a maximum, -/
def groupBounded (q : FVec F S512x128 .bf16) (x1 : Vec F S1x4352x512 .bf16) (jk jv : Fin 4) (cs : List (Fin 17)) : FVec F S512x64 .f32 :=
  quotient (cs.foldl (fun acc c => stepBounded q acc (kvTile x1 c jk) (kvTile x1 c jv)) acc0)
/-- and with it. -/
def groupFree (q : FVec F S512x128 .bf16) (x1 : Vec F S1x4352x512 .bf16) (jk jv : Fin 4) (cs : List (Fin 17)) : FVec F S512x64 .f32 :=
  let m := rowMax (cs.foldl (fun m c => maxStep q m (kvTile x1 c jk)) max0)
  quotient (cs.foldl (fun acc c => stepFree q m acc (kvTile x1 c jk) (kvTile x1 c jv)) acc0)

/-- The queries' lanes `128 j` onwards. -/
abbrev qRect (j : Fin 8) : Rect S1x128x1024 :=
  Rect.unit (s := S1x128x1024) ![0, 0, 128 * j.val] S1x128x128.size (by
    intro a; have := j.isLt
    fin_cases a <;> simp [S1x128x1024, S1x128x128] <;> omega)

/-- The first group's queries and the second's. -/
def group0 (x0 : Vec F S1x128x1024 .bf16) : FVec F S512x128 .bf16 :=
  groupRows (View.ld x0 (qRect 0)) (View.ld x0 (qRect 1)) (View.ld x0 (qRect 2)) (View.ld x0 (qRect 3))
def group1 (x0 : Vec F S1x128x1024 .bf16) : FVec F S512x128 .bf16 :=
  groupRows (View.ld x0 (qRect 4)) (View.ld x0 (qRect 5)) (View.ld x0 (qRect 6)) (View.ld x0 (qRect 7))

/-- The result's lanes `64 j` onwards. -/
abbrev oRect (j : Fin 8) : Rect S1x128x512 :=
  Rect.unit (s := S1x128x512) ![0, 0, 64 * j.val] S1x128x64.size (by
    intro a; have := j.isLt
    fin_cases a <;> simp [S1x128x512, S1x128x64] <;> omega)

/-- Head 0 of a group's result, as it is stored. -/
def head0 (o : FVec F S512x64 .f32) : FVec F S1x128x64 .bf16 :=
  shapeCast S1x128x64 (truncf .bf16 (extractStridedSlice S128x64 ![0, 0] o slices_S512x64_o0_0_S128x64) bitsLt_bf16_f32) shapeCasts_S128x64_S1x128x64
/-- Head 1 of a group's result, as it is stored. -/
def head1 (o : FVec F S512x64 .f32) : FVec F S1x128x64 .bf16 :=
  shapeCast S1x128x64 (truncf .bf16 (extractStridedSlice S128x64 ![128, 0] o slices_S512x64_o128_0_S128x64) bitsLt_bf16_f32) shapeCasts_S128x64_S1x128x64
/-- Head 2 of a group's result, as it is stored. -/
def head2 (o : FVec F S512x64 .f32) : FVec F S1x128x64 .bf16 :=
  shapeCast S1x128x64 (truncf .bf16 (extractStridedSlice S128x64 ![256, 0] o slices_S512x64_o256_0_S128x64) bitsLt_bf16_f32) shapeCasts_S128x64_S1x128x64
/-- Head 3 of a group's result, as it is stored. -/
def head3 (o : FVec F S512x64 .f32) : FVec F S1x128x64 .bf16 :=
  shapeCast S1x128x64 (truncf .bf16 (extractStridedSlice S128x64 ![384, 0] o slices_S512x64_o384_0_S128x64) bitsLt_bf16_f32) shapeCasts_S128x64_S1x128x64

/-- A result tile from its two groups, last stored first. -/
def pieces (a b : FVec F S512x64 .f32) : List (View.Piece (Elt F) S1x128x512 .bf16) :=
  [⟨oRect 7, head3 b⟩, ⟨oRect 6, head2 b⟩, ⟨oRect 5, head1 b⟩, ⟨oRect 4, head0 b⟩,
   ⟨oRect 3, head3 a⟩, ⟨oRect 2, head2 a⟩, ⟨oRect 1, head1 a⟩, ⟨oRect 0, head0 a⟩]

/-- The result tile made of the pieces, -/
def tile (a b : FVec F S512x64 .f32) : Vec F S1x128x512 .bf16 := View.canon (pieces a b)
/-- which tile it. -/
theorem cover_pieces (a b : FVec F S512x64 .f32) (y : S1x128x512.Idx) : ∃ pc ∈ pieces a b, y ∈ pc.1.set :=
  View.cover_of_tiled (pieces a b) S1x128x64.size (by rfl) y

/-- The three paths' result tiles. -/
def tileCtx (x0 : Vec F S1x128x1024 .bf16) (x1 : Vec F S1x4352x512 .bf16) : Vec F S1x128x512 .bf16 :=
  tile (groupFree (group0 x0) x1 0 2 [0]) (groupFree (group1 x0) x1 1 3 [0])
def tileBounded (x0 : Vec F S1x128x1024 .bf16) (x1 : Vec F S1x4352x512 .bf16) : Vec F S1x128x512 .bf16 :=
  tile (groupBounded (group0 x0) x1 0 2 allTiles) (groupBounded (group1 x0) x1 1 3 allTiles)
def tileFree (x0 : Vec F S1x128x1024 .bf16) (x1 : Vec F S1x4352x512 .bf16) : Vec F S1x128x512 .bf16 :=
  tile (groupFree (group0 x0) x1 0 2 allTiles) (groupFree (group1 x0) x1 1 3 allTiles)

end Cert.Proof.Att

end
-- ==== Proof.RunCtx.lean ====
/-
  The attention kernel's body on one query tile, on the context rows, whose softmax runs over the context keys alone: run once on whole staging buffers, for any float values.
-/
module

public import proofs.«01_k».proof.Proof.Gen.KernelIdeal.Skeleton
public import proofs.«01_k».proof.Proof.FlagTable
public import proofs.«01_k».proof.Proof.Tiles
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 4000000 in
/-- The body on the context rows, whose softmax runs over the context keys alone: from the query tile `x0`, the keys and values `x1`, the flag `T` and any result buffer
    it runs to the continuation holding the inputs as they were and the result at `tileCtx`. -/
theorem soundCtx (c : Dev nD) (E : Set ℕ) (i : grid1.Coords) (arg3 : Memref sig .tc .vmem S1x128x1024 .bf16) (harg3 : arg3.IsWhole)
    (arg4 : Memref sig .tc .vmem S1x4352x512 .bf16) (harg4 : arg4.IsWhole)
    (arg5 : Memref sig .tc .vmem S1x128x512 .bf16) (harg5 : arg5.IsWhole) (T : S1.Idx → Elt F .i32)
    (x0 : S1x128x1024.Idx → Elt F .bf16) (x1 : S1x4352x512.Idx → Elt F .bf16)
    (h1 : k1_cond1 i = 1#1) (h2 : ¬(k1_cond2 i (flagWord T) = 1#1)) (h3 : ¬(k1_cond3 i (flagWord T) = 1#1)) (K : PUnit → sProp 𝕄) :
    iprop(owns (c : Thread nD τ) arg3 fullShare x0 ∗ owns (c : Thread nD τ) arg4 fullShare x1
        ∗ (flagMem.view.loc (c : Thread nD τ) ↦{fullShare} T)
        ∗ (∃ d, owns (c : Thread nD τ) arg5 fullShare d)
        ∗ (iprop(owns (c : Thread nD τ) arg3 fullShare x0 ∗ owns (c : Thread nD τ) arg4 fullShare x1
            ∗ (flagMem.view.loc (c : Thread nD τ) ↦{fullShare} T)
            ∗ owns (c : Thread nD τ) arg5 fullShare (tileCtx x0 x1)) -∗ K ⟨⟩))
      ⊢ wp frame (wpE (defs₀ (F := F)) Variants.none c none) E
          (cc1_attention i flagMem (Memref.isWhole_whole _) arg3 harg3 arg4 harg4 arg5 harg5) K := by
  rw [cc1_attention_eq_skeleton]; unfold cc1_attention_skel
  unfold owns
  iintro ⟨⟨%f0, %hf0, H0⟩, ⟨%f1, %hf1, H1⟩, HT, ⟨%d2, %f2, -, HO⟩, Hk⟩
  subst hf0 hf1
  have hT : flagMem.IsWhole := Memref.isWhole_whole _
  sl_exec! (disch := first | (guard_target = k1_cond1 _ = _; exact h1) | (guard_target = ¬(k1_cond2 _ _ = _); exact h2) | (guard_target = ¬(k1_cond3 _ _ = _); exact h3))
  sl_step
  iapply Hk
  isplitl [H0]
  · iexists f0; isplitr; · ipureintro; rfl
    iexact H0
  isplitl [H1]
  · iexists f1; isplitr; · ipureintro; rfl
    iexact H1
  isplitl [HT]; · iexact HT
  iexists _; isplitr
  swap; · iexact HO
  ipureintro
  refine (View.read_writes_eq_canon _ _ (pieces (groupFree (group0 (View.read (Elt F) arg3.view f0)) (View.read (Elt F) arg4.view f1) 0 2 [0]) (groupFree (group1 (View.read (Elt F) arg3.view f0)) (View.read (Elt F) arg4.view f1) 1 3 [0])) (cover_pieces _ _)).trans ?_
  rfl

end Cert.Proof.Att

end
-- ==== Proof.RunBounded.lean ====
/-
  The attention kernel's body on one query tile, on the image rows when the flag says the scores are bounded: run once on whole staging buffers, for any float values.
-/
module

public import proofs.«01_k».proof.Proof.Gen.KernelIdeal.Skeleton
public import proofs.«01_k».proof.Proof.FlagTable
public import proofs.«01_k».proof.Proof.Tiles
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 4000000 in
/-- The body on the image rows when the flag says the scores are bounded: from the query tile `x0`, the keys and values `x1`, the flag `T` and any result buffer
    it runs to the continuation holding the inputs as they were and the result at `tileBounded`. -/
theorem soundBounded (c : Dev nD) (E : Set ℕ) (i : grid1.Coords) (arg3 : Memref sig .tc .vmem S1x128x1024 .bf16) (harg3 : arg3.IsWhole)
    (arg4 : Memref sig .tc .vmem S1x4352x512 .bf16) (harg4 : arg4.IsWhole)
    (arg5 : Memref sig .tc .vmem S1x128x512 .bf16) (harg5 : arg5.IsWhole) (T : S1.Idx → Elt F .i32)
    (x0 : S1x128x1024.Idx → Elt F .bf16) (x1 : S1x4352x512.Idx → Elt F .bf16)
    (h1 : ¬(k1_cond1 i = 1#1)) (h2 : k1_cond2 i (flagWord T) = 1#1) (h3 : ¬(k1_cond3 i (flagWord T) = 1#1)) (K : PUnit → sProp 𝕄) :
    iprop(owns (c : Thread nD τ) arg3 fullShare x0 ∗ owns (c : Thread nD τ) arg4 fullShare x1
        ∗ (flagMem.view.loc (c : Thread nD τ) ↦{fullShare} T)
        ∗ (∃ d, owns (c : Thread nD τ) arg5 fullShare d)
        ∗ (iprop(owns (c : Thread nD τ) arg3 fullShare x0 ∗ owns (c : Thread nD τ) arg4 fullShare x1
            ∗ (flagMem.view.loc (c : Thread nD τ) ↦{fullShare} T)
            ∗ owns (c : Thread nD τ) arg5 fullShare (tileBounded x0 x1)) -∗ K ⟨⟩))
      ⊢ wp frame (wpE (defs₀ (F := F)) Variants.none c none) E
          (cc1_attention i flagMem (Memref.isWhole_whole _) arg3 harg3 arg4 harg4 arg5 harg5) K := by
  rw [cc1_attention_eq_skeleton]; unfold cc1_attention_skel
  unfold owns
  iintro ⟨⟨%f0, %hf0, H0⟩, ⟨%f1, %hf1, H1⟩, HT, ⟨%d2, %f2, -, HO⟩, Hk⟩
  subst hf0 hf1
  have hT : flagMem.IsWhole := Memref.isWhole_whole _
  sl_exec! (disch := first | (guard_target = ¬(k1_cond1 _ = _); exact h1) | (guard_target = k1_cond2 _ _ = _; exact h2) | (guard_target = ¬(k1_cond3 _ _ = _); exact h3))
  sl_step
  iapply Hk
  isplitl [H0]
  · iexists f0; isplitr; · ipureintro; rfl
    iexact H0
  isplitl [H1]
  · iexists f1; isplitr; · ipureintro; rfl
    iexact H1
  isplitl [HT]; · iexact HT
  iexists _; isplitr
  swap; · iexact HO
  ipureintro
  refine (View.read_writes_eq_canon _ _ (pieces (groupBounded (group0 (View.read (Elt F) arg3.view f0)) (View.read (Elt F) arg4.view f1) 0 2 allTiles) (groupBounded (group1 (View.read (Elt F) arg3.view f0)) (View.read (Elt F) arg4.view f1) 1 3 allTiles)) (cover_pieces _ _)).trans ?_
  rfl

end Cert.Proof.Att

end
-- ==== Proof.RunFree.lean ====
/-
  The attention kernel's body on one query tile, on the image rows otherwise: run once on whole staging buffers, for any float values.
-/
module

public import proofs.«01_k».proof.Proof.Gen.KernelIdeal.Skeleton
public import proofs.«01_k».proof.Proof.FlagTable
public import proofs.«01_k».proof.Proof.Tiles
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 4000000 in
/-- The body on the image rows otherwise: from the query tile `x0`, the keys and values `x1`, the flag `T` and any result buffer
    it runs to the continuation holding the inputs as they were and the result at `tileFree`. -/
theorem soundFree (c : Dev nD) (E : Set ℕ) (i : grid1.Coords) (arg3 : Memref sig .tc .vmem S1x128x1024 .bf16) (harg3 : arg3.IsWhole)
    (arg4 : Memref sig .tc .vmem S1x4352x512 .bf16) (harg4 : arg4.IsWhole)
    (arg5 : Memref sig .tc .vmem S1x128x512 .bf16) (harg5 : arg5.IsWhole) (T : S1.Idx → Elt F .i32)
    (x0 : S1x128x1024.Idx → Elt F .bf16) (x1 : S1x4352x512.Idx → Elt F .bf16)
    (h1 : ¬(k1_cond1 i = 1#1)) (h2 : ¬(k1_cond2 i (flagWord T) = 1#1)) (h3 : k1_cond3 i (flagWord T) = 1#1) (K : PUnit → sProp 𝕄) :
    iprop(owns (c : Thread nD τ) arg3 fullShare x0 ∗ owns (c : Thread nD τ) arg4 fullShare x1
        ∗ (flagMem.view.loc (c : Thread nD τ) ↦{fullShare} T)
        ∗ (∃ d, owns (c : Thread nD τ) arg5 fullShare d)
        ∗ (iprop(owns (c : Thread nD τ) arg3 fullShare x0 ∗ owns (c : Thread nD τ) arg4 fullShare x1
            ∗ (flagMem.view.loc (c : Thread nD τ) ↦{fullShare} T)
            ∗ owns (c : Thread nD τ) arg5 fullShare (tileFree x0 x1)) -∗ K ⟨⟩))
      ⊢ wp frame (wpE (defs₀ (F := F)) Variants.none c none) E
          (cc1_attention i flagMem (Memref.isWhole_whole _) arg3 harg3 arg4 harg4 arg5 harg5) K := by
  rw [cc1_attention_eq_skeleton]; unfold cc1_attention_skel
  unfold owns
  iintro ⟨⟨%f0, %hf0, H0⟩, ⟨%f1, %hf1, H1⟩, HT, ⟨%d2, %f2, -, HO⟩, Hk⟩
  subst hf0 hf1
  have hT : flagMem.IsWhole := Memref.isWhole_whole _
  sl_exec! (disch := first | (guard_target = ¬(k1_cond1 _ = _); exact h1) | (guard_target = ¬(k1_cond2 _ _ = _); exact h2) | (guard_target = k1_cond3 _ _ = _; exact h3))
  sl_step
  iapply Hk
  isplitl [H0]
  · iexists f0; isplitr; · ipureintro; rfl
    iexact H0
  isplitl [H1]
  · iexists f1; isplitr; · ipureintro; rfl
    iexact H1
  isplitl [HT]; · iexact HT
  iexists _; isplitr
  swap; · iexact HO
  ipureintro
  refine (View.read_writes_eq_canon _ _ (pieces (groupFree (group0 (View.read (Elt F) arg3.view f0)) (View.read (Elt F) arg4.view f1) 0 2 allTiles) (groupFree (group1 (View.read (Elt F) arg3.view f0)) (View.read (Elt F) arg4.view f1) 1 3 allTiles)) (cover_pieces _ _)).trans ?_
  rfl

end Cert.Proof.Att

end
-- ==== Proof.Dats1.lean ====
/-
  The attention's pipeline: its proof data over the contents `V` the region finds and the flag `a`, and its body obligation.
-/
module

public import proofs.«01_k».proof.Proof.Gen.KernelIdeal.Skeleton
public import proofs.«01_k».proof.Proof.RunCtx
public import proofs.«01_k».proof.Proof.RunBounded
public import proofs.«01_k».proof.Proof.RunFree
public import proofs.«01_k».proof.Proof.Gen.KernelIdeal.Points
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## Which path runs -/

/-- The context rows take the first path and no other, -/
theorem cond_ctx (i : grid1.Coords) (w : BitVec 32) (h : k1_cond1 i = 1#1) : ¬(k1_cond2 i w = 1#1) ∧ ¬(k1_cond3 i w = 1#1) := by
  revert h; unfold k1_cond1 k1_cond2 k1_cond3; dsimp only
  generalize Scalar.cmpi .slt (BitVec.ofNat 32 (i 1).val) 2#32 = x
  generalize Scalar.cmpi .eq w 1#32 = y
  revert x y; decide
/-- the others the second -/
theorem cond_bounded (i : grid1.Coords) (w : BitVec 32) (h : k1_cond2 i w = 1#1) : ¬(k1_cond1 i = 1#1) ∧ ¬(k1_cond3 i w = 1#1) := by
  revert h; unfold k1_cond1 k1_cond2 k1_cond3; dsimp only
  generalize Scalar.cmpi .slt (BitVec.ofNat 32 (i 1).val) 2#32 = x
  generalize Scalar.cmpi .eq w 1#32 = y
  revert x y; decide
/-- or the third. -/
theorem cond_free (i : grid1.Coords) (w : BitVec 32) (h1 : ¬(k1_cond1 i = 1#1)) (h2 : ¬(k1_cond2 i w = 1#1)) : k1_cond3 i w = 1#1 := by
  revert h1 h2; unfold k1_cond1 k1_cond2 k1_cond3; dsimp only
  generalize Scalar.cmpi .slt (BitVec.ofNat 32 (i 1).val) 2#32 = x
  generalize Scalar.cmpi .eq w 1#32 = y
  revert x y; decide
/-- So every point stores its result. -/
theorem never_idle (pf : (pre1).Contents (Elt F)) (i : grid1.Coords) : idle1 pf 2 i = false := by
  show (!(k1_cond1 i == 1#1) && !(k1_cond2 i (pf.atD 0 ![0]) == 1#1) && !(k1_cond3 i (pf.atD 0 ![0]) == 1#1)) = false
  generalize pf.atD 0 ![0] = w
  unfold k1_cond1 k1_cond2 k1_cond3; dsimp only
  generalize Scalar.cmpi .slt (BitVec.ofNat 32 (i 1).val) 2#32 = x
  generalize Scalar.cmpi .eq w 1#32 = y
  revert x y; decide

/-- The result tile at grid point `i`, by the path it takes. -/
def tileAt (i : grid1.Coords) (T : S1.Idx → Elt F .i32) (x0 : Vec F S1x128x1024 .bf16) (x1 : Vec F S1x4352x512 .bf16) : Vec F S1x128x512 .bf16 :=
  if k1_cond1 i = 1#1 then tileCtx x0 x1 else if k1_cond2 i (flagWord T) = 1#1 then tileBounded x0 x1 else tileFree x0 x1

/-- The body on whole staging buffers: the result at `tileAt`, all else as it was. -/
theorem sound_att (c : Dev nD) (E : Set ℕ) (i : grid1.Coords) (arg3 : Memref sig .tc .vmem S1x128x1024 .bf16) (harg3 : arg3.IsWhole)
    (arg4 : Memref sig .tc .vmem S1x4352x512 .bf16) (harg4 : arg4.IsWhole)
    (arg5 : Memref sig .tc .vmem S1x128x512 .bf16) (harg5 : arg5.IsWhole) (T : S1.Idx → Elt F .i32)
    (x0 : S1x128x1024.Idx → Elt F .bf16) (x1 : S1x4352x512.Idx → Elt F .bf16) (K : PUnit → sProp 𝕄) :
    iprop(owns (c : Thread nD τ) arg3 fullShare x0 ∗ owns (c : Thread nD τ) arg4 fullShare x1
        ∗ (flagMem.view.loc (c : Thread nD τ) ↦{fullShare} T)
        ∗ (∃ d, owns (c : Thread nD τ) arg5 fullShare d)
        ∗ (iprop(owns (c : Thread nD τ) arg3 fullShare x0 ∗ owns (c : Thread nD τ) arg4 fullShare x1
            ∗ (flagMem.view.loc (c : Thread nD τ) ↦{fullShare} T)
            ∗ owns (c : Thread nD τ) arg5 fullShare (tileAt i T x0 x1)) -∗ K ⟨⟩))
      ⊢ wp frame (wpE (defs₀ (F := F)) Variants.none c none) E
          (cc1_attention i flagMem (Memref.isWhole_whole _) arg3 harg3 arg4 harg4 arg5 harg5) K := by
  unfold tileAt
  by_cases h1 : k1_cond1 i = 1#1
  · rw [if_pos h1]
    exact soundCtx c E i arg3 harg3 arg4 harg4 arg5 harg5 T x0 x1 h1 (cond_ctx i _ h1).1 (cond_ctx i _ h1).2 K
  rw [if_neg h1]
  by_cases h2 : k1_cond2 i (flagWord T) = 1#1
  · rw [if_pos h2]
    exact soundBounded c E i arg3 harg3 arg4 harg4 arg5 harg5 T x0 x1 h1 h2 (cond_bounded i _ h2).2 K
  rw [if_neg h2]
  exact soundFree c E i arg3 harg3 arg4 harg4 arg5 harg5 T x0 x1 h1 h2 (cond_free i _ h1 h2) K

/-! ## The proof data -/

variable (V : Dev nD → Valuation τ sig (Elt F)) (a : (pcfg1 (F := F)).Adm)

/-- Window `w`'s block at point `t`, read off its array as the region finds it. -/
def block1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The result's tile at point `t`. -/
def att1At (c : Dev nD) (t : Fin (cfg1 a).N) : Vec F S1x128x512 .bf16 :=
  tileAt ((cfg1 a).grid.coords t) (a.1 (0 : Fin 1)) (block1 V a c (0 : Fin 3) t) (block1 V a c (1 : Fin 3) t)

/-- The proof data: the inputs' buffers at their blocks, the output's at the body's result, the flag's table in the invariant. -/
def dats1 (c : Dev nD) : Dat τ (Elt F) Unit ℕ (UR sig nD τ) ℕ (cfg1 a) c where
  A w := V c (Pipeline.arrRef spec1 w)
  after w t := match w with
    | ⟨0, _⟩ => block1 V a c (0 : Fin 3) t
    | ⟨1, _⟩ => block1 V a c (1 : Fin 3) t
    | ⟨2, _⟩ => att1At V a c t
  Φ _ := iprop((flagMem.view.loc (c : Thread nD τ) ↦{fullShare} (a.1 (0 : Fin 1))) ∗ Pipeline.ΦA spec1 c)
  q _ := fullShare
  owed _ := 0

theorem A1_eq (c : Dev nD) (w : Fin (cfg1 a).W) : (dats1 V a c).A w = V c (Pipeline.arrRef spec1 w) := by
  dsimp only [dats1]
theorem after1_0 (c : Dev nD) (t : Fin (cfg1 a).N) : (dats1 V a c).after (0 : Fin 3) t = block1 V a c (0 : Fin 3) t := by dsimp only [dats1]
theorem after1_1 (c : Dev nD) (t : Fin (cfg1 a).N) : (dats1 V a c).after (1 : Fin 3) t = block1 V a c (1 : Fin 3) t := by dsimp only [dats1]
theorem after1_2 (c : Dev nD) (t : Fin (cfg1 a).N) : (dats1 V a c).after (2 : Fin 3) t = att1At V a c t := by dsimp only [dats1]

theorem before1_0 (c : Dev nD) (t : Fin (cfg1 a).N) (d) : (dats1 V a c).before (0 : Fin 3) t d = block1 V a c (0 : Fin 3) t :=
  ((dats1 V a c).before_in_eq_fetched (0 : Fin 3) rfl (fun _ => rfl) (fun _ _ _ => rfl) (fun t => by rw [after1_0]; unfold Dat.blockOf block1; rw [A1_eq]; try rfl) t d).trans
    (by unfold Dat.fetched Dat.blockOf block1; rw [A1_eq]; try rfl)
theorem before1_1 (c : Dev nD) (t : Fin (cfg1 a).N) (d) : (dats1 V a c).before (1 : Fin 3) t d = block1 V a c (1 : Fin 3) t :=
  ((dats1 V a c).before_in_eq_fetched (1 : Fin 3) rfl (fun _ => rfl) (fun _ _ _ => rfl) (fun t => by rw [after1_1]; unfold Dat.blockOf block1; rw [A1_eq]; try rfl) t d).trans
    (by unfold Dat.fetched Dat.blockOf block1; rw [A1_eq]; try rfl)

/-! ## The body obligation -/

/-- The current staging memref of each window at point `t`. -/
abbrev st1_0 (t : Fin (cfg1 a).N) := spec1_0.stage ((cfg1 a).slots t (0 : Fin 3))
abbrev st1_1 (t : Fin (cfg1 a).N) := spec1_1.stage ((cfg1 a).slots t (1 : Fin 3))
abbrev st1_2 (t : Fin (cfg1 a).N) := spec1_2.stage ((cfg1 a).slots t (2 : Fin 3))

/-- The body at point `t`, as the pipeline calls it. -/
abbrev bodyAt1 (t : Fin (cfg1 a).N) : Prog (TpuEff nD τ sig (Elt F) Λ₀ .tc) PUnit :=
  cc1_attention ((cfg1 a).grid.coords t) flagMem (Memref.isWhole_whole _) (st1_0 a t) (hstage1_0 (((cfg1 a).slots t (0 : Fin 3)).cast nbuf1_0))
    (st1_1 a t) (hstage1_1 (((cfg1 a).slots t (1 : Fin 3)).cast nbuf1_1)) (st1_2 a t) (hstage1_2 (((cfg1 a).slots t (2 : Fin 3)).cast nbuf1_2))

theorem sound_body1 (c : Dev nD) (t : Fin (cfg1 a).N) :
    iprop((dats1 V a c).Φ t.castSucc ∗ (dats1 V a c).owesAt () t.castSucc
        ∗ (∃ d, owns (c : Thread nD τ) (st1_0 a t) fullShare ((dats1 V a c).before (0 : Fin 3) t d))
        ∗ (∃ d, owns (c : Thread nD τ) (st1_1 a t) fullShare ((dats1 V a c).before (1 : Fin 3) t d))
        ∗ (∃ d, owns (c : Thread nD τ) (st1_2 a t) fullShare ((dats1 V a c).before (2 : Fin 3) t d)))
      ⊢ wp frame (wpE (defs₀ (F := F)) Variants.none c none) Set.univ (bodyAt1 a t) fun _ =>
          iprop((dats1 V a c).Φ t.succ ∗ (dats1 V a c).owesAt () t.succ
            ∗ bigSep Finset.univ fun w : Fin (cfg1 a).W =>
                match (cfg1 a).idle w ((cfg1 a).grid.coords t) with
                | true =>
                  match ((cfg1 a).win w).flush t with
                  | false => iprop(∃ d, owns (c : Thread nD τ) (((cfg1 a).win w).stage ((cfg1 a).slots t w)) fullShare ((dats1 V a c).before w t d))
                  | true => owns (c : Thread nD τ) (((cfg1 a).win w).stage ((cfg1 a).slots t w)) fullShare ((dats1 V a c).after w t)
                | false => owns (c : Thread nD τ) (((cfg1 a).win w).stage ((cfg1 a).slots t w)) fullShare ((dats1 V a c).after w t)) := by
  rw [bigSep_W1]
  rewrite [show (cfg1 a).idle (2 : Fin 3) ((cfg1 a).grid.coords t) = false from never_idle a.1 _]
  simp only [before1_0, before1_1, after1_0, after1_1, after1_2]
  rewrite [show (dats1 V a c).Φ t.succ = (dats1 V a c).Φ t.castSucc from rfl,
    show (dats1 V a c).Φ t.castSucc = iprop((flagMem.view.loc (c : Thread nD τ) ↦{fullShare} (a.1 (0 : Fin 1))) ∗ Pipeline.ΦA spec1 c) from rfl,
    show (dats1 V a c).owesAt () t.succ = (dats1 V a c).owesAt () t.castSucc from rfl]
  unfold att1At
  iintro ⟨⟨HT, HΦ⟩, Ho, ⟨%d0, H0⟩, ⟨%d1, H1⟩, ⟨%d2, H2⟩⟩
  iapply (sound_att c Set.univ ((cfg1 a).grid.coords t) (st1_0 a t) _ (st1_1 a t) _ (st1_2 a t) _ (a.1 (0 : Fin 1)) (block1 V a c (0 : Fin 3) t) (block1 V a c (1 : Fin 3) t) _)
  isplitl [H0]; · iexact H0
  isplitl [H1]; · iexact H1
  isplitl [HT]; · iexact HT
  isplitl [H2]; · iexists _; iexact H2
  iintro ⟨H0, H1, HT, H2⟩
  isplitl [HT HΦ]
  · isplitl [HT]
    · iexact HT
    · iexact HΦ
  isplitl [Ho]; · iexact Ho
  isplitl [H0]; · iexact H0
  isplitl [H1]; · iexact H1
  iexact H2

theorem row1 (t : Fin (cfg1 a).N) : defs₀ (F := F) .tc (cfg1 a).body ((cfg1 a).bodyArgs t ((cfg1 a).slots t)) = bodyAt1 a t := by
  unfold defs₀; rw [Defs.onTc_tc]

/-- The body obligation, at every point. -/
theorem body1 (c : Dev nD) : BodyObligation (dats1 V a c) (defs₀ (F := F)) Variants.none () Set.univ := fun t => by
  rw [bigSep_W1, row1]
  exact sound_body1 V a c t

end Cert.Proof.Att

end
-- ==== Proof.Launched.lean ====
/-
  The two launches: the proof data of both regions, chained through the host operations between them, and the run of the whole
  program for any float values: it terminates, leaves the arguments as they were and the result at what the second region leaves.
-/
module

public import proofs.«01_k».proof.Proof.Dats0
public import proofs.«01_k».proof.Proof.Dats1
public import proofs.«01_k».proof.Proof.Gen.KernelIdeal.Regions
public import Idealize.ShloMosaic.Lib.Pipeline.RegionArraysTS

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg LevelCut afterRegion)

variable {F : FTy → Type} [FloatOps F] [Named F]

local notation "𝕄" => MT nD τ sig Unit (Elt F) ℕ (UR sig nD τ) ℕ

variable (m : (ℓ : Loc nD τ sig) → Buf (Elt F) ℓ)

/-- What the first region leaves, -/
def outs0 : Outs (F := F) := fun _ r c => afterRegion (dats0 (V3 m) c) (V3 m c) (Proc.devRef .tc r)

/-- the contents the second finds, -/
def V5' (c : Dev nD) : Valuation τ sig (Elt F) := V5 m (outs0 m) c

/-- the flag among them, -/
def flag : (pcfg1 (F := F)).Adm := ⟨fun | 0 => V5' m 0 (Proc.devRef .tc main_v69) | ⟨_ + 1, h⟩ => absurd h (Nat.not_lt.2 (Nat.le_add_left _ _)), trivial⟩

/-- what both leave. -/
def outs : Outs (F := F)
  | 4 => outs0 m 4
  | _ => fun r c => afterRegion (dats1 (V5' m) (flag m) c) (V5' m c) (Proc.devRef .tc r)

theorem V5_eq (c : Dev nD) : V5 m (outs m) c = V5' m c := rfl

/-- The tables of both regions. -/
def adm : (p : Fin 2) → (pcfgs (F := F) p).Adm
  | ⟨0, _⟩ => cfg0.toPCfg_adm
  | ⟨1, _⟩ => flag m

/-- The proof data of both. -/
def pdats : (p : Fin 2) → (c : Dev nD) → Dat τ (Elt F) Unit ℕ (UR sig nD τ) ℕ (Pipeline.pin (pcfgs (F := F)) (adm m) p) c
  | ⟨0, _⟩ => dats0 (V3 m)
  | ⟨1, _⟩ => dats1 (V5' m) (flag m)

/-- Every staging semaphore of a core has a level, all the same one. -/
abbrev Lv (g : GSem nD τ sig) : Finset Unit := if g.1.2 = .tc then {()} else ∅
abbrev lev : GSem nD τ sig → Unit → ℕ := fun _ _ => 0

theorem cut (p : Fin 2) : LevelCut (pcfgs (F := F)) (adm m) () Lv lev p (fun _ => 0) (fun _ => 0) where
  hι c w s := by simp [Lv]
  hιb c w s := le_rfl
  hD c g i h := absurd h (by simp)

/-- What a core keeps between the items beside its buffers. -/
abbrev rest (c : Dev nD) : sProp 𝕄 := iprop((∃ W, owes (c : Thread nD τ) (0 : CellTallies nD τ sig Unit) W) ∗ (∃ r, prngReg c r) ∗ BI.emp)

/-- The first region's record. -/
def region0 : RegionSeg (pcfgs (F := F)) (adm m) (pdats m) () defs₀ Variants.none Lv lev 0 :=
  RegionSeg.ofHeldIn (pcfgs (F := F)) (adm m) (pdats m) () defs₀ Variants.none Lv lev 0 (fun _ => 0) (Pipeline.ucRefs τ sig)
    (fun c => iprop(∃ r, prngReg c r)) (fun c => iprop(∃ r, prngReg c r)) launch0 rfl
    (fun c => (body0 (V3 m) c).loose) (fun _ _ => rfl) (fun _ => rfl) (fun c => (dats0 (V3 m) c).share_full fun _ => rfl)
    (fun c => .rfl) (fun c => .rfl)
    (fun _ => 0) (cut m 0) (fun _ => BI.emp) (V3 m) (fun c w => A0_eq (V3 m) c w)

/-- The flag's table as the launch hands it over. -/
theorem tables_eq (c : Dev nD) :
    (Pipeline.prefHeld (Ix := Unit) (Name := ℕ) (U := UR sig nD τ) (Lvl := ℕ) pre1 c (fun _ => fullShare) (flag m).1 : sProp 𝕄)
      = iprop(flagMem.view.loc (c : Thread nD τ) ↦{fullShare} ((flag m).1 (0 : Fin 1))) := by
  unfold Pipeline.prefHeld
  rw [show (Finset.univ : Finset (Fin 1)) = {(0 : Fin 1)} from by decide, bigSep_singleton]
  rfl

/-- The second region's record. -/
def region1 : RegionSeg (pcfgs (F := F)) (adm m) (pdats m) () defs₀ Variants.none Lv lev 1 :=
  RegionSeg.ofHeldInT (pcfgs (F := F)) (adm m) (pdats m) () defs₀ Variants.none Lv lev 1 (fun _ => 0) (Pipeline.ucRefs τ sig)
    (fun c => iprop(∃ r, prngReg c r)) (fun c => iprop(∃ r, prngReg c r)) launch1
    (fun c => (body1 (V5' m) (flag m) c).loose) (fun _ _ => rfl) (fun _ => rfl) (fun c => (dats1 (V5' m) (flag m) c).share_full fun _ => rfl)
    (fun c => by
      show iprop(iprop(Pipeline.scopedRest spec1 c ∗ ∃ r, prngReg c r) ∗ Pipeline.prefHeld pre1 c (fun _ => fullShare) (flag m).1)
        ⊢ iprop((flagMem.view.loc (c : Thread nD τ) ↦{fullShare} ((flag m).1 (0 : Fin 1))) ∗ Pipeline.ΦA spec1 c)
      rw [tables_eq]; unfold Pipeline.ΦA
      iintro ⟨HA, HT⟩
      isplitl [HT]; · iexact HT
      iexact HA)
    (fun c => by
      show iprop((flagMem.view.loc (c : Thread nD τ) ↦{fullShare} ((flag m).1 (0 : Fin 1))) ∗ Pipeline.ΦA spec1 c)
        ⊢ iprop(iprop(Pipeline.scopedRest spec1 c ∗ ∃ r, prngReg c r) ∗ Pipeline.prefHeld pre1 c (fun _ => fullShare) (flag m).1)
      rw [tables_eq]; unfold Pipeline.ΦA
      iintro ⟨HT, HA⟩
      isplitl [HA]; · iexact HA
      iexact HT)
    (fun _ => 0) (cut m 1) (fun _ => BI.emp) (V5' m) (fun c w => A1_eq (V5' m) (flag m) c w)
    (fun c k => by
      rw [Subsingleton.elim c 0]
      match k with
      | ⟨0, _⟩ => rfl)

end Cert.Proof.Att

end
-- ==== Proof.Run.lean ====
/-
  The run of the whole program, for any float values: it terminates, every counter at zero, the arguments as they were and the
  result at what the second region leaves in it.
-/
module

public import proofs.«01_k».proof.Proof.Launched

@[expose] public section

set_option maxRecDepth 16384
set_option Elab.async false

noncomputable section

namespace Cert.Proof.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg LevelCut afterRegion)

variable {F : FTy → Type} [FloatOps F] [Named F]

local notation "𝕄" => MT nD τ sig Unit (Elt F) ℕ (UR sig nD τ) ℕ

variable (m : (ℓ : Loc nD τ sig) → Buf (Elt F) ℓ)

/-- A reference the first region may not change keeps its contents, -/
theorem keep0 (c : Dev nD) (r : Ref sig .tc) (h0 : r ≠ main_v67_0) (h1 : r ≠ main_v67_1) :
    afterRegion (dats0 (V3 m) c) (V3 m c) (Proc.devRef .tc r) = V3 m c (Proc.devRef .tc r) :=
  Pipeline.afterRegion_keeps (dats0 (V3 m) c) (V3 m c) winFacts0.arr_inj (fun w => A0_eq (V3 m) c w) r fun w e => by
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => exact absurd e.symm h0
    | ⟨7, _⟩ => exact absurd e.symm h1
/-- and one the second may not. -/
theorem keep1 (c : Dev nD) (r : Ref sig .tc) (h : r ≠ main_v70) :
    afterRegion (dats1 (V5' m) (flag m) c) (V5' m c) (Proc.devRef .tc r) = V5' m c (Proc.devRef .tc r) :=
  Pipeline.afterRegion_keeps (dats1 (V5' m) (flag m) c) (V5' m c) winFacts1.arr_inj (fun w => A1_eq (V5' m) (flag m) c w) r fun w e => by
    match w with
    | ⟨0, _⟩ => rfl
    | ⟨1, _⟩ => rfl
    | ⟨2, _⟩ => exact absurd e.symm h

/-- The buffers after the first region, -/
theorem held_after0 (c : Dev nD) :
    (StableHlo.held (c : Thread nD τ) (Pipeline.ucRefs τ sig) (afterRegion (dats0 (V3 m) c) (V3 m c)) : sProp 𝕄)
      = StableHlo.held (c : Thread nD τ) (Pipeline.ucRefs τ sig) (V4 m (outs m) c) :=
  StableHlo.held_congr (c : Thread nD τ) fun b hb => by
    obtain ⟨r, -, rfl⟩ := Finset.mem_map.mp (Finset.mem_filter.mp hb).1
    show afterRegion (dats0 (V3 m) c) (V3 m c) (Proc.devRef .tc r) = V4 m (outs m) c (Proc.devRef .tc r)
    by_cases h1 : r = main_v67_1
    · subst h1; simp only [V4]; rw [Function.update_self]; rfl
    by_cases h0 : r = main_v67_0
    · subst h0; simp only [V4]; rw [Function.update_of_ne (StableHlo.devRef_ne_of_ne h1), Function.update_self]; rfl
    exact (keep0 m c r h0 h1).trans ((Function.update_of_ne (StableHlo.devRef_ne_of_ne h1) _ _).trans (Function.update_of_ne (StableHlo.devRef_ne_of_ne h0) _ _)).symm

/-- and after the second. -/
theorem held_after1 (c : Dev nD) :
    (StableHlo.held (c : Thread nD τ) (Pipeline.ucRefs τ sig) (afterRegion (dats1 (V5' m) (flag m) c) (V5' m c)) : sProp 𝕄)
      = StableHlo.held (c : Thread nD τ) (Pipeline.ucRefs τ sig) (V6 m (outs m) c) :=
  StableHlo.held_congr (c : Thread nD τ) fun b hb => by
    obtain ⟨r, -, rfl⟩ := Finset.mem_map.mp (Finset.mem_filter.mp hb).1
    show afterRegion (dats1 (V5' m) (flag m) c) (V5' m c) (Proc.devRef .tc r) = V6 m (outs m) c (Proc.devRef .tc r)
    by_cases h1 : r = main_v70
    · subst h1; simp only [V6]; rw [Function.update_self]; rfl
    exact (keep1 m c r h1).trans (Function.update_of_ne (StableHlo.devRef_ne_of_ne h1) _ _).symm

/-- The result's array after the last write-back. -/
def result (c : Dev nD) : Buf (Elt F) ((c : Thread nD τ).loc main_v70) := (dats1 (V5' m) (flag m) c).arrAt (2 : Fin 3) (cfg1 (flag m)).N

theorem result_eq (c : Dev nD) : V6 m (outs m) c (Proc.devRef .tc main_v70) = result m c := by
  simp only [V6]; rw [Function.update_self]
  exact (Pipeline.afterRegion_arr (dats1 (V5' m) (flag m) c) (V5' m c) winFacts1.arr_inj (2 : Fin 3))

/-- The regions' arrays and the flag's table are among the buffers held between the items. -/
theorem arrays0 : Pipeline.arrRefs (τ := τ) (pcfgs (F := F) 0).spec ⊆ Pipeline.ucRefs τ sig := Pipeline.arrRefs_sub_ucRefs spec0 (by decide +kernel)
theorem arrays1 : Pipeline.arrRefs (τ := τ) (pcfgs (F := F) 1).spec ⊆ Pipeline.ucRefs τ sig := Pipeline.arrRefs_sub_ucRefs spec1 (by decide +kernel)
theorem table1 : Pipeline.tblRefs (τ := τ) (pcfgs (F := F) 1).pre ⊆ Pipeline.ucRefs τ sig := Pipeline.tblRefs_sub_ucRefs pre1 (by decide +kernel)

/-- Entering the first region, -/
theorem enter0 (c : Dev nD) :
    iprop(StableHlo.held (c : Thread nD τ) (Pipeline.ucRefs τ sig) (V3 m c) ∗ rest c) ⊢ (region0 m).pre c := by
  unfold region0
  exact RegionSeg.ofHeldIn_pre (p := 0) (X := fun c => iprop(∃ r, prngReg c r)) (R := fun _ => BI.emp) (W := V3 m) (D := fun _ => 0) (arrays0 (F := F)) c

/-- leaving it, -/
theorem leave0 (c : Dev nD) :
    (region0 m).post c ⊢ iprop(StableHlo.held (c : Thread nD τ) (Pipeline.ucRefs τ sig) (V4 m (outs m) c) ∗ rest c) := by
  rw [← held_after0]
  unfold region0
  exact RegionSeg.ofHeldIn_post (arrays0 (F := F)) c

/-- entering the second -/
theorem enter1 (c : Dev nD) :
    iprop(StableHlo.held (c : Thread nD τ) (Pipeline.ucRefs τ sig) (V5 m (outs m) c) ∗ rest c) ⊢ (region1 m).pre c := by
  rw [V5_eq]
  unfold region1
  exact RegionSeg.ofHeldInT_pre (p := 1) (X := fun c => iprop(∃ r, prngReg c r)) (R := fun _ => BI.emp) (W := V5' m) (D := fun _ => 0) (arrays1 (F := F)) (table1 (F := F)) c

/-- and leaving it. -/
theorem leave1 (c : Dev nD) :
    (region1 m).post c ⊢ iprop(StableHlo.held (c : Thread nD τ) (Pipeline.ucRefs τ sig) (V6 m (outs m) c) ∗ rest c) := by
  rw [← held_after1]
  unfold region1
  exact RegionSeg.ofHeldInT_post (arrays1 (F := F)) (table1 (F := F)) c

set_option backward.isDefEq.respectTransparency.types false in
/-- THE RUN. -/
theorem run_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v70) = result m c)
      ∧ r.2.sem = fun _ => 0) := by
  refine Pipeline.θ_run_regions_kit_dev_sems (pcfgs (F := F)) (adm m) (pdats m) () (cellOf_inj (adm m)) emb₁ defs₀ Variants.none Lv lev m ρ main
    (segs m (outs m) Variants.none Lv lev (fun _ => rest) () (adm m) (pdats m) (region0 m) (region1 m))
    (fun c Q => by
      rewrite [main_chain c, Seg.run_eq_chain,
        show (segs m (outs m) Variants.none Lv lev (fun _ => rest) () (adm m) (pdats m) (region0 m) (region1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g h => if_neg h) (fun _ => BI.emp)
    (initOf (Pipeline.cells (Pipeline.pin (pcfgs (F := F)) (adm m)) (cellOf_inj (adm m))) (Pipeline.launchToks (Pipeline.pin (pcfgs (F := F)) (adm m)) (cellOf_inj (adm m))))
    (by
      iintro Hu; imodintro
      isplitl [Hu]
      · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V6 m (outs m) c))
    (hch := fun c => ⟨.rfl, .rfl, .rfl, ?_, ?_, ?_, ?_⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_v70) = result m c)
    (hfin := fun c s' => ?_) (hQ := fun _ h hz => ⟨h, funext fun g => hz g (.inr (regions_no_unscoped g.2))⟩)
  · exact enter0 m c
  · exact leave0 m c
  · exact enter1 m c
  · exact (leave1 m c).trans (sep_mono .rfl (by iintro ⟨HO, -⟩; iexact HO))
  · refine Pipeline.initEach Lv lev fun c => ?_
    rw [show unscopedBufs c (fun b => m ((c.tc : Thread nD τ).loc b)) = (StableHlo.held (c : Thread nD τ) (Pipeline.ucRefs τ sig) (V0 m c) : sProp 𝕄) from Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_v70) (Finset.mem_filter.mpr ⟨StableHlo.devRef_mem_tcRefs main_v70, by decide⟩)).trans (result_eq m c)⟩
    · iexact HSI

end Cert.Proof.Att

end
-- ==== Proof.WordsFlagTable.lean ====
/-
  (The kernel as printed, its constant a literal: the text of FlagTable.lean over that program.)
  The one-word table the attention kernel prefetches: whether the scores are known to be bounded.
-/
module

public import proofs.«01_k».proof.Proof.Gen.Kernel.Skeleton
public import proofs.«01_k».proof.Proof.Gen.Kernel.Points
public import proofs.«01_k».proof.Proof.Gen.Kernel.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Proof.AttWords

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The flag the kernel prefetches, as the body is handed it. -/
abbrev flagMem : Memref sig .tc .smem S1 .i32 := Memref.whole main_v69

/-- The word of the flag table that the body branches on. -/
abbrev flagWord (T : S1.Idx → Elt F .i32) : BitVec 32 :=
  View.readAt (Elt F) flagMem.view (Rect.unit (s := S1) ![0] S1.size inb_S1_S1_0).toLoadRect T
    (Shape.Idx.first (numel1_S1.symm ▸ Nat.one_pos))

end Cert.Proof.AttWords

end
-- ==== Proof.Frames.lean ====
/-
  The frames: every program terminates, leaves its arguments as they were and every counter at zero. The kernel as printed and its
  idealization are one text but for the named constant, so their runs are one text.
-/
module

public import proofs.«01_k».proof.Defs
public import proofs.«01_k».proof.Proof.Run
public import proofs.«01_k».proof.Proof.WordsRun
public import proofs.«01_k».proof.Proof.Gen.Kernel
public import proofs.«01_k».proof.Proof.Gen.ReferenceIdeal
public import Idealize.ShloMosaic.Lib.Claim

@[expose] public section

set_option maxRecDepth 16384
set_option Elab.async false

noncomputable section

namespace Cert.Proof.Att

open Idealize.ShloMosaic Idealize.SL.Sem
open Idealize.ShloMosaic.TcCoe

theorem frame_ki : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

theorem preserves : Cert.preserves_Kernel_KernelIdeal :=
  IdealRules.named_const.statement Cert.KernelIdeal.κ "q_scale" .f32 0x3E38AA3B#32 (((1 / 8) * (Real.log 2)⁻¹ : ℝ) : EReal) rfl

theorem frame_k : Cert.quiescent_Kernel := fun m ρ _ =>
  (θ_run Cert.Kernel.defs _ _).mono (fun _ h => ⟨fun c => ⟨(h.1 c).1, (h.1 c).2.1, (h.1 c).2.2.1⟩, h.2⟩) (AttWords.run_main (F := Bits) m ρ)

end Cert.Proof.Att

end
-- ==== Proof.RefFrames.lean ====
/-
  The references' frames: host operations only.
-/
module

public import proofs.«01_k».proof.Defs
public import proofs.«01_k».proof.Proof.Gen.ReferenceIdeal
public import proofs.«01_k».proof.Proof.Gen.Reference2Ideal
public import Idealize.ShloMosaic.Lib.Claim
public import Idealize.ShloMosaic.Lib.Quiescent

@[expose] public section

set_option maxRecDepth 16384
set_option Elab.async false

noncomputable section

namespace Cert.Proof

open Idealize.ShloMosaic Idealize.SL.Sem
open Idealize.ShloMosaic.TcCoe

theorem frame_ri2 : Cert.quiescent_Reference2Ideal := fun m g _ =>
  θ_run_mono (show θ_run (Cert.Reference2Ideal.defs (F := Ideal)) (onTc (τ := Cert.Reference2Ideal.τ) (Cert.Reference2Ideal.main (F := Ideal))) ⟨m, fun _ => 0, g⟩ (fun r => ∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)) from by hlo_run)
    fun r h => ⟨h, sem_eq_zero_of_no_sems rfl _⟩

theorem frame_ri : Cert.quiescent_ReferenceIdeal := fun m g _ =>
  θ_run_mono (show θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) from by hlo_run)
    fun r h => ⟨h, sem_eq_zero_of_no_sems rfl _⟩

end Cert.Proof

end
-- ==== Proof.InProj.lean ====
/-
  The input projection. `proj` is its mathematics, one sum over the model's width for each row and column: the row normalised,
  scaled and shifted by the modulation of its kind (the first 256 rows are the context's), then contracted with the column of the
  weights that the layer's order of branches puts there. The arrays the region is entered with, read at an index.
-/
module

public import proofs.«01_k».proof.Proof.Gen.Kernel2Ideal.Frame
public import Idealize.ShloMosaic.Lib.Claim
public import Idealize.ShloMosaic.Lib.Pointwise
public import Idealize.ShloMosaic.Lib.Pipeline.Value
public import Idealize.ShloMosaic.Lib.Pipeline.ValueKit

@[expose] public section

set_option maxRecDepth 16384
set_option Elab.async false

noncomputable section

namespace Cert.Proof.InProj

open Cert.Kernel2Ideal Cert.Kernel2Ideal.Gen
open Idealize.ShloMosaic Idealize.ShloMosaic.TcCoe Idealize.SL.Sem
open Idealize.ShloMosaic.Pipeline (Dat Cfg Window)

/-- The column of the weights that lands at column `n` of the result. -/
def col (n : Fin 7680) : Fin 7680 :=
  if h : n.val < 1024 then ⟨2816 + n.val, by omega⟩
  else if h : n.val < 3072 then ⟨n.val - 256, by omega⟩
  else if h : n.val < 3840 then ⟨n.val - 3072, by omega⟩ else n

/-- One row before the projection: `r` normalised by its mean square, times `a`, plus `s`. -/
def modulated (r a s : Fin 1024 → EReal) (k : Fin 1024) : EReal :=
  r k * Ideal.rsqrt (Ideal.div (∑ k, r k * r k) (Ideal.ofBits .f32 0x44800000#32) + Ideal.ofBits .f32 0x358637BD#32) * a k + s k

variable (x : FVec Ideal S8x4096x1024 .f32) (ctx : FVec Ideal S8x256x1024 .f32) (sc1 sh1 : FVec Ideal S8x1024 .f32)
  (sc1c sh1c g : FVec Ideal S1024 .f32) (w : FVec Ideal S1024x7680 .f32)

/-- Row `t` of sample `b`: the context's first. -/
def row (b : Fin 8) (t : Fin 4352) (k : Fin 1024) : EReal :=
  if h : t.val < 256 then ctx (ix3 b ⟨t.val, h⟩ k) else x (ix3 b ⟨t.val - 256, by omega⟩ k)
/-- The gain and the modulation's scale of a row. -/
def gain (b : Fin 8) (t : Fin 4352) (k : Fin 1024) : EReal :=
  if t.val < 256 then g (ix1 k) * (1 + sc1c (ix1 k)) else g (ix1 k) * (1 + sc1 (ix2 b k))
/-- Its shift. -/
def shift (b : Fin 8) (t : Fin 4352) (k : Fin 1024) : EReal :=
  if t.val < 256 then sh1c (ix1 k) else sh1 (ix2 b k)

/-- The projection. -/
def proj (b : Fin 8) (t : Fin 4352) (n : Fin 7680) : EReal :=
  ∑ k : Fin 1024, modulated (row x ctx b t) (gain sc1 sc1c g b t) (shift sh1 sh1c b t) k * w (ix2 k (col n))

variable (m : (ℓ : Loc nD τ sig) → Buf (Elt Ideal) ℓ)

/-- The arguments, at their types. -/
abbrev xA (c : Dev nD) : FVec Ideal S8x4096x1024 .f32 := m ((c : Thread nD τ).loc main_arg0)
abbrev ctxA (c : Dev nD) : FVec Ideal S8x256x1024 .f32 := m ((c : Thread nD τ).loc main_arg1)
abbrev sc1A (c : Dev nD) : FVec Ideal S8x1024 .f32 := m ((c : Thread nD τ).loc main_arg2)
abbrev sh1A (c : Dev nD) : FVec Ideal S8x1024 .f32 := m ((c : Thread nD τ).loc main_arg3)
abbrev sc1cA (c : Dev nD) : FVec Ideal S1024 .f32 := m ((c : Thread nD τ).loc main_arg4)
abbrev sh1cA (c : Dev nD) : FVec Ideal S1024 .f32 := m ((c : Thread nD τ).loc main_arg5)
abbrev gA (c : Dev nD) : FVec Ideal S1024 .f32 := m ((c : Thread nD τ).loc main_arg6)
abbrev wA (c : Dev nD) : FVec Ideal S1024x7680 .f32 := m ((c : Thread nD τ).loc main_arg7)

theorem rows_at (c : Dev nD) (b : Fin 8) (t : Fin 4352) (k : Fin 1024) :
    (show FVec Ideal S8x4352x1024 .f32 from V m c main_v0) (ix3 b t k) = row (xA m c) (ctxA m c) b t k := by
  entry_read
  pointwise [row]

theorem gains_at (c : Dev nD) (p : Fin 16) (k : Fin 1024) :
    (show FVec Ideal S16x1x1024 .f32 from V m c main_v10) (ix3 p 0 k)
      = gA m c (ix1 k) * (1 + if h : p.val % 2 < 1 then sc1cA m c (ix1 k) else sc1A m c (ix2 ⟨p.val / 2, by omega⟩ k)) := by
  entry_read
  pointwise

theorem shifts_at (c : Dev nD) (p : Fin 16) (k : Fin 1024) :
    (show FVec Ideal S16x1x1024 .f32 from V m c main_v15) (ix3 p 0 k)
      = if h : p.val % 2 < 1 then sh1cA m c (ix1 k) else sh1A m c (ix2 ⟨p.val / 2, by omega⟩ k) := by
  entry_read
  pointwise

theorem weights_at (c : Dev nD) (n : Fin 7680) (k : Fin 1024) :
    (show FVec Ideal S1024x7680 .bf16 from V m c main_v16) (ix2 k n) = wA m c (ix2 k n) := by
  entry_read
  pointwise

/-- Where the windows' blocks sit at grid point `t`: sample `t / 17 % 8`, row tile `t % 17`, half `t / 136`. -/
theorem idx : ∀ t : Fin cfg0.N, win0_0.index t = ![t.val / 17 % 8, t.val % 17, 0]
    ∧ win0_1.index t = ![2 * (t.val / 17 % 8) + min (t.val % 17) 1, 0, 0] ∧ win0_2.index t = ![2 * (t.val / 17 % 8) + min (t.val % 17) 1, 0, 0]
    ∧ win0_3.index t = ![0, t.val / 136] ∧ win0_4.index t = ![t.val / 17 % 8, t.val % 17, t.val / 136] :=
  (by decide +kernel : ∀ t : Fin grid0.N, _)

/-- A block's rows after the modulation, over the blocks themselves. -/
theorem pay1_at (X : FVec Ideal S1x256x1024 .f32) (A B : FVec Ideal S1x1x1024 .f32) (y : Fin 256) (k : Fin 1024) :
    k0_pay1 (F := Ideal) X A B (ix2 y k) = modulated (fun k => X (ix3 0 y k)) (fun k => A (ix3 0 0 k)) (fun k => B (ix3 0 0 k)) k := by
  pointwise [k0_pay1, modulated]

end Cert.Proof.InProj

end
-- ==== Proof.InProjPoint.lean ====
/-
  The projection's region: what each grid point leaves in its block is the projection there, so the array ends at it.
-/
module

public import proofs.«01_k».proof.Proof.InProj

@[expose] public section

set_option maxRecDepth 16384
set_option Elab.async false

noncomputable section

namespace Cert.Proof.InProj

open Cert.Kernel2Ideal Cert.Kernel2Ideal.Gen
open Idealize.ShloMosaic Idealize.ShloMosaic.TcCoe Idealize.SL.Sem
open Idealize.ShloMosaic.Pipeline (Dat Cfg Window)

variable (m : (ℓ : Loc nD τ sig) → Buf (Elt Ideal) ℓ)

/-- The projection of the arguments, as an array. -/
def G (c : Dev nD) : FVec Ideal S8x4352x7680 .f32 := fun j =>
  proj (xA m c) (ctxA m c) (sc1A m c) (sh1A m c) (sc1cA m c) (sh1cA m c) (gA m c) (wA m c) (j 0) (j 1) (j 2)

/-- The sample and the row of a block's row. -/
def smp (t : Fin cfg0.N) : Fin 8 := ⟨t.val / 17 % 8, by omega⟩
def rw' (t : Fin cfg0.N) (y : Fin 256) : Fin 4352 := ⟨t.val % 17 * 256 + y.val, by omega⟩

theorem blk_rows (c : Dev nD) (t : Fin cfg0.N) (y : Fin 256) (k : Fin 1024) :
    (show FVec Ideal S1x256x1024 .f32 from iblk m c 0 t) (ix3 0 y k) = row (xA m c) (ctxA m c) (smp t) (rw' t y) k := by
  refine Eq.trans ?_ (rows_at m c (smp t) (rw' t y) k)
  blk_ext [iblk, idx t]
  all_goals rfl

theorem blk_gains (c : Dev nD) (t : Fin cfg0.N) (y : Fin 256) (k : Fin 1024) :
    (show FVec Ideal S1x1x1024 .f32 from iblk m c 1 t) (ix3 0 0 k) = gain (sc1A m c) (sc1cA m c) (gA m c) (smp t) (rw' t y) k := by
  have hp : 2 * (t.val / 17 % 8) + min (t.val % 17) 1 < 16 := by omega
  refine Eq.trans (b := (show FVec Ideal S16x1x1024 .f32 from V m c main_v10) (ix3 ⟨_, hp⟩ 0 k)) ?_ ?_
  · blk_ext [iblk, idx t]
  · rw [gains_at]
    unfold gain rw' smp
    have := y.isLt
    by_cases h : t.val % 17 = 0
    · rw [dif_pos (by simp only [h]; omega), if_pos (by simp only [h]; omega)]
    · rw [dif_neg (by simp only; omega), if_neg (by simp only; omega)]
      congr 4
      exact Fin.ext (by simp only; omega)

theorem blk_shifts (c : Dev nD) (t : Fin cfg0.N) (y : Fin 256) (k : Fin 1024) :
    (show FVec Ideal S1x1x1024 .f32 from iblk m c 2 t) (ix3 0 0 k) = shift (sh1A m c) (sh1cA m c) (smp t) (rw' t y) k := by
  have hp : 2 * (t.val / 17 % 8) + min (t.val % 17) 1 < 16 := by omega
  refine Eq.trans (b := (show FVec Ideal S16x1x1024 .f32 from V m c main_v15) (ix3 ⟨_, hp⟩ 0 k)) ?_ ?_
  · blk_ext [iblk, idx t]
  · rw [shifts_at]
    unfold shift rw' smp
    have := y.isLt
    by_cases h : t.val % 17 = 0
    · rw [dif_pos (by simp only [h]; omega), if_pos (by simp only [h]; omega)]
    · rw [dif_neg (by simp only; omega), if_neg (by simp only; omega)]
      congr 2
      exact Fin.ext (by simp only; omega)

theorem blk_weights (c : Dev nD) (t : Fin cfg0.N) (k : Fin 1024) (n : Fin 3840) (n' : Fin 7680) (h : n'.val = t.val / 136 * 3840 + n.val) :
    (show FVec Ideal S1024x3840 .bf16 from iblk m c 3 t) (ix2 k n) = wA m c (ix2 k n') := by
  refine Eq.trans ?_ (weights_at m c n' k)
  blk_ext [iblk, idx t]
  all_goals (try omega)

/-- A block's modulated row contracted with a column of its weights is the projection at the row and the column that lands there. -/
theorem dot_eq (c : Dev nD) (t : Fin cfg0.N) (y : Fin 256) (n : Fin 3840) (q : Fin 7680) (h : (col q).val = t.val / 136 * 3840 + n.val) :
    (∑ k : Fin 1024, k0_pay1 (F := Ideal) (iblk m c 0 t) (iblk m c 1 t) (iblk m c 2 t) (ix2 y k)
      * (show FVec Ideal S1024x3840 .bf16 from iblk m c 3 t) (ix2 k n))
      = proj (xA m c) (ctxA m c) (sc1A m c) (sh1A m c) (sc1cA m c) (sh1cA m c) (gA m c) (wA m c) (smp t) (rw' t y) q := by
  unfold proj
  refine Finset.sum_congr rfl fun k _ => ?_
  rw [pay1_at, blk_weights m c t k n (col q) h]
  refine congrArg (· * _) ?_
  rw [show (fun k => (show FVec Ideal S1x256x1024 .f32 from iblk m c 0 t) (ix3 0 y k)) = row (xA m c) (ctxA m c) (smp t) (rw' t y) from funext (blk_rows m c t y),
    show (fun k => (show FVec Ideal S1x1x1024 .f32 from iblk m c 1 t) (ix3 0 0 k)) = gain (sc1A m c) (sc1cA m c) (gA m c) (smp t) (rw' t y) from funext (blk_gains m c t y),
    show (fun k => (show FVec Ideal S1x1x1024 .f32 from iblk m c 2 t) (ix3 0 0 k)) = shift (sh1A m c) (sh1cA m c) (smp t) (rw' t y) from funext (blk_shifts m c t y)]

section Pays
variable (X : FVec Ideal S1x256x1024 .f32) (A B : FVec Ideal S1x1x1024 .f32)
theorem pay2_at (W : FVec Ideal S1024x768 .bf16) (y : Fin 256) (n : Fin 768) :
    k0_pay2 (F := Ideal) X A B W (ix3 0 y n) = ∑ k : Fin 1024, k0_pay1 (F := Ideal) X A B (ix2 y k) * W (ix2 k n) := by
  pointwise [k0_pay2]
theorem pay3_at (W : FVec Ideal S1024x2048 .bf16) (y : Fin 256) (n : Fin 2048) :
    k0_pay3 (F := Ideal) X A B W (ix3 0 y n) = ∑ k : Fin 1024, k0_pay1 (F := Ideal) X A B (ix2 y k) * W (ix2 k n) := by
  pointwise [k0_pay3]
theorem pay4_at (W : FVec Ideal S1024x1024 .bf16) (y : Fin 256) (n : Fin 1024) :
    k0_pay4 (F := Ideal) X A B W (ix3 0 y n) = ∑ k : Fin 1024, k0_pay1 (F := Ideal) X A B (ix2 y k) * W (ix2 k n) := by
  pointwise [k0_pay4]
theorem pay5_at (W : FVec Ideal S1024x3840 .bf16) (y : Fin 256) (n : Fin 3840) :
    k0_pay5 (F := Ideal) X A B W (ix3 0 y n) = ∑ k : Fin 1024, k0_pay1 (F := Ideal) X A B (ix2 y k) * W (ix2 k n) := by
  pointwise [k0_pay5]
end Pays

/-- The block grid point `t` leaves, read through the array's rows and columns. -/
def P (c : Dev nD) (t : Fin cfg0.N) (ht : t.val < 272) (q : Fin 256) (n : Fin 3840) : EReal :=
  proj (xA m c) (ctxA m c) (sc1A m c) (sh1A m c) (sc1cA m c) (sh1cA m c) (gA m c) (wA m c) (smp t) (rw' t q) ⟨t.val / 136 * 3840 + n.val, by omega⟩

theorem emb_eq (c : Dev nD) (t : Fin cfg0.N) (ht : t.val < 272) (a : Fin 1) (q : Fin 256) (n : Fin 3840) :
    G m c (((cfg0.win (4 : Fin 5)).blk t).view.emb (ix3 a q n)) = P m c t ht q n := by
  show G m c _ = G m c (ix3 (smp t) (rw' t q) ⟨t.val / 136 * 3840 + n.val, by omega⟩)
  refine congrArg (G m c) ?_
  blk_ext [idx t]
  all_goals rfl

/-- The whole-block product. -/
theorem whole (c : Dev nD) (t : Fin cfg0.N) (ht : t.val < 272) (h : ¬ t.val < 136) (q : Fin 256) (n : Fin 3840) :
    k0_pay5 (F := Ideal) (iblk m c 0 t) (iblk m c 1 t) (iblk m c 2 t) (iblk m c 3 t) (ix3 0 q n) = P m c t ht q n := by
  rw [pay5_at]
  refine dot_eq m c t q n _ ?_
  have := n.isLt
  unfold col
  rw [dif_neg (by simp only; omega), dif_neg (by simp only; omega), dif_neg (by simp only; omega)]

theorem first (c : Dev nD) (t : Fin cfg0.N) (ht : t.val < 272) (h : t.val < 136) (q : Fin 256) (n : Fin 3840) (k : Fin 1024) (hn : n.val = k.val)
    (W : FVec Ideal S1024x1024 .bf16) (hW : ∀ l : Fin 1024, W (ix2 l k) = (show FVec Ideal S1024x3840 .bf16 from iblk m c 3 t) (ix2 l ⟨2816 + k.val, by omega⟩)) :
    k0_pay4 (F := Ideal) (iblk m c 0 t) (iblk m c 1 t) (iblk m c 2 t) W (ix3 0 q k) = P m c t ht q n := by
  rw [pay4_at]
  refine Eq.trans ?_ (dot_eq m c t q ⟨2816 + k.val, by omega⟩ _ ?_)
  · refine Finset.sum_congr rfl fun l _ => congrArg _ (hW l)
  · have := k.isLt
    unfold col
    rw [dif_pos (by simp only; omega)]
    simp only; omega

theorem second (c : Dev nD) (t : Fin cfg0.N) (ht : t.val < 272) (h : t.val < 136) (q : Fin 256) (n : Fin 3840) (k : Fin 2048) (hn : n.val = 1024 + k.val)
    (W : FVec Ideal S1024x2048 .bf16) (hW : ∀ l : Fin 1024, W (ix2 l k) = (show FVec Ideal S1024x3840 .bf16 from iblk m c 3 t) (ix2 l ⟨768 + k.val, by omega⟩)) :
    k0_pay3 (F := Ideal) (iblk m c 0 t) (iblk m c 1 t) (iblk m c 2 t) W (ix3 0 q k) = P m c t ht q n := by
  rw [pay3_at]
  refine Eq.trans ?_ (dot_eq m c t q ⟨768 + k.val, by omega⟩ _ ?_)
  · refine Finset.sum_congr rfl fun l _ => congrArg _ (hW l)
  · have := k.isLt
    unfold col
    rw [dif_neg (by simp only; omega), dif_pos (by simp only; omega)]
    simp only; omega

theorem third (c : Dev nD) (t : Fin cfg0.N) (ht : t.val < 272) (h : t.val < 136) (q : Fin 256) (n : Fin 3840) (k : Fin 768) (hn : n.val = 3072 + k.val)
    (W : FVec Ideal S1024x768 .bf16) (hW : ∀ l : Fin 1024, W (ix2 l k) = (show FVec Ideal S1024x3840 .bf16 from iblk m c 3 t) (ix2 l ⟨0 + k.val, by omega⟩)) :
    k0_pay2 (F := Ideal) (iblk m c 0 t) (iblk m c 1 t) (iblk m c 2 t) W (ix3 0 q k) = P m c t ht q n := by
  rw [pay2_at]
  refine Eq.trans ?_ (dot_eq m c t q ⟨0 + k.val, by omega⟩ _ ?_)
  · refine Finset.sum_congr rfl fun l _ => congrArg _ (hW l)
  · have := k.isLt
    unfold col
    rw [dif_neg (by simp only; omega), dif_neg (by simp only; omega), dif_pos (by simp only; omega)]
    simp only; omega

/-- An index of a block of rows, by its coordinates. -/
theorem eq3 {N : ℕ} (x : (⟨3, ![1, 256, N]⟩ : Shape).Idx) (q : Fin 256) (h0 : ((0 : Fin 1) : ℕ) = x 0) (h1 : (q : ℕ) = x 1) : x = ix3 0 q (x 2) := by
  funext i
  fin_cases i
  · exact Fin.ext h0.symm
  · exact Fin.ext h1.symm
  · rfl

/-- A read of the weights' block from column `o` on. -/
theorem ld_at (X : FVec Ideal S1024x3840 .bf16) {o N : ℕ} (inb : ∀ a : Fin 2, (![0, o] : Fin 2 → ℕ) a + (![1024, N] : Fin 2 → ℕ) a ≤ S1024x3840.size a)
    (l : Fin 1024) (k : Fin N) (h : o + k.val < 3840) :
    View.ld (Val := Elt Ideal) (e' := .bf16) X (Rect.unit (s := S1024x3840) ![0, o] ![1024, N] inb) (ix2 l k) = X (ix2 l ⟨o + k.val, h⟩) := by
  refine congrArg X (funext fun i => ?_)
  fin_cases i
  · exact Fin.ext (by show 0 + 1 * l.val = l.val; omega)
  · exact Fin.ext (by show o + 1 * k.val = o + k.val; omega)

/-- Three stores side by side, read at one index. -/
theorem pieces (p4 : FVec Ideal S1x256x1024 .f32) (p3 : FVec Ideal S1x256x2048 .f32) (p2 : FVec Ideal S1x256x768 .f32)
    (q : Fin 256) (n : Fin 3840) (Y : EReal) (h4 : ∀ k : Fin 1024, n.val = k.val → p4 (ix3 0 q k) = Y)
    (h3 : ∀ k : Fin 2048, n.val = 1024 + k.val → p3 (ix3 0 q k) = Y) (h2 : ∀ k : Fin 768, n.val = 3072 + k.val → p2 (ix3 0 q k) = Y) :
    View.canon (Val := Elt Ideal) (s := S1x256x3840) (e := .f32)
      [⟨Rect.unit ![0, 0, 0] ![1, 256, 1024] inb_S1x256x3840_S1x256x1024_0_0_0, p4⟩,
        ⟨Rect.unit ![0, 0, 1024] ![1, 256, 2048] inb_S1x256x3840_S1x256x2048_0_0_1024, p3⟩,
        ⟨Rect.unit ![0, 0, 3072] ![1, 256, 768] inb_S1x256x3840_S1x256x768_0_0_3072, p2⟩] (ix3 0 q n) = Y := by
  canon_tiles x e using (View.cover_of_tiledBy _ ![1, 256, 256] (by sl_kernel_rfl) _)
  · exact (congrArg p4 (eq3 x q e0 e1)).trans (h4 (x 2) e2)
  · exact (congrArg p3 (eq3 x q e0 e1)).trans (h3 (x 2) e2)
  · exact (congrArg p2 (eq3 x q e0 e1)).trans (h2 (x 2) e2)

set_option maxHeartbeats 2000000 in
theorem point (c : Dev nD) (t : Fin cfg0.N) (y : S1x256x3840.Idx) :
    outsAt0 m c t.val t.isLt y = G m c (((cfg0.win (4 : Fin 5)).blk t).view.emb y) := by
  have ht : t.val < 272 := lt_of_lt_of_eq t.isLt N_0
  obtain ⟨a, q, n, rfl⟩ : ∃ (a : Fin 1) (q : Fin 256) (n : Fin 3840), y = ix3 a q n := ⟨y 0, y 1, y 2, by ext i; fin_cases i <;> rfl⟩
  obtain rfl : a = 0 := Subsingleton.elim _ _
  rw [emb_eq m c t ht]
  by_cases hh : t.val < 136
  · rw [outsAt0_A m c t hh (by omega)]
    frame_out
    refine pieces _ _ _ q n _ (fun k hk => first m c t ht hh q n k hk _ fun l => ?_) (fun k hk => second m c t ht hh q n k hk _ fun l => ?_)
      (fun k hk => third m c t ht hh q n k hk _ fun l => ?_)
    all_goals exact ld_at _ _ _ _ _
  · rw [outsAt0_B m c t hh (by omega)]
    frame_out
    exact whole m c t ht hh q n

theorem final (c : Dev nD) : (dats m 0 c).arrAt (4 : Fin 5) (cfgs 0).N = G m c := by
  refine (dats m 0 c).arrAt_eq_of_covers 4 _ (by decide +kernel) fun t _ y => ?_
  blk_simp
  rw [after0_4]
  exact point m c t y

end Cert.Proof.InProj

end
-- ==== Proof.InProjRef.lean ====
/-
  The projection's reference runs to the same sums.
-/
module

public import proofs.«01_k».proof.Defs
public import proofs.«01_k».proof.Proof.InProj
public import proofs.«01_k».proof.Proof.Gen.Reference2Ideal

@[expose] public section

set_option maxRecDepth 16384
set_option Elab.async false

noncomputable section

namespace Cert.Proof.InProj

open Idealize.ShloMosaic Idealize.ShloMosaic.TcCoe Idealize.SL.Sem

open Cert.Reference2Ideal Cert.Reference2Ideal.Gen

/-- A line of operations run as its first `k` and the rest. -/
theorem after_split {τ' : Topo} {sig' : RefSig} {Val : EltTy → Type} (k : ℕ) (ops : List (HloOp τ' sig' Val)) (V : Valuation τ' sig' Val) :
    StableHlo.after ops V = StableHlo.after (ops.drop k) (StableHlo.after (ops.take k) V) := by
  induction k generalizing ops V with
  | zero => rfl
  | succ k ih => cases ops with
    | nil => rfl
    | cons op l => exact ih l _

set_option maxHeartbeats 4000000 in
/-- Any array that is the projection at every index is what the reference leaves. -/
theorem ref_run (m : (ℓ : Loc nD τ sig) → Buf (Elt Ideal) ℓ) (g : Dev nD → PrngReg) (X : Dev nD → FVec Ideal S8x4352x7680 .f32)
    (hX : ∀ c b t n, X c (ix3 b t n) = proj (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) b t n) :
    θ_run (defs (F := Ideal)) (onTc (τ := τ) (main (F := Ideal))) ⟨m, fun _ => 0, g⟩ (fun r => ∀ c : Dev nD,
      r.2.mem ((c.tc : Thread nD τ).loc main_v50) = X c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine θ_run_mono (StableHlo.run_hlo _ _ (by hlo_seq) (by decide) (by decide) (by simp)
    (by intro _ h; (repeat (cases h with | head => rfl | tail _ h => ?_)); exact nomatch h) m g) fun r hr c => ⟨(hr c main_v50).trans ?_, (hr c main_arg0).trans ?_, (hr c main_arg1).trans ?_, (hr c main_arg2).trans ?_, (hr c main_arg3).trans ?_, (hr c main_arg4).trans ?_, (hr c main_arg5).trans ?_, (hr c main_arg6).trans ?_, (hr c main_arg7).trans ?_⟩
  all_goals clear hr
  rotate_left
  all_goals (try (after_results; done))
  rw [after_split 52]
  simp only [List.take_succ_cons, List.take_zero, List.drop_succ_cons, List.drop_zero]
  generalize hV : StableHlo.after _ (StableHlo.launchContents m c) = V
  have key : ∀ (b : Fin 8) (t : Fin 4352) (q : Fin 7680), (show FVec Ideal S8x4352x7680 .f32 from V (Proc.devRef .tc main_v43)) (ix3 b t q)
      = ∑ k : Fin 1024, modulated (row (m ((c.tc : Thread nD τ).loc main_arg0)) (m ((c.tc : Thread nD τ).loc main_arg1)) b t)
        (gain (m ((c.tc : Thread nD τ).loc main_arg2)) (m ((c.tc : Thread nD τ).loc main_arg4)) (m ((c.tc : Thread nD τ).loc main_arg6)) b t)
        (shift (m ((c.tc : Thread nD τ).loc main_arg3)) (m ((c.tc : Thread nD τ).loc main_arg5)) b t) k
        * (show FVec Ideal S1024x7680 .f32 from m ((c.tc : Thread nD τ).loc main_arg7)) (ix2 k q) := by
    intro b t q
    subst hV
    after_results
    pointwise [modulated, row, gain, shift]
    by_cases ht : t.val < 256
    · simp only [dif_pos ht, if_pos ht]
      exact Finset.sum_congr rfl fun k _ => congrArg (· * _) (congrArg (· + _) (mul_assoc _ _ _))
    · simp only [dif_neg ht, if_neg ht]
      exact Finset.sum_congr rfl fun k _ => congrArg (· * _) (congrArg (· + _) (mul_assoc _ _ _))
  funext j
  idx_vars j
  simp only [StableHlo.after_cons, StableHlo.after_nil]
  rw [StableHlo.nary_result]
  pointwise
  simp only [↓ StableHlo.readResult, ↓ StableHlo.readPieces]
  pointwise
  rw [hX]
  refine Eq.trans ?_ (key j0 j1 (col j2))
  have hc : (col j2).val = if j2.val < 1024 then 2816 + j2.val else if j2.val < 3072 then j2.val - 256 else if j2.val < 3840 then j2.val - 3072 else j2.val := by
    unfold col
    split_ifs <;> rfl
  generalize col j2 = q at hc
  split_ifs <;> refine congrArg (fun q => (show FVec Ideal S8x4352x7680 .f32 from V (Proc.devRef .tc main_v43)) (ix3 j0 j1 q)) (Fin.ext ?_) <;>
    dsimp only <;> split_ifs at hc <;> omega

end Cert.Proof.InProj

end
-- ==== Proof.InProjEq.lean ====
/-
  The projection kernel and its reference leave the same array.
-/
module

public import proofs.«01_k».proof.Defs
public import proofs.«01_k».proof.Proof.InProjPoint
public import proofs.«01_k».proof.Proof.InProjRef

@[expose] public section

set_option maxRecDepth 16384
set_option Elab.async false

noncomputable section

namespace Cert.Proof.InProj

open Idealize.ShloMosaic Idealize.ShloMosaic.TcCoe Idealize.SL.Sem

/-- The equation of the claim. -/
theorem algebraic : Cert.algebraic_Kernel2Ideal_Reference2Ideal := by
  pair_intro
  · run_from Cert.Kernel2Ideal.Gen.run_main m g
  · refine θ_run_mono (ref_run m' g' (fun c => (Cert.Kernel2Ideal.Gen.dats m 0 c).arrAt (4 : Fin 5) (Cert.Kernel2Ideal.cfgs 0).N) fun c b t n => ?_) fun r hr c => ?_
    · obtain ⟨h0, h1, h2, h3, h4, h5, h6, h7⟩ := hagree c
      rw [final]
      rw [h0, h1, h2, h3, h4, h5, h6, h7]
      rfl
    · exact hr c

end Cert.Proof.InProj

end
-- ==== Proof.PreFrames.lean ====
/-
  The frames again, under the precondition of the attention's equation.
-/
module

public import proofs.«01_k».proof.Proof.Frames
public import proofs.«01_k».proof.Proof.RefFrames
public import proofs.«01_k».proof.Proof.Gen.Pre_finite_inputs

@[expose] public section

noncomputable section

namespace Cert.Proof

theorem frame_ki_pre : Cert.quiescent_KernelIdeal_pre_finite_inputs := fun m ρ _ => Att.frame_ki m ρ trivial
theorem frame_ri_pre : Cert.quiescent_ReferenceIdeal_pre_finite_inputs := fun m g _ => frame_ri m g trivial

end Cert.Proof

end
-- ==== Proof.AttReal.lean ====
/-
  Extended reals that are real numbers, and the one fact about the softmax the attention needs: weights given as powers of
  two, with any shift, over their sum, are the weights given as exponentials over theirs. No program is mentioned here.
-/
module

public import Idealize.ShloMosaic.Lib.Claim
public import Idealize.ShloMosaic.Lib.Pointwise

@[expose] public section

set_option maxRecDepth 16384
set_option Elab.async false

noncomputable section

namespace Cert.Proof.AttSpec

open Idealize.ShloMosaic

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.max {x y : EReal} (hx : IsR x) (hy : IsR y) : IsR (max x y) := by
  rcases max_choice x y with h | h <;> rw [h] <;> assumption
theorem IsR.sum {ι : Type} (s : Finset ι) {f : ι → EReal} (h : ∀ i, IsR (f i)) : IsR (∑ i ∈ s, f i) := by
  classical
  induction s using Finset.induction_on with
  | empty => simpa using IsR.zero
  | insert a s ha ih => rw [Finset.sum_insert ha]; exact (h a).add ih
theorem IsR.cos {x : EReal} (hx : IsR x) : IsR (Ideal.cos x) := by
  obtain ⟨a, rfl⟩ := hx; exact ⟨Real.cos a, rfl⟩
theorem IsR.sin {x : EReal} (hx : IsR x) : IsR (Ideal.sin x) := by
  obtain ⟨a, rfl⟩ := hx; exact ⟨Real.sin a, rfl⟩
theorem isR_of_lt {x : EReal} (h : max x (-x) < ⊤) : IsR x := by
  induction x using EReal.rec with
  | bot => simp at h
  | coe r => exact ⟨r, rfl⟩
  | top => simp at h

/-- The reals of a family of real numbers. -/
theorem exists_reals {ι : Type} {f : ι → EReal} (h : ∀ i, IsR (f i)) : ∃ r : ι → ℝ, f = fun i => (r i : EReal) :=
  ⟨fun i => Exists.choose (h i), funext fun i => Exists.choose_spec (h i)⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A largest value below a start that is `⊥` or real is real or the start. -/
theorem fold_max_isR {ι : Type} (s : Finset ι) {f : ι → EReal} (h : ∀ i, IsR (f i)) (b : EReal) (hb : b = ⊥ ∨ IsR b) :
    (s.fold max b f = ⊥ ∧ s = ∅) ∨ IsR (s.fold max b f) := by
  classical
  induction s using Finset.induction_on with
  | empty =>
    rcases hb with rfl | hb
    · exact .inl ⟨by simp, rfl⟩
    · exact .inr (by simpa using hb)
  | insert a s ha ih =>
    right
    rw [Finset.fold_insert ha]
    rcases ih with ⟨h0, -⟩ | h1
    · rw [h0, max_eq_left bot_le]; exact h a
    · exact (h a).max h1

theorem fold_max_real {n : ℕ} {f : Fin (n + 1) → EReal} (h : ∀ i, IsR (f i)) :
    IsR ((Finset.univ : Finset (Fin (n + 1))).fold max ⊥ f) := by
  rcases fold_max_isR Finset.univ h ⊥ (.inl rfl) with ⟨-, h1⟩ | h1
  · exact absurd h1 (Finset.univ_nonempty).ne_empty
  · exact h1

/-- A real factor that is not negative goes through a sum of extended reals. -/
theorem mul_sum_real {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- Division by a real that is positive is multiplication by its inverse. -/
theorem div_pos (x : EReal) {r : ℝ} (hr : 0 < r) : Ideal.div x (r : EReal) = ((r⁻¹ : ℝ) : EReal) * x := by
  unfold Ideal.div
  rw [if_neg (by exact_mod_cast hr.ne'), EReal.coe_inv, mul_comm]

/-- The weighted mean of `v` with weights the exponentials of `s - M`. -/
def mean {n : ℕ} (M : EReal) (s v : Fin n → EReal) : EReal :=
  ∑ k, Ideal.div (Ideal.exp (s k - M)) (∑ l, Ideal.exp (s l - M)) * v k

/-- The weighted mean with weights powers of two of `t`, divided at the end. -/
def mean2 {n : ℕ} (t v : Fin n → EReal) : EReal :=
  Ideal.div (∑ k, Ideal.exp2 (t k) * v k) (∑ k, Ideal.exp2 (t k))

/-- The two agree where `t` is `s` over the logarithm of two, up to one real shift. -/
theorem mean2_eq {n : ℕ} (s v : Fin (n + 1) → EReal) (hs : ∀ k, IsR (s k)) (M : EReal) (hM : IsR M) (c : EReal) (hc : IsR c)
    (t : Fin (n + 1) → EReal) (ht : ∀ k, t k = s k * (((Real.log 2)⁻¹ : ℝ) : EReal) + c) : mean2 t v = mean M s v := by
  obtain ⟨σ, rfl⟩ := exists_reals hs
  obtain ⟨μ, rfl⟩ := hM
  obtain ⟨γ, rfl⟩ := hc
  have ht' : ∀ k, t k = ((σ k * (Real.log 2)⁻¹ + γ : ℝ) : EReal) := fun k => by
    rw [ht k]; push_cast; rfl
  have h2 : ∀ k, Ideal.exp2 (t k) = ((Real.exp (γ * Real.log 2 + μ) * Real.exp (σ k - μ) : ℝ) : EReal) := fun k => by
    rw [ht' k]
    show ((Real.rpow 2 _ : ℝ) : EReal) = _
    congr 1
    have hl : Real.log 2 ≠ 0 := (Real.log_pos (by norm_num)).ne'
    show (2 : ℝ) ^ (σ k * (Real.log 2)⁻¹ + γ) = _
    rw [Real.rpow_def_of_pos (by norm_num), ← Real.exp_add]
    congr 1
    field_simp
    ring
  have h1 : ∀ k, Ideal.exp ((σ k : EReal) - (μ : EReal)) = ((Real.exp (σ k - μ) : ℝ) : EReal) := fun k => by
    rw [← EReal.coe_sub]; rfl
  unfold mean mean2
  simp only [h1, h2, coe_sum]
  set E := ∑ l, Real.exp (σ l - μ) with hE
  have hEpos : 0 < E := Finset.sum_pos (fun _ _ => Real.exp_pos _) Finset.univ_nonempty
  set A := Real.exp (γ * Real.log 2 + μ) with hA
  have hApos : 0 < A := Real.exp_pos _
  rw [← Finset.mul_sum, div_pos _ (mul_pos hApos hEpos), mul_sum_real _ _ (inv_nonneg.2 (mul_pos hApos hEpos).le)]
  refine Finset.sum_congr rfl fun k _ => ?_
  rw [div_pos _ hEpos, ← mul_assoc, ← EReal.coe_mul, ← EReal.coe_mul]
  congr 2
  field_simp

end Cert.Proof.AttSpec

end
-- ==== Proof.AttSpec.lean ====
/-
  The attention, written down over the extended reals: heads of 64 lanes normalised by their root mean square, rotated by
  their position, scores against the keys of the group, and the mean of the values with the softmax's weights.
-/
module

public import proofs.«01_k».proof.Proof.AttReal

@[expose] public section

set_option maxRecDepth 16384
set_option Elab.async false

noncomputable section

namespace Cert.Proof.AttSpec

open Idealize.ShloMosaic

abbrev SU : Shape := ⟨3, ![8, 4352, 7680]⟩
abbrev SG : Shape := ⟨1, ![64]⟩

/-- Coordinate `ax` of latent position `p` on its 64 by 64 grid. -/
def pos (p : Fin 4096) (ax : Fin 2) : BitVec 32 := if ax.val < 1 then BitVec.ofNat 32 (p.val / 64) else BitVec.ofNat 32 (p.val % 64)

/-- An integer word as a real number. -/
def intR (w : BitVec 32) : EReal := ((w.toInt : ℝ) : EReal)

/-- The angle frequency `i` turns there. -/
def angle (p : Fin 4096) (ax : Fin 2) (i : Fin 16) : EReal :=
  intR (pos p ax) * Ideal.pow (Ideal.ofBits .f32 0x461C4000#32) (Ideal.div (-(intR (BitVec.ofNat 32 i.val))) (Ideal.ofBits .f32 0x41800000#32))

/-- A head normalised by its root mean square, times the gain. -/
def nrm (z : Fin 64 → EReal) (g : FVec Ideal SG .f32) (d : Fin 64) : EReal :=
  z d * Ideal.rsqrt (Ideal.div (∑ e, z e * z e) (Ideal.ofBits .f32 0x42800000#32) + Ideal.ofBits .f32 0x358637BD#32) * g (ix1 d)

/-- Lane `16 half + i` of axis `ax`. -/
def lane (ax : Fin 2) (half : Fin 2) (i : Fin 16) : Fin 64 := ⟨32 * ax.val + 16 * half.val + i.val, by omega⟩

/-- A head rotated by its position. -/
def rope (y : Fin 64 → EReal) (p : Fin 4096) (ax half : Fin 2) (i : Fin 16) : EReal :=
  if half.val < 1 then y (lane ax 0 i) * Ideal.cos (angle p ax i) - y (lane ax 1 i) * Ideal.sin (angle p ax i)
  else y (lane ax 1 i) * Ideal.cos (angle p ax i) + y (lane ax 0 i) * Ideal.sin (angle p ax i)

/-- The context's rows are not rotated. -/
def posn (y : Fin 64 → EReal) (t : Fin 4352) (d : Fin 64) : EReal :=
  if h : t.val < 256 then y d else rope y ⟨t.val - 256, by omega⟩ ⟨d.val / 32, by omega⟩ ⟨d.val % 32 / 16, by omega⟩ ⟨d.val % 16, by omega⟩

/-- Query head `h`, -/
def query (u : FVec Ideal SU .f32) (g : FVec Ideal SG .f32) (b : Fin 8) (h : Fin 8) (t : Fin 4352) : Fin 64 → EReal :=
  posn (nrm (fun e => u (ix3 b t ⟨3072 + (h.val * 64 + e.val), by omega⟩)) g) t
/-- key head `j`, -/
def key (u : FVec Ideal SU .f32) (g : FVec Ideal SG .f32) (b : Fin 8) (j : Fin 2) (t : Fin 4352) : Fin 64 → EReal :=
  posn (nrm (fun e => u (ix3 b t ⟨3584 + (j.val * 64 + e.val), by omega⟩)) g) t
/-- value head `j`. -/
def value (u : FVec Ideal SU .f32) (b : Fin 8) (j : Fin 2) (t : Fin 4352) (d : Fin 64) : EReal :=
  u (ix3 b t ⟨3712 + (j.val * 64 + d.val), by omega⟩)

/-- The group's head that query head `h` looks at. -/
def grp (h : Fin 8) : Fin 2 := ⟨h.val / 4, by omega⟩

/-- The score of row `t` against key row `k`. -/
def score (u : FVec Ideal SU .f32) (gq gk : FVec Ideal SG .f32) (b h : Fin 8) (t k : Fin 4352) : EReal :=
  (∑ d, query u gq b h t d * key u gk b (grp h) k d) * Ideal.ofBits .f32 0x3E000000#32

/-- The largest of some scores. -/
def peak {n : ℕ} (s : Fin n → EReal) : EReal :=
  max (Ideal.ofBits .f32 0xFF800000#32) ((Finset.univ : Finset (Fin n)).fold max (Ideal.ofBits .f32 0xFF800000#32) s)

/-- The softmax's mean of the values. -/
def soft {n : ℕ} (s v : Fin n → EReal) : EReal := mean (peak s) s v

/-- A context row of the keys. -/
def ctxRow (k : Fin 256) : Fin 4352 := ⟨k.val, by omega⟩

/-- The attention: context rows look at the context, latent rows at everything. -/
def att (u : FVec Ideal SU .f32) (gq gk : FVec Ideal SG .f32) (b : Fin 8) (t : Fin 4352) (h : Fin 8) (d : Fin 64) : EReal :=
  if t.val < 256 then soft (fun k : Fin 256 => score u gq gk b h t (ctxRow k)) (fun k => value u b (grp h) (ctxRow k) d)
  else soft (fun k : Fin 4352 => score u gq gk b h t k) (fun k => value u b (grp h) k d)

end Cert.Proof.AttSpec

end
-- ==== Proof.PrepPoint.lean ====
/-
  The preparation's vector functions at one row and lane, over the extended reals.
-/
module

public import proofs.«01_k».proof.Proof.Prep
public import proofs.«01_k».proof.Proof.AttSpec
public import Idealize.ShloMosaic.Lib.Pointwise

@[expose] public section

set_option maxRecDepth 16384
set_option Elab.async false

noncomputable section

namespace Cert.Proof.Att

open Cert.KernelIdeal Cert.KernelIdeal.Gen
open Idealize.ShloMosaic Idealize.ShloMosaic.TcCoe
open Cert.Proof.AttSpec

/-! ## The integer masks -/

theorem sel_if {P : Prop} [Decidable P] {c : BitVec 1} (a b : EReal) (h : c = if P then 1#1 else 0#1) : Scalar.select c a b = if P then a else b := by
  rw [h]; split_ifs <;> rfl
theorem eq64 (l : Fin 128) : IntOp.cmpi .eq (BitVec.ofNat 32 l.val) 64#32 = if l.val = 64 then 1#1 else 0#1 := by revert l; decide +kernel
theorem lt64 (l : Fin 128) : IntOp.cmpi .slt (BitVec.ofNat 32 l.val) 64#32 = if l.val < 64 then 1#1 else 0#1 := by revert l; decide +kernel

theorem row_word (k l : Fin 128) : k0_pay1 (ix2 k l) = BitVec.ofNat 32 (k.val / 64) := by
  pointwise [k0_pay1]
  revert k; decide +kernel
theorem col_word (k l : Fin 128) : select (andi k0_pay3 (cmpi .ne k0_pay4 k0_pay5)) (subi k0_pay2 (broadcast S128x128 1#32)) k0_pay2 (ix2 k l)
    = BitVec.ofNat 32 (l.val / 64) := by
  pointwise [k0_pay2, k0_pay3, k0_pay4, k0_pay5]
  revert l; decide +kernel
theorem sameHead_at (k l : Fin 128) : sameHead (F := Ideal) (ix2 k l) = if k.val / 64 = l.val / 64 then (1 : EReal) else 0 := by
  show (Scalar.select (Scalar.cmpi .eq (k0_pay1 (ix2 k l)) (select (andi k0_pay3 (cmpi .ne k0_pay4 k0_pay5)) (subi k0_pay2 (broadcast S128x128 1#32)) k0_pay2 (ix2 k l)))
    (Ideal.ofBits .f32 0x3F800000#32) (Ideal.ofBits .f32 0x00000000#32)) = _
  rw [row_word, col_word]
  have h : ∀ k l : Fin 128, (Scalar.cmpi .eq (BitVec.ofNat 32 (k.val / 64)) (BitVec.ofNat 32 (l.val / 64))) = if k.val / 64 = l.val / 64 then 1#1 else 0#1 := by
    decide +kernel
  rw [sel_if _ _ (h k l)]
  pointwise
theorem firstHalf_at (r : Fin 256) (l : Fin 128) : firstHalf (ix2 r l) = if l.val % 32 < 16 then 1#1 else 0#1 := by
  pointwise [firstHalf, k0_pay23]
  revert l; decide +kernel

variable (x : FVec Ideal S1x256x128 .f32) (y fill cos sin : FVec Ideal S256x128 .f32) (g s : FVec Ideal S1x128 .f32) (r : Fin 256) (l : Fin 128)

theorem normed_at0 : normed x g (ix2 r l) = x (ix3 0 r l) * Ideal.rsqrt (((∑ k : Fin 128, x (ix3 0 r k) * x (ix3 0 r k) * sameHead (F := Ideal) (ix2 k l))
    + ∑ k : Fin 128, (x (ix3 0 r k) * x (ix3 0 r k) - x (ix3 0 r k) * x (ix3 0 r k)) * sameHead (F := Ideal) (ix2 k l)) * Ideal.ofBits .f32 0x3C800000#32 + Ideal.ofBits .f32 0x358637BD#32) * g (ix2 0 l) := by
  unfold normed k0_pay10
  pointwise [sameHead]

theorem rotated_at : rotated y cos sin (ix2 r l) = y (ix2 r l) * cos (ix2 r l)
    + (if l.val % 32 < 16 then y (ix2 r ⟨(l.val + 16) % 128, by omega⟩) else y (ix2 r ⟨(l.val + 112) % 128, by omega⟩)) * sin (ix2 r l) := by
  pointwise [rotated, firstHalf_at]
  rw [sel_if _ _ rfl]
  by_cases h : l.val % 32 < 16
  · simp only [if_pos h]
    congr 5
  · simp only [if_neg h]
    congr 5
theorem scaled_at : scaled y (ix2 r l) = y (ix2 r l) * (((1 / 8) * (Real.log 2)⁻¹ : ℝ) : EReal) := by
  pointwise [scaled]
  rfl
theorem fillQ_at : fillQ s (ix2 r l) = if l.val = 64 then s (ix2 0 l) else 0 := by
  pointwise [fillQ, k0_pay15]
  exact sel_if _ _ (eq64 l)
theorem fillOne_at : fillOne (F := Ideal) (ix2 r l) = if l.val = 64 then 1 else 0 := by
  pointwise [fillOne, k0_pay46]
  exact sel_if _ _ (eq64 l)
theorem headLo_at : headLo y fill (ix3 0 r l) = if l.val < 64 then y (ix2 r l) else fill (ix2 r l) := by
  pointwise [headLo, k0_pay9]
  exact sel_if _ _ (lt64 l)
theorem headHi_at : headHi y fill (ix3 0 r l) = if l.val < 64 then y (ix2 r ⟨(l.val + 64) % 128, by omega⟩) else fill (ix2 r l) := by
  pointwise [headHi, k0_pay9]
  rw [sel_if _ _ (lt64 l)]
  by_cases h : l.val < 64
  · rw [if_pos h, if_pos h]; congr 3
  · rw [if_neg h, if_neg h]
theorem pay7_at : k0_pay7 (F := Ideal) cos = cos := by
  funext i; pointwise [k0_pay7]
theorem pay8_at : k0_pay8 (F := Ideal) cos = cos := by
  funext i; pointwise [k0_pay8]
theorem pay49_at : k0_pay49 (F := Ideal) x (ix2 r l) = x (ix3 0 r l) := by
  pointwise [k0_pay49]

end Cert.Proof.Att

end
-- ==== Proof.PrepValue.lean ====
/-
  The preparation's heads, over real inputs: normalised, rotated by the tables, scaled.
-/
module

public import proofs.«01_k».proof.Proof.PrepPoint
public import proofs.«01_k».proof.Proof.AttReal

@[expose] public section

set_option maxRecDepth 16384
set_option Elab.async false

noncomputable section

namespace Cert.Proof.Att

open Cert.KernelIdeal Cert.KernelIdeal.Gen
open Idealize.ShloMosaic Idealize.ShloMosaic.TcCoe
open Cert.Proof.AttSpec

/-! ## The constants -/

theorem c64 : Ideal.ofBits .f32 0x42800000#32 = ((64 : ℝ) : EReal) := by simp [Ideal.ofBits, Ideal.ieee, -EReal.coe_mul]; norm_num
theorem c64inv : Ideal.ofBits .f32 0x3C800000#32 = (((64 : ℝ)⁻¹ : ℝ) : EReal) := by simp [Ideal.ofBits, Ideal.ieee, -EReal.coe_mul]; norm_num
theorem ceps : ∃ e : ℝ, 0 < e ∧ Ideal.ofBits .f32 0x358637BD#32 = (e : EReal) := by
  refine ⟨_, ?_, by simp [Ideal.ofBits, Ideal.ieee, -EReal.coe_mul]; rfl⟩
  positivity

/-! ## Real numbers -/

theorem nrm_real (z : Fin 64 → EReal) (G : FVec Ideal SG .f32) (d : Fin 64) (hz : ∀ e, IsR (z e)) (hG : IsR (G (ix1 d))) : IsR (nrm z G d) := by
  unfold nrm
  refine ((hz d).mul ?_).mul hG
  obtain ⟨a, rfl⟩ := exists_reals hz
  obtain ⟨e, he, h⟩ := ceps
  rw [h, c64, AttSpec.div_pos _ (r := 64) (by norm_num)]
  have hs : (∑ e, (fun i => ((a i : ℝ) : EReal)) e * (fun i => ((a i : ℝ) : EReal)) e) = ((∑ i, a i * a i : ℝ) : EReal) := by
    rw [← coe_sum]; exact Finset.sum_congr rfl fun i _ => (EReal.coe_mul _ _).symm
  rw [hs, ← EReal.coe_mul, ← EReal.coe_add]
  have hp : 0 < (64 : ℝ)⁻¹ * (∑ i, a i * a i) + e := add_pos_of_nonneg_of_pos (mul_nonneg (by norm_num) (Finset.sum_nonneg fun i _ => mul_self_nonneg _)) he
  generalize (64 : ℝ)⁻¹ * (∑ i, a i * a i) + e = ρ at hp
  show IsR (if ρ < 0 then ⊥ else if ρ = 0 then ⊤ else (((Real.sqrt ρ)⁻¹ : ℝ) : EReal))
  rw [if_neg (not_lt.mpr hp.le), if_neg hp.ne']
  exact ⟨_, rfl⟩

theorem angle_real (p : Fin 4096) (ax : Fin 2) (i : Fin 16) : IsR (angle p ax i) := by
  unfold angle
  refine IsR.mul ⟨_, rfl⟩ ?_
  have h1 : Ideal.ofBits .f32 0x461C4000#32 = ((10000 : ℝ) : EReal) := by simp [Ideal.ofBits, Ideal.ieee, -EReal.coe_mul]; norm_num
  have h2 : Ideal.ofBits .f32 0x41800000#32 = ((16 : ℝ) : EReal) := by simp [Ideal.ofBits, Ideal.ieee, -EReal.coe_mul]; norm_num
  rw [h1, h2, AttSpec.div_pos _ (r := 16) (by norm_num)]
  unfold intR
  rw [← EReal.coe_neg, ← EReal.coe_mul]
  exact ⟨_, rfl⟩

theorem posn_real (y : Fin 64 → EReal) (t : Fin 4352) (d : Fin 64) (hy : ∀ e, IsR (y e)) : IsR (posn y t d) := by
  unfold posn
  split_ifs
  · exact hy d
  · unfold rope
    split_ifs
    · exact ((hy _).mul (angle_real _ _ _).cos).sub ((hy _).mul (angle_real _ _ _).sin)
    · exact ((hy _).mul (angle_real _ _ _).cos).add ((hy _).mul (angle_real _ _ _).sin)

/-! ## The rotation's tables -/

/-- The cosine that lane `d` of row `t` is multiplied by, -/
def cosT (t : Fin 4352) (d : Fin 64) : EReal :=
  if h : t.val < 256 then 1 else Ideal.cos (angle ⟨t.val - 256, by omega⟩ ⟨d.val / 32, by omega⟩ ⟨d.val % 16, by omega⟩)
/-- and the sine with its sign. -/
def sinT (t : Fin 4352) (d : Fin 64) : EReal :=
  if h : t.val < 256 then 0 else if d.val % 32 < 16 then -Ideal.sin (angle ⟨t.val - 256, by omega⟩ ⟨d.val / 32, by omega⟩ ⟨d.val % 16, by omega⟩)
    else Ideal.sin (angle ⟨t.val - 256, by omega⟩ ⟨d.val / 32, by omega⟩ ⟨d.val % 16, by omega⟩)

/-- Lane `e` of the head `c` of a pair. -/
abbrev pl (c : Fin 2) (e : Fin 64) : Fin 128 := ⟨c.val * 64 + e.val, by omega⟩

section
variable (x : FVec Ideal S1x256x128 .f32) (y cos sin : FVec Ideal S256x128 .f32) (g : FVec Ideal S1x128 .f32) (G : FVec Ideal SG .f32)
  (r : Fin 256) (c : Fin 2) (e : Fin 64) (t : Fin 4352)

theorem normed_nrm (hx : ∀ k, IsR (x (ix3 0 r k))) (hg : ∀ e, g (ix2 0 (pl c e)) = G (ix1 e)) :
    normed (F := Ideal) x g (ix2 r (pl c e)) = nrm (fun e => x (ix3 0 r (pl c e))) G e := by
  rw [normed_at0, hg]
  unfold nrm
  have h0 : (∑ k : Fin 128, (x (ix3 0 r k) * x (ix3 0 r k) - x (ix3 0 r k) * x (ix3 0 r k)) * sameHead (F := Ideal) (ix2 k (pl c e))) = 0 := by
    refine Finset.sum_eq_zero fun k _ => ?_
    obtain ⟨a, ha⟩ := hx k
    rw [ha, ← EReal.coe_mul, ← EReal.coe_sub, sub_self, EReal.coe_zero, zero_mul]
  have h1 : (∑ k : Fin 128, x (ix3 0 r k) * x (ix3 0 r k) * sameHead (F := Ideal) (ix2 k (pl c e)))
      = ∑ e : Fin 64, x (ix3 0 r (pl c e)) * x (ix3 0 r (pl c e)) := by
    rw [Fin.sum_univ_tiles 2 64 rfl]
    rw [Finset.sum_eq_single c]
    · refine Finset.sum_congr rfl fun k _ => ?_
      rw [sameHead_at, if_pos (by show (c.val * 64 + k.val) / 64 = (c.val * 64 + e.val) / 64; omega), mul_one]
    · intro j _ hj
      refine Finset.sum_eq_zero fun k _ => ?_
      have hj' : j.val ≠ c.val := fun h => hj (Fin.ext h)
      rw [sameHead_at, if_neg (by show ¬ (j.val * 64 + k.val) / 64 = (c.val * 64 + e.val) / 64; omega), mul_zero]
    · intro h; exact absurd (Finset.mem_univ c) h
  rw [h0, h1, add_zero, c64inv, c64, AttSpec.div_pos _ (r := 64) (by norm_num), mul_comm (((64 : ℝ)⁻¹ : ℝ) : EReal)]

theorem rotated_posn (hc : ∀ e, cos (ix2 r (pl c e)) = cosT t e) (hs : ∀ e, sin (ix2 r (pl c e)) = sinT t e) :
    rotated y cos sin (ix2 r (pl c e)) = posn (fun e => y (ix2 r (pl c e))) t e := by
  rw [rotated_at, hc, hs]
  unfold cosT sinT posn
  by_cases ht : t.val < 256
  · rw [dif_pos ht, dif_pos ht, dif_pos ht, mul_one, mul_zero, add_zero]
  · rw [dif_neg ht, dif_neg ht, dif_neg ht]
    unfold rope
    by_cases h : e.val % 32 < 16
    · have e1 : (⟨((pl c e).val + 16) % 128, by omega⟩ : Fin 128) = pl c (lane ⟨e.val / 32, by omega⟩ 1 ⟨e.val % 16, by omega⟩) :=
        Fin.ext (by show (c.val * 64 + e.val + 16) % 128 = c.val * 64 + (32 * (e.val / 32) + 16 * 1 + e.val % 16); omega)
      have e0 : pl c e = pl c (lane ⟨e.val / 32, by omega⟩ 0 ⟨e.val % 16, by omega⟩) :=
        Fin.ext (by show c.val * 64 + e.val = c.val * 64 + (32 * (e.val / 32) + 16 * 0 + e.val % 16); omega)
      rw [if_pos (by show (c.val * 64 + e.val) % 32 < 16; omega), if_pos h, if_pos (by show e.val % 32 / 16 < 1; omega), e1]
      beta_reduce
      rw [← e0, mul_neg, ← sub_eq_add_neg]
    · have e1 : (⟨((pl c e).val + 112) % 128, by omega⟩ : Fin 128) = pl c (lane ⟨e.val / 32, by omega⟩ 0 ⟨e.val % 16, by omega⟩) :=
        Fin.ext (by show (c.val * 64 + e.val + 112) % 128 = c.val * 64 + (32 * (e.val / 32) + 16 * 0 + e.val % 16); omega)
      have e0 : pl c e = pl c (lane ⟨e.val / 32, by omega⟩ 1 ⟨e.val % 16, by omega⟩) :=
        Fin.ext (by show c.val * 64 + e.val = c.val * 64 + (32 * (e.val / 32) + 16 * 1 + e.val % 16); omega)
      rw [if_neg (by show ¬ (c.val * 64 + e.val) % 32 < 16; omega), if_neg h, if_neg (by show ¬ e.val % 32 / 16 < 1; omega), e1]
      beta_reduce
      rw [← e0]

theorem keys_at (hx : ∀ k, IsR (x (ix3 0 r k))) (hg : ∀ e, g (ix2 0 (pl c e)) = G (ix1 e))
    (hc : ∀ e, cos (ix2 r (pl c e)) = cosT t e) (hs : ∀ e, sin (ix2 r (pl c e)) = sinT t e) :
    keys (F := Ideal) x cos sin g (ix2 r (pl c e)) = posn (nrm (fun e => x (ix3 0 r (pl c e))) G) t e := by
  unfold keys
  rw [pay7_at, pay8_at, rotated_posn _ cos sin r c e t hc hs]
  exact congrArg (fun y => posn y t e) (funext fun e => normed_nrm x g G r c e hx hg)

theorem queries_at (hx : ∀ k, IsR (x (ix3 0 r k))) (hg : ∀ e, g (ix2 0 (pl c e)) = G (ix1 e))
    (hc : ∀ e, cos (ix2 r (pl c e)) = cosT t e) (hs : ∀ e, sin (ix2 r (pl c e)) = sinT t e) :
    queries (F := Ideal) x cos sin g (ix2 r (pl c e)) = posn (nrm (fun e => x (ix3 0 r (pl c e))) G) t e * (((1 / 8) * (Real.log 2)⁻¹ : ℝ) : EReal) := by
  unfold queries
  rw [scaled_at]
  exact congrArg (· * _) (keys_at x cos sin g G r c e t hx hg hc hs)
end

end Cert.Proof.Att

end
-- ==== Proof.HostTables.lean ====
/-
  The tables the host prepares for the attention's preparation: cosines, sines, gains, and the shift.
-/
module

public import proofs.«01_k».proof.Proof.Gen.KernelIdeal.Regions
public import proofs.«01_k».proof.Proof.PrepValue

@[expose] public section

set_option maxRecDepth 16384
set_option Elab.async false

noncomputable section

namespace Cert.Proof.Att

open Cert.KernelIdeal Cert.KernelIdeal.Gen
open Idealize.ShloMosaic Idealize.ShloMosaic.TcCoe Idealize.SL.Sem
open Cert.Proof.AttSpec

/-- A line of operations run as its first `k` and the rest. -/
theorem after_take {τ' : Topo} {sig' : RefSig} {Val : EltTy → Type} (k : ℕ) (ops : List (HloOp τ' sig' Val)) (V : Valuation τ' sig' Val) :
    StableHlo.after ops V = StableHlo.after (ops.drop k) (StableHlo.after (ops.take k) V) := by
  induction k generalizing ops V with
  | zero => rfl
  | succ k ih => cases ops with
    | nil => rfl
    | cons op l => exact ih l _

variable (V : Valuation τ sig (Elt Ideal))

/-- The contents once the angles are there. -/
def angles : Valuation τ sig (Elt Ideal) := StableHlo.after (List.take 29 hostOps0) V

theorem host_split : StableHlo.after hostOps0 V = StableHlo.after (List.drop 29 hostOps0) (angles V) := by
  unfold angles
  exact after_take 29 _ _

theorem angles_at (p : Fin 4096) (ax : Fin 2) (i : Fin 16) : (show FVec Ideal S4096x2x16 .f32 from angles V (Proc.devRef .tc main_v26)) (ix3 p ax i) = angle p ax i := by
  unfold angles
  simp only [hostOps0, List.take_succ_cons, List.take_zero]
  after_results
  pointwise [angle, intR, pos]
  split_ifs <;> rfl

theorem angle_lane (p : Fin 4096) (c : Fin 2) (e : Fin 64) :
    angle p ⟨(c.val * 64 + e.val) % 64 / 32, by omega⟩ ⟨(c.val * 64 + e.val) % 64 % 16, by omega⟩ = angle p ⟨e.val / 32, by omega⟩ ⟨e.val % 16, by omega⟩ :=
  congrArg₂ (angle p) (Fin.ext (by show (c.val * 64 + e.val) % 64 / 32 = e.val / 32; omega)) (Fin.ext (by show (c.val * 64 + e.val) % 64 % 16 = e.val % 16; omega))

theorem cos_pure (t : Fin 4352) (c : Fin 2) (e : Fin 64) (A : FVec Ideal S4096x2x16 .f32) (hA : ∀ p ax i, A (ix3 p ax i) = angle p ax i) :
    (if h : t.val < 256 then (1 : EReal)
      else if h1 : (c.val * 64 + e.val) % 64 / 16 % 2 < 1 then
        Ideal.cos (A (ix3 ⟨t.val - 256, by omega⟩ ⟨(c.val * 64 + e.val) % 64 / 32, by omega⟩ ⟨(c.val * 64 + e.val) % 64 % 16, by omega⟩))
      else Ideal.cos (A (ix3 ⟨t.val - 256, by omega⟩ ⟨(c.val * 64 + e.val) % 64 / 32, by omega⟩ ⟨(c.val * 64 + e.val) % 64 % 16, by omega⟩))) = cosT t e := by
  unfold cosT
  by_cases ht : t.val < 256
  · rw [dif_pos ht, dif_pos ht]
  · have h := (hA ⟨t.val - 256, by omega⟩ ⟨(c.val * 64 + e.val) % 64 / 32, by omega⟩ ⟨(c.val * 64 + e.val) % 64 % 16, by omega⟩).trans (angle_lane _ c e)
    rw [dif_neg ht, dif_neg ht]
    by_cases he : (c.val * 64 + e.val) % 64 / 16 % 2 < 1
    · rw [dif_pos he, h]
    · rw [dif_neg he, h]

theorem sin_pure (t : Fin 4352) (c : Fin 2) (e : Fin 64) (A : FVec Ideal S4096x2x16 .f32) (hA : ∀ p ax i, A (ix3 p ax i) = angle p ax i) :
    (if h : t.val < 256 then (0 : EReal)
      else if h1 : (c.val * 64 + e.val) % 64 / 16 % 2 < 1 then
        -Ideal.sin (A (ix3 ⟨t.val - 256, by omega⟩ ⟨(c.val * 64 + e.val) % 64 / 32, by omega⟩ ⟨(c.val * 64 + e.val) % 64 % 16, by omega⟩))
      else Ideal.sin (A (ix3 ⟨t.val - 256, by omega⟩ ⟨(c.val * 64 + e.val) % 64 / 32, by omega⟩ ⟨(c.val * 64 + e.val) % 64 % 16, by omega⟩))) = sinT t e := by
  unfold sinT
  by_cases ht : t.val < 256
  · rw [dif_pos ht, dif_pos ht]
  · have h := (hA ⟨t.val - 256, by omega⟩ ⟨(c.val * 64 + e.val) % 64 / 32, by omega⟩ ⟨(c.val * 64 + e.val) % 64 % 16, by omega⟩).trans (angle_lane _ c e)
    rw [dif_neg ht, dif_neg ht]
    by_cases he : e.val % 32 < 16
    · rw [if_pos he, dif_pos (by omega), h]
    · rw [if_neg he, dif_neg (by omega), h]

/-- The cosines, -/
theorem cos_tab (t : Fin 4352) (c : Fin 2) (e : Fin 64) : (show FVec Ideal S4352x128 .f32 from StableHlo.after hostOps0 V (Proc.devRef .tc main_v44)) (ix2 t (pl c e)) = cosT t e := by
  have h : ∀ W : Valuation τ sig (Elt Ideal), (∀ p ax i, (show FVec Ideal S4096x2x16 .f32 from W (Proc.devRef .tc main_v26)) (ix3 p ax i) = angle p ax i) →
      (show FVec Ideal S4352x128 .f32 from StableHlo.after (List.drop 29 hostOps0) W (Proc.devRef .tc main_v44)) (ix2 t (pl c e)) = cosT t e := by
    intro W hW
    simp only [hostOps0, List.drop_succ_cons, List.drop_zero]
    after_results
    pointwise
    exact cos_pure t c e _ hW
  rw [host_split]
  exact h (angles V) (angles_at V)

/-- the sines with their signs, -/
theorem sin_tab (t : Fin 4352) (c : Fin 2) (e : Fin 64) : (show FVec Ideal S4352x128 .f32 from StableHlo.after hostOps0 V (Proc.devRef .tc main_v47)) (ix2 t (pl c e)) = sinT t e := by
  have h : ∀ W : Valuation τ sig (Elt Ideal), (∀ p ax i, (show FVec Ideal S4096x2x16 .f32 from W (Proc.devRef .tc main_v26)) (ix3 p ax i) = angle p ax i) →
      (show FVec Ideal S4352x128 .f32 from StableHlo.after (List.drop 29 hostOps0) W (Proc.devRef .tc main_v47)) (ix2 t (pl c e)) = sinT t e := by
    intro W hW
    simp only [hostOps0, List.drop_succ_cons, List.drop_zero]
    after_results
    pointwise
    exact sin_pure t c e _ hW
  rw [host_split]
  exact h (angles V) (angles_at V)

/-- the queries' gain for two heads, -/
theorem gain_q (c : Fin 2) (e : Fin 64) : (show FVec Ideal S1x128 .f32 from StableHlo.after hostOps0_2 V (Proc.devRef .tc main_v62)) (ix2 0 (pl c e))
    = (show FVec Ideal SG .f32 from V (Proc.devRef .tc main_arg1)) (ix1 e) := by
  after_results
  pointwise
  exact congrArg (fun e => (show FVec Ideal SG .f32 from V (Proc.devRef .tc main_arg1)) (ix1 e)) (Fin.ext (by show (c.val * 64 + e.val) % 64 = e.val; omega))
/-- the keys', -/
theorem gain_k (c : Fin 2) (e : Fin 64) : (show FVec Ideal S1x128 .f32 from StableHlo.after hostOps0_2 V (Proc.devRef .tc main_v66)) (ix2 0 (pl c e))
    = (show FVec Ideal SG .f32 from V (Proc.devRef .tc main_arg2)) (ix1 e) := by
  after_results
  pointwise
  exact congrArg (fun e => (show FVec Ideal SG .f32 from V (Proc.devRef .tc main_arg2)) (ix1 e)) (Fin.ext (by show (c.val * 64 + e.val) % 64 = e.val; omega))
/-- the shift. -/
theorem shift_at : (show FVec Ideal S1x128 .f32 from StableHlo.after hostOps0_2 V (Proc.devRef .tc main_v58)) (ix2 0 64)
    = (show FVec Ideal S_ .f32 from V (Proc.devRef .tc main_v57)) ix0 := by
  after_results
  pointwise

end Cert.Proof.Att

end
-- ==== Proof.HostShift.lean ====
/-
  The preparation's inputs at its entry; the shift is a real number.
-/
module

public import proofs.«01_k».proof.Proof.Gen.KernelIdeal.Regions
public import proofs.«01_k».proof.Proof.HostTables

@[expose] public section

set_option maxRecDepth 16384
set_option Elab.async false

noncomputable section

namespace Cert.Proof.Att

open Cert.KernelIdeal Cert.KernelIdeal.Gen
open Idealize.ShloMosaic Idealize.ShloMosaic.TcCoe Idealize.SL.Sem
open Cert.Proof.AttSpec

variable (V : Valuation τ sig (Elt Ideal))

/-! ## The shift is a real number -/

theorem select_at : (show FVec Ideal S_ .f32 from StableHlo.after hostOps0_1 V (Proc.devRef .tc main_v57))
    = select (show Vec Ideal S_ .i1 from V (Proc.devRef .tc main_v55)) (show FVec Ideal S_ .f32 from V (Proc.devRef .tc main_v56)) (show FVec Ideal S_ .f32 from V (Proc.devRef .tc main_cst_8)) := by
  after_results
  rfl

/-- A choice between two real numbers is one. -/
theorem pick_real (b : Vec Ideal S_ .i1) (x y : FVec Ideal S_ .f32) (hx : IsR (x ix0)) (hy : IsR (y ix0)) : IsR ((select b x y) ix0) := by
  pointwise
  unfold Scalar.select
  split
  · exact hx
  · exact hy

theorem largest_at (x : FVec Ideal S64 .f32) (v : FVec Ideal S_ .f32) :
    (Host.reduce (FloatOps.maximumf : Ideal .f32 → Ideal .f32 → Ideal .f32) x v reducesTo_S64_S_d0 h_S_) ix0
      = Finset.fold max (v (Shape.Idx.first h_S_)) (fun k => x (ix1 k)) Finset.univ := by
  pointwise

theorem largest_real (x : FVec Ideal S64 .f32) (hx : ∀ e, IsR (x (ix1 e))) :
    IsR ((Host.reduce (FloatOps.maximumf : Ideal .f32 → Ideal .f32 → Ideal .f32) (Host.absf x) (constant S_ .f32 0xFF800000#32) reducesTo_S64_S_d0 h_S_) ix0) := by
  rw [largest_at]
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  exact fold_max_real (n := 63) fun k => ((hx k).max (hx k).neg : IsR (max (x (ix1 k)) (-(x (ix1 k)))))

theorem bound_real (hq : ∀ e, IsR ((show FVec Ideal SG .f32 from V (Proc.devRef .tc main_arg1)) (ix1 e))) (hk : ∀ e, IsR ((show FVec Ideal SG .f32 from V (Proc.devRef .tc main_arg2)) (ix1 e))) :
    IsR ((show FVec Ideal S_ .f32 from StableHlo.after hostOps0 V (Proc.devRef .tc main_v56)) ix0) := by
  after_results
  have h : IsR (Ideal.ofBits .f32 0x413A82F9#32) := ⟨_, by simp [Ideal.ofBits, Ideal.ieee, -EReal.coe_mul]; rfl⟩
  exact (h.mul ((largest_real _ hq).mul (largest_real _ hk))).neg

theorem zero_real : IsR ((show FVec Ideal S_ .f32 from StableHlo.after hostOps0 V (Proc.devRef .tc main_cst_8)) ix0) := by
  after_results
  exact ⟨0, by show Ideal.ofBits .f32 0#32 = _; simp [Ideal.ofBits, Ideal.ieee]⟩

/-! ## At the preparation's entry -/

section
variable (m : (ℓ : Loc nD τ sig) → Buf (Elt Ideal) ℓ) (d : Dev nD)

/-- The arguments as the program finds them. -/
abbrev aU : FVec Ideal SU .f32 := m ((d.tc : Thread nD τ).loc main_arg0)
abbrev aQ : FVec Ideal SG .f32 := m ((d.tc : Thread nD τ).loc main_arg1)
abbrev aK : FVec Ideal SG .f32 := m ((d.tc : Thread nD τ).loc main_arg2)

theorem in_cos (t : Fin 4352) (c : Fin 2) (e : Fin 64) : (show FVec Ideal S4352x128 .f32 from V3 m d (Proc.devRef .tc main_v44)) (ix2 t (pl c e)) = cosT t e := by
  rw [V3_of m d main_v44 (by decide), V2_of m d main_v44 (by decide)]
  exact cos_tab _ t c e
theorem in_sin (t : Fin 4352) (c : Fin 2) (e : Fin 64) : (show FVec Ideal S4352x128 .f32 from V3 m d (Proc.devRef .tc main_v47)) (ix2 t (pl c e)) = sinT t e := by
  rw [V3_of m d main_v47 (by decide), V2_of m d main_v47 (by decide)]
  exact sin_tab _ t c e
theorem in_u : V3 m d (Proc.devRef .tc main_arg0) = aU m d :=
  (V3_of m d main_arg0 (by decide)).trans ((V2_of m d main_arg0 (by decide)).trans (V1_of m d main_arg0 (by decide)))
theorem in_gq (c : Fin 2) (e : Fin 64) : (show FVec Ideal S1x128 .f32 from V3 m d (Proc.devRef .tc main_v62)) (ix2 0 (pl c e)) = aQ m d (ix1 e) := by
  refine (gain_q (V2 m d) c e).trans ?_
  rw [V2_of m d main_arg1 (by decide), V1_of m d main_arg1 (by decide)]
theorem in_gk (c : Fin 2) (e : Fin 64) : (show FVec Ideal S1x128 .f32 from V3 m d (Proc.devRef .tc main_v66)) (ix2 0 (pl c e)) = aK m d (ix1 e) := by
  refine (gain_k (V2 m d) c e).trans ?_
  rw [V2_of m d main_arg2 (by decide), V1_of m d main_arg2 (by decide)]
theorem in_shift (hq : ∀ e, IsR (aQ m d (ix1 e))) (hk : ∀ e, IsR (aK m d (ix1 e))) :
    IsR ((show FVec Ideal S1x128 .f32 from V3 m d (Proc.devRef .tc main_v58)) (ix2 0 64)) := by
  have h : (show FVec Ideal S1x128 .f32 from V3 m d (Proc.devRef .tc main_v58)) (ix2 0 64)
      = (select (show Vec Ideal S_ .i1 from V1 m d (Proc.devRef .tc main_v55)) (show FVec Ideal S_ .f32 from V1 m d (Proc.devRef .tc main_v56)) (show FVec Ideal S_ .f32 from V1 m d (Proc.devRef .tc main_cst_8))) ix0 :=
    (shift_at (V2 m d)).trans (congrFun (select_at (V1 m d)) ix0)
  exact h ▸ pick_real _ _ _ (bound_real (V0 m d) hq hk) (zero_real (V0 m d))
end

end Cert.Proof.Att

end
-- ==== Proof.PrepTile.lean ====
/-
  The preparation's two result tiles at an index.
-/
module

public import proofs.«01_k».proof.Proof.PrepValue

@[expose] public section

set_option maxRecDepth 16384
set_option Elab.async false

noncomputable section

namespace Cert.Proof.Att

open Cert.KernelIdeal Cert.KernelIdeal.Gen
open Idealize.ShloMosaic Idealize.ShloMosaic.TcCoe
open Cert.Proof.AttSpec

/-- The scale of the queries. -/
def qScale : EReal := (((1 / 8) * (Real.log 2)⁻¹ : ℝ) : EReal)

/-- A query head's 128 lanes: the head scaled, the shift, zeros. -/
def qLane (σ : EReal) (Q : Fin 64 → EReal) (w : Fin 128) : EReal := if h : w.val < 64 then Q ⟨w.val, h⟩ * qScale else if w.val = 64 then σ else 0
/-- A key or value head's: the head, a one, zeros. -/
def kLane (K : Fin 64 → EReal) (w : Fin 128) : EReal := if h : w.val < 64 then K ⟨w.val, h⟩ else if w.val = 64 then 1 else 0

/-! ## Reads of the blocks -/

theorem ld_u (X : FVec Ideal S1x256x768 .f32) {o : ℕ} (inb : ∀ a : Fin 3, (![0, 0, o] : Fin 3 → ℕ) a + S1x256x128.size a ≤ S1x256x768.size a)
    (r : Fin 256) (k : Fin 128) (h : o + k.val < 768) :
    View.ld (Val := Elt Ideal) (e' := .f32) X (Rect.unit (s := S1x256x768) ![0, 0, o] S1x256x128.size inb) (ix3 0 r k) = X (ix3 0 r ⟨o + k.val, h⟩) := by
  refine congrArg X (funext fun i => ?_)
  fin_cases i
  · rfl
  · exact Fin.ext (by show 0 + 1 * r.val = r.val; omega)
  · exact Fin.ext (by show o + 1 * k.val = o + k.val; omega)
theorem ld_t (X : FVec Ideal S256x128 .f32) (r : Fin 256) (k : Fin 128) : View.ld (Val := Elt Ideal) (e' := .f32) X rt (ix2 r k) = X (ix2 r k) := by
  refine congrArg X (funext fun i => ?_)
  fin_cases i
  · exact Fin.ext (by show 0 + 1 * r.val = r.val; omega)
  · exact Fin.ext (by show 0 + 1 * k.val = k.val; omega)
theorem ld_g (X : FVec Ideal S1x128 .f32) (k : Fin 128) : View.ld (Val := Elt Ideal) (e' := .f32) X rg (ix2 0 k) = X (ix2 0 k) := by
  refine congrArg X (funext fun i => ?_)
  fin_cases i
  · rfl
  · exact Fin.ext (by show 0 + 1 * k.val = k.val; omega)

/-! ## Tiles made of side by side pieces -/

theorem q_canon (p0 p1 p2 p3 p4 p5 p6 p7 : FVec Ideal S1x256x128 .bf16) (h : Fin 8) (r : Fin 256) (w : Fin 128) :
    View.canon (Val := Elt Ideal) (s := S1x256x1024) (e := .bf16) [⟨rq7, p7⟩, ⟨rq6, p6⟩, ⟨rq5, p5⟩, ⟨rq4, p4⟩, ⟨rq3, p3⟩, ⟨rq2, p2⟩, ⟨rq1, p1⟩, ⟨rq0, p0⟩]
      (ix3 0 r ⟨128 * h.val + w.val, by omega⟩) = (![p0, p1, p2, p3, p4, p5, p6, p7] h) (ix3 0 r w) := by
  have key := View.canon_apply_of_pieces (Val := Elt Ideal) (S := S1x256x1024) (e := .bf16)
    (fun y => (![p0, p1, p2, p3, p4, p5, p6, p7] ⟨(y 2).val / 128, by have : (y 2).val < 1024 := (y 2).isLt; omega⟩) (ix3 0 (y 1) ⟨(y 2).val % 128, Nat.mod_lt _ (by decide)⟩))
    [⟨rq7, p7⟩, ⟨rq6, p6⟩, ⟨rq5, p5⟩, ⟨rq4, p4⟩, ⟨rq3, p3⟩, ⟨rq2, p2⟩, ⟨rq1, p1⟩, ⟨rq0, p0⟩] ?_ (ix3 0 r ⟨128 * h.val + w.val, by omega⟩) (cover_q (F := Ideal) p0 p1 p2 p3 p4 p5 p6 p7 _)
  · refine key.trans ?_
    have e1 : (⟨(128 * h.val + w.val) / 128, by omega⟩ : Fin 8) = h := Fin.ext (by show (128 * h.val + w.val) / 128 = h.val; omega)
    have e2 : (⟨(128 * h.val + w.val) % 128, by omega⟩ : Fin 128) = w := Fin.ext (by show (128 * h.val + w.val) % 128 = w.val; omega)
    exact congrArg₂ (fun (a : Fin 8) (b : Fin 128) => (![p0, p1, p2, p3, p4, p5, p6, p7] a) (ix3 0 r b)) e1 e2
  · intro pc hp
    have aux : ∀ (a : Fin 8) (o : ℕ) (inb : ∀ i : Fin 3, (![0, 0, o] : Fin 3 → ℕ) i + S1x256x128.size i ≤ S1x256x1024.size i) (ho : o = 128 * a.val) (x : S1x256x128.Idx),
        (![p0, p1, p2, p3, p4, p5, p6, p7] a) x = (![p0, p1, p2, p3, p4, p5, p6, p7] ⟨(((Rect.unit (s := S1x256x1024) ![0, 0, o] S1x256x128.size inb).emb x) 2).val / 128, by
          have : (((Rect.unit (s := S1x256x1024) ![0, 0, o] S1x256x128.size inb).emb x) 2).val < 1024 := (((Rect.unit (s := S1x256x1024) ![0, 0, o] S1x256x128.size inb).emb x) 2).isLt
          omega⟩)
          (ix3 0 (((Rect.unit (s := S1x256x1024) ![0, 0, o] S1x256x128.size inb).emb x) 1) ⟨(((Rect.unit (s := S1x256x1024) ![0, 0, o] S1x256x128.size inb).emb x) 2).val % 128, Nat.mod_lt _ (by decide)⟩) := by
      intro a o inb ho x
      have hx : (x 2).val < 128 := (x 2).isLt
      have hv : (((Rect.unit (s := S1x256x1024) ![0, 0, o] S1x256x128.size inb).emb x) 2).val = o + 1 * (x 2).val := rfl
      refine congrArg₂ (fun (a : Fin 8) (b : S1x256x128.Idx) => (![p0, p1, p2, p3, p4, p5, p6, p7] a) b) (Fin.ext (by show a.val = _ / 128; rw [hv]; omega)) (funext fun i => ?_)
      fin_cases i
      · exact Subsingleton.elim (α := Fin 1) _ _
      · exact Fin.ext (by show (x 1).val = 0 + 1 * (x 1).val; omega)
      · exact Fin.ext (by show (x 2).val = _ % 128; rw [hv]; omega)
    simp only [List.mem_cons, List.not_mem_nil, or_false] at hp
    rcases hp with rfl | rfl | rfl | rfl | rfl | rfl | rfl | rfl
    · exact aux 7 896 inb_S1x256x1024_S1x256x128_0_0_896 rfl
    · exact aux 6 768 inb_S1x256x1024_S1x256x128_0_0_768 rfl
    · exact aux 5 640 inb_S1x256x1024_S1x256x128_0_0_640 rfl
    · exact aux 4 512 inb_S1x256x1024_S1x256x128_0_0_512 rfl
    · exact aux 3 384 inb_S1x256x1024_S1x256x128_0_0_384 rfl
    · exact aux 2 256 inb_S1x256x1024_S1x256x128_0_0_256 rfl
    · exact aux 1 128 inb_S1x256x1024_S1x256x128_0_0_128 rfl
    · exact aux 0 0 inb_S1x256x1024_S1x256x128_0_0_0 rfl

theorem kv_canon (p0 p1 p2 p3 : FVec Ideal S1x256x128 .bf16) (h : Fin 4) (r : Fin 256) (w : Fin 128) :
    View.canon (Val := Elt Ideal) (s := S1x256x512) (e := .bf16) [⟨rk3, p3⟩, ⟨rk2, p2⟩, ⟨rk1, p1⟩, ⟨rk0, p0⟩]
      (ix3 0 r ⟨128 * h.val + w.val, by omega⟩) = (![p0, p1, p2, p3] h) (ix3 0 r w) := by
  have key := View.canon_apply_of_pieces (Val := Elt Ideal) (S := S1x256x512) (e := .bf16)
    (fun y => (![p0, p1, p2, p3] ⟨(y 2).val / 128, by have : (y 2).val < 512 := (y 2).isLt; omega⟩) (ix3 0 (y 1) ⟨(y 2).val % 128, Nat.mod_lt _ (by decide)⟩))
    [⟨rk3, p3⟩, ⟨rk2, p2⟩, ⟨rk1, p1⟩, ⟨rk0, p0⟩] ?_ (ix3 0 r ⟨128 * h.val + w.val, by omega⟩) (cover_kv (F := Ideal) p0 p1 p2 p3 _)
  · refine key.trans ?_
    have e1 : (⟨(128 * h.val + w.val) / 128, by omega⟩ : Fin 4) = h := Fin.ext (by show (128 * h.val + w.val) / 128 = h.val; omega)
    have e2 : (⟨(128 * h.val + w.val) % 128, by omega⟩ : Fin 128) = w := Fin.ext (by show (128 * h.val + w.val) % 128 = w.val; omega)
    exact congrArg₂ (fun (a : Fin 4) (b : Fin 128) => (![p0, p1, p2, p3] a) (ix3 0 r b)) e1 e2
  · intro pc hp
    have aux : ∀ (a : Fin 4) (o : ℕ) (inb : ∀ i : Fin 3, (![0, 0, o] : Fin 3 → ℕ) i + S1x256x128.size i ≤ S1x256x512.size i) (ho : o = 128 * a.val) (x : S1x256x128.Idx),
        (![p0, p1, p2, p3] a) x = (![p0, p1, p2, p3] ⟨(((Rect.unit (s := S1x256x512) ![0, 0, o] S1x256x128.size inb).emb x) 2).val / 128, by
          have : (((Rect.unit (s := S1x256x512) ![0, 0, o] S1x256x128.size inb).emb x) 2).val < 512 := (((Rect.unit (s := S1x256x512) ![0, 0, o] S1x256x128.size inb).emb x) 2).isLt
          omega⟩)
          (ix3 0 (((Rect.unit (s := S1x256x512) ![0, 0, o] S1x256x128.size inb).emb x) 1) ⟨(((Rect.unit (s := S1x256x512) ![0, 0, o] S1x256x128.size inb).emb x) 2).val % 128, Nat.mod_lt _ (by decide)⟩) := by
      intro a o inb ho x
      have hx : (x 2).val < 128 := (x 2).isLt
      have hv : (((Rect.unit (s := S1x256x512) ![0, 0, o] S1x256x128.size inb).emb x) 2).val = o + 1 * (x 2).val := rfl
      refine congrArg₂ (fun (a : Fin 4) (b : S1x256x128.Idx) => (![p0, p1, p2, p3] a) b) (Fin.ext (by show a.val = _ / 128; rw [hv]; omega)) (funext fun i => ?_)
      fin_cases i
      · exact Subsingleton.elim (α := Fin 1) _ _
      · exact Fin.ext (by show (x 1).val = 0 + 1 * (x 1).val; omega)
      · exact Fin.ext (by show (x 2).val = _ % 128; rw [hv]; omega)
    simp only [List.mem_cons, List.not_mem_nil, or_false] at hp
    rcases hp with rfl | rfl | rfl | rfl
    · exact aux 3 384 inb_S1x256x512_S1x256x128_0_0_384 rfl
    · exact aux 2 256 inb_S1x256x512_S1x256x128_0_0_256 rfl
    · exact aux 1 128 inb_S1x256x512_S1x256x128_0_0_128 rfl
    · exact aux 0 0 inb_S1x256x512_S1x256x128_0_0_0 rfl

/-! ## The heads in their lanes -/

section
variable (y fill : FVec Ideal S256x128 .f32) (r : Fin 256) (w : Fin 128)

theorem lo_q (s : FVec Ideal S1x128 .f32) (Q : Fin 64 → EReal) (hy : ∀ e, y (ix2 r (pl 0 e)) = Q e * qScale) :
    headLo (F := Ideal) y (fillQ s) (ix3 0 r w) = qLane (s (ix2 0 64)) Q w := by
  rw [headLo_at, fillQ_at]
  unfold qLane
  by_cases h : w.val < 64
  · rw [if_pos h, dif_pos h, ← hy]
    exact congrArg (fun w => y (ix2 r w)) (Fin.ext (by show w.val = 0 * 64 + w.val; omega))
  · rw [if_neg h, dif_neg h]
    by_cases h' : w.val = 64
    · rw [if_pos h', if_pos h']; exact congrArg (fun w => s (ix2 0 w)) (Fin.ext h')
    · rw [if_neg h', if_neg h']
theorem hi_q (s : FVec Ideal S1x128 .f32) (Q : Fin 64 → EReal) (hy : ∀ e, y (ix2 r (pl 1 e)) = Q e * qScale) :
    headHi (F := Ideal) y (fillQ s) (ix3 0 r w) = qLane (s (ix2 0 64)) Q w := by
  rw [headHi_at, fillQ_at]
  unfold qLane
  by_cases h : w.val < 64
  · rw [if_pos h, dif_pos h, ← hy]
    exact congrArg (fun w => y (ix2 r w)) (Fin.ext (by show (w.val + 64) % 128 = 1 * 64 + w.val; omega))
  · rw [if_neg h, dif_neg h]
    by_cases h' : w.val = 64
    · rw [if_pos h', if_pos h']; exact congrArg (fun w => s (ix2 0 w)) (Fin.ext h')
    · rw [if_neg h', if_neg h']
theorem lo_k (K : Fin 64 → EReal) (hy : ∀ e, y (ix2 r (pl 0 e)) = K e) : headLo (F := Ideal) y fillOne (ix3 0 r w) = kLane K w := by
  rw [headLo_at, fillOne_at]
  unfold kLane
  by_cases h : w.val < 64
  · rw [if_pos h, dif_pos h, ← hy]
    exact congrArg (fun w => y (ix2 r w)) (Fin.ext (by show w.val = 0 * 64 + w.val; omega))
  · rw [if_neg h, dif_neg h]
theorem hi_k (K : Fin 64 → EReal) (hy : ∀ e, y (ix2 r (pl 1 e)) = K e) : headHi (F := Ideal) y fillOne (ix3 0 r w) = kLane K w := by
  rw [headHi_at, fillOne_at]
  unfold kLane
  by_cases h : w.val < 64
  · rw [if_pos h, dif_pos h, ← hy]
    exact congrArg (fun w => y (ix2 r w)) (Fin.ext (by show (w.val + 64) % 128 = 1 * 64 + w.val; omega))
  · rw [if_neg h, dif_neg h]
end

/-! ## The tiles -/

variable (x0 : FVec Ideal S1x256x768 .f32) (x1 x2 : FVec Ideal S256x128 .f32) (x3 x4 x5 : FVec Ideal S1x128 .f32) (Gq Gk : FVec Ideal SG .f32)
  (r : Fin 256) (w : Fin 128) (t : Fin 4352)

theorem qOut_at (h : Fin 8) (hx : ∀ n : Fin 640, IsR (x0 (ix3 0 r ⟨n.val, by omega⟩))) (hg : ∀ c e, x3 (ix2 0 (pl c e)) = Gq (ix1 e))
    (hc : ∀ c e, x1 (ix2 r (pl c e)) = cosT t e) (hs : ∀ c e, x2 (ix2 r (pl c e)) = sinT t e) :
    qOut (F := Ideal) x0 x1 x2 x3 x4 x5 (ix3 0 r ⟨128 * h.val + w.val, by omega⟩)
      = qLane (x5 (ix2 0 64)) (posn (nrm (fun e => x0 (ix3 0 r ⟨h.val * 64 + e.val, by omega⟩)) Gq) t) w := by
  unfold qOut
  rw [q_canon]
  have aux : ∀ (o : ℕ) (inb : ∀ a : Fin 3, (![0, 0, o] : Fin 3 → ℕ) a + S1x256x128.size a ≤ S1x256x768.size a) (ho : o + 128 ≤ 512) (c : Fin 2) (e : Fin 64),
      queries (F := Ideal) (View.ld x0 (Rect.unit (s := S1x256x768) ![0, 0, o] S1x256x128.size inb)) (View.ld x1 rt) (View.ld x2 rt) (View.ld x3 rg) (ix2 r (pl c e))
        = posn (nrm (fun e => x0 (ix3 0 r ⟨o + (c.val * 64 + e.val), by omega⟩)) Gq) t e * qScale := by
    intro o inb ho c e
    rw [queries_at _ _ _ _ Gq r c e t]
    · refine congrArg (· * _) (congrArg (fun z => posn (nrm z Gq) t e) (funext fun e => ?_))
      exact ld_u x0 inb r (pl c e) _
    · intro k
      rw [ld_u x0 inb r k (by omega)]
      exact hx ⟨o + k.val, by omega⟩
    · intro e; rw [ld_g]; exact hg c e
    · intro e; rw [ld_t]; exact hc c e
    · intro e; rw [ld_t]; exact hs c e
  have h5 : View.ld (Val := Elt Ideal) (e' := .f32) x5 rg (ix2 0 64) = x5 (ix2 0 64) := ld_g x5 64
  rw [← h5]
  fin_cases h
  · refine lo_q _ r w _ _ fun e => (aux 0 inb_S1x256x768_S1x256x128_0_0_0 (by decide) 0 e).trans ?_
    exact congrArg (· * _) (congrArg (fun z => posn (nrm z Gq) t e) (funext fun e => congrArg (fun k => x0 (ix3 0 r k)) (Fin.ext (by show 0 + (0 * 64 + e.val) = 0 * 64 + e.val; omega))))
  · refine hi_q _ r w _ _ fun e => (aux 0 inb_S1x256x768_S1x256x128_0_0_0 (by decide) 1 e).trans ?_
    exact congrArg (· * _) (congrArg (fun z => posn (nrm z Gq) t e) (funext fun e => congrArg (fun k => x0 (ix3 0 r k)) (Fin.ext (by show 0 + (1 * 64 + e.val) = 1 * 64 + e.val; omega))))
  · refine lo_q _ r w _ _ fun e => (aux 128 inb_S1x256x768_S1x256x128_0_0_128 (by decide) 0 e).trans ?_
    exact congrArg (· * _) (congrArg (fun z => posn (nrm z Gq) t e) (funext fun e => congrArg (fun k => x0 (ix3 0 r k)) (Fin.ext (by show 128 + (0 * 64 + e.val) = 2 * 64 + e.val; omega))))
  · refine hi_q _ r w _ _ fun e => (aux 128 inb_S1x256x768_S1x256x128_0_0_128 (by decide) 1 e).trans ?_
    exact congrArg (· * _) (congrArg (fun z => posn (nrm z Gq) t e) (funext fun e => congrArg (fun k => x0 (ix3 0 r k)) (Fin.ext (by show 128 + (1 * 64 + e.val) = 3 * 64 + e.val; omega))))
  · refine lo_q _ r w _ _ fun e => (aux 256 inb_S1x256x768_S1x256x128_0_0_256 (by decide) 0 e).trans ?_
    exact congrArg (· * _) (congrArg (fun z => posn (nrm z Gq) t e) (funext fun e => congrArg (fun k => x0 (ix3 0 r k)) (Fin.ext (by show 256 + (0 * 64 + e.val) = 4 * 64 + e.val; omega))))
  · refine hi_q _ r w _ _ fun e => (aux 256 inb_S1x256x768_S1x256x128_0_0_256 (by decide) 1 e).trans ?_
    exact congrArg (· * _) (congrArg (fun z => posn (nrm z Gq) t e) (funext fun e => congrArg (fun k => x0 (ix3 0 r k)) (Fin.ext (by show 256 + (1 * 64 + e.val) = 5 * 64 + e.val; omega))))
  · refine lo_q _ r w _ _ fun e => (aux 384 inb_S1x256x768_S1x256x128_0_0_384 (by decide) 0 e).trans ?_
    exact congrArg (· * _) (congrArg (fun z => posn (nrm z Gq) t e) (funext fun e => congrArg (fun k => x0 (ix3 0 r k)) (Fin.ext (by show 384 + (0 * 64 + e.val) = 6 * 64 + e.val; omega))))
  · refine hi_q _ r w _ _ fun e => (aux 384 inb_S1x256x768_S1x256x128_0_0_384 (by decide) 1 e).trans ?_
    exact congrArg (· * _) (congrArg (fun z => posn (nrm z Gq) t e) (funext fun e => congrArg (fun k => x0 (ix3 0 r k)) (Fin.ext (by show 384 + (1 * 64 + e.val) = 7 * 64 + e.val; omega))))

theorem kOut_at (j : Fin 2) (hx : ∀ n : Fin 640, IsR (x0 (ix3 0 r ⟨n.val, by omega⟩))) (hg : ∀ c e, x4 (ix2 0 (pl c e)) = Gk (ix1 e))
    (hc : ∀ c e, x1 (ix2 r (pl c e)) = cosT t e) (hs : ∀ c e, x2 (ix2 r (pl c e)) = sinT t e) :
    kvOut (F := Ideal) x0 x1 x2 x3 x4 x5 (ix3 0 r ⟨128 * j.val + w.val, by omega⟩)
      = kLane (posn (nrm (fun e => x0 (ix3 0 r ⟨512 + (j.val * 64 + e.val), by omega⟩)) Gk) t) w := by
  unfold kvOut
  refine (kv_canon _ _ _ _ ⟨j.val, by omega⟩ r w).trans ?_
  have aux : ∀ (c : Fin 2) (e : Fin 64), keys (F := Ideal) (View.ld x0 ru4) (View.ld x1 rt) (View.ld x2 rt) (View.ld x4 rg) (ix2 r (pl c e))
        = posn (nrm (fun e => x0 (ix3 0 r ⟨512 + (c.val * 64 + e.val), by omega⟩)) Gk) t e := by
    intro c e
    rw [keys_at _ _ _ _ Gk r c e t]
    · refine (congrArg (fun z => posn (nrm z Gk) t e) (funext fun e => ?_))
      exact ld_u x0 _ r (pl c e) _
    · intro k
      refine (congrArg IsR (ld_u x0 _ r k (by omega))).mpr ?_
      exact hx ⟨512 + k.val, by omega⟩
    · intro e; rw [ld_g]; exact hg c e
    · intro e; rw [ld_t]; exact hc c e
    · intro e; rw [ld_t]; exact hs c e
  fin_cases j
  · exact lo_k _ r w _ fun e => aux 0 e
  · exact hi_k _ r w _ fun e => aux 1 e

theorem vOut_at (j : Fin 2) :
    kvOut (F := Ideal) x0 x1 x2 x3 x4 x5 (ix3 0 r ⟨128 * (2 + j.val) + w.val, by omega⟩)
      = kLane (fun e => x0 (ix3 0 r ⟨640 + (j.val * 64 + e.val), by omega⟩)) w := by
  unfold kvOut
  refine (kv_canon _ _ _ _ ⟨2 + j.val, by omega⟩ r w).trans ?_
  have aux : ∀ (c : Fin 2) (e : Fin 64), k0_pay49 (F := Ideal) (View.ld x0 ru5) (ix2 r (pl c e)) = x0 (ix3 0 r ⟨640 + (c.val * 64 + e.val), by omega⟩) := by
    intro c e
    rw [pay49_at]
    exact ld_u x0 _ r (pl c e) _
  fin_cases j
  · exact lo_k _ r w _ fun e => aux 0 e
  · exact hi_k _ r w _ fun e => aux 1 e

end Cert.Proof.Att

end
-- ==== Proof.PrepArray.lean ====
/-
  The preparation's two arrays: the queries, and the keys and values, in their lanes.
-/
module

public import proofs.«01_k».proof.Proof.Dats0
public import proofs.«01_k».proof.Proof.HostShift
public import proofs.«01_k».proof.Proof.PrepTile
public import Idealize.ShloMosaic.Lib.Pipeline.Value
public import Idealize.ShloMosaic.Lib.Pipeline.ValueKit

@[expose] public section

set_option maxRecDepth 16384
set_option Elab.async false

noncomputable section

namespace Cert.Proof.Att

open Cert.KernelIdeal Cert.KernelIdeal.Gen
open Idealize.ShloMosaic Idealize.ShloMosaic.TcCoe Idealize.SL.Sem
open Idealize.ShloMosaic.Pipeline (Dat Cfg Window)
open Cert.Proof.AttSpec

/-- Where the windows' blocks sit at point `t`: sample `t / 17`, row tile `t % 17`. -/
theorem idx0 : ∀ t : Fin cfg0.N, win0_0.index t = ![t.val / 17 % 8, t.val % 17, 4]
    ∧ win0_1.index t = ![t.val % 17, 0] ∧ win0_2.index t = ![t.val % 17, 0] ∧ win0_3.index t = ![0, 0] ∧ win0_4.index t = ![0, 0] ∧ win0_5.index t = ![0, 0]
    ∧ win0_6.index t = ![t.val / 17 % 8, t.val % 17, 0] ∧ win0_7.index t = ![t.val / 17 % 8, t.val % 17, 0] :=
  (by decide +kernel : ∀ t : Fin grid0.N, _)

/-- The sample and the row of a block's row. -/
abbrev smp0 (t : Fin cfg0.N) : Fin 8 := ⟨t.val / 17 % 8, by omega⟩
abbrev rowOf (t : Fin cfg0.N) (r : Fin 256) : Fin 4352 := ⟨t.val % 17 * 256 + r.val, by omega⟩

section
variable (V : Dev nD → Valuation τ sig (Elt Ideal)) (c : Dev nD) (t : Fin cfg0.N)

theorem blk_u (r : Fin 256) (n : Fin 768) : (show FVec Ideal S1x256x768 .f32 from block0 V c 0 t) (ix3 0 r n)
    = (show FVec Ideal SU .f32 from V c (Proc.devRef .tc main_arg0)) (ix3 (smp0 t) (rowOf t r) ⟨3072 + n.val, by omega⟩) := by
  blk_ext [block0, idx0 t]
theorem blk_cos (r : Fin 256) (n : Fin 128) : (show FVec Ideal S256x128 .f32 from block0 V c 1 t) (ix2 r n)
    = (show FVec Ideal S4352x128 .f32 from V c (Proc.devRef .tc main_v44)) (ix2 (rowOf t r) n) := by
  blk_ext [block0, idx0 t]
theorem blk_sin (r : Fin 256) (n : Fin 128) : (show FVec Ideal S256x128 .f32 from block0 V c 2 t) (ix2 r n)
    = (show FVec Ideal S4352x128 .f32 from V c (Proc.devRef .tc main_v47)) (ix2 (rowOf t r) n) := by
  blk_ext [block0, idx0 t]
theorem blk_gq (n : Fin 128) : (show FVec Ideal S1x128 .f32 from block0 V c 3 t) (ix2 0 n)
    = (show FVec Ideal S1x128 .f32 from V c (Proc.devRef .tc main_v62)) (ix2 0 n) := by
  blk_ext [block0, idx0 t]
theorem blk_gk (n : Fin 128) : (show FVec Ideal S1x128 .f32 from block0 V c 4 t) (ix2 0 n)
    = (show FVec Ideal S1x128 .f32 from V c (Proc.devRef .tc main_v66)) (ix2 0 n) := by
  blk_ext [block0, idx0 t]
theorem blk_shift (n : Fin 128) : (show FVec Ideal S1x128 .f32 from block0 V c 5 t) (ix2 0 n)
    = (show FVec Ideal S1x128 .f32 from V c (Proc.devRef .tc main_v58)) (ix2 0 n) := by
  blk_ext [block0, idx0 t]
end

variable (m : (ℓ : Loc nD τ sig) → Buf (Elt Ideal) ℓ) (c : Dev nD)

/-- The shift that lane 64 of every query carries. -/
def shiftA : EReal := (show FVec Ideal S1x128 .f32 from V3 m c (Proc.devRef .tc main_v58)) (ix2 0 64)

/-- The queries, -/
def GQ : FVec Ideal S8x4352x1024 .bf16 := fun y =>
  qLane (shiftA m c) (query (aU m c) (aQ m c) (y 0) ⟨(y 2).val / 128, by have : (y 2).val < 1024 := (y 2).isLt; omega⟩ (y 1)) ⟨(y 2).val % 128, by omega⟩
/-- the keys and values. -/
def GKV : FVec Ideal S8x4352x512 .bf16 := fun y =>
  if h : (y 2).val / 128 < 2 then kLane (key (aU m c) (aK m c) (y 0) ⟨(y 2).val / 128, h⟩ (y 1)) ⟨(y 2).val % 128, by omega⟩
  else kLane (value (aU m c) (y 0) ⟨(y 2).val / 128 - 2, by have : (y 2).val < 512 := (y 2).isLt; omega⟩ (y 1)) ⟨(y 2).val % 128, by omega⟩

/-- The columns the preparation reads are real numbers. -/
abbrev RealCols (u : FVec Ideal SU .f32) : Prop := ∀ (b : Fin 8) (t : Fin 4352) (n : Fin 640), IsR (u (ix3 b t ⟨3072 + n.val, by omega⟩))

theorem real_of_eq {x y : EReal} (h : x = y) (hy : IsR y) : IsR x := h ▸ hy

section
variable (t : Fin cfg0.N) (r : Fin 256) (w : Fin 128)

theorem q_point (hu : RealCols (aU m c)) (h : Fin 8) :
    (show FVec Ideal S1x256x1024 .bf16 from q0At (V3 m) c t) (ix3 0 r ⟨128 * h.val + w.val, by omega⟩)
      = qLane (shiftA m c) (query (aU m c) (aQ m c) (smp0 t) h (rowOf t r)) w := by
  have hx : ∀ n, (show FVec Ideal S1x256x768 .f32 from block0 (V3 m) c 0 t) (ix3 0 r n) = aU m c (ix3 (smp0 t) (rowOf t r) ⟨3072 + n.val, by omega⟩) :=
    fun n => (blk_u (V3 m) c t r n).trans (congrFun (in_u m c) _)
  refine (qOut_at _ _ _ _ _ _ (aQ m c) r w (rowOf t r) h (fun n => ?_) (fun k e => (blk_gq (V3 m) c t _).trans (in_gq m c k e))
    (fun k e => (blk_cos (V3 m) c t r _).trans (in_cos m c _ k e)) (fun k e => (blk_sin (V3 m) c t r _).trans (in_sin m c _ k e))).trans ?_
  · exact real_of_eq (hx ⟨n.val, by omega⟩) (hu _ _ n)
  · refine congrArg₂ (fun σ (z : Fin 64 → EReal) => qLane σ (posn (nrm z (aQ m c)) (rowOf t r)) w) (blk_shift (V3 m) c t 64) (funext fun e => hx _)

theorem k_point (hu : RealCols (aU m c)) (j : Fin 2) :
    (show FVec Ideal S1x256x512 .bf16 from kv0At (V3 m) c t) (ix3 0 r ⟨128 * j.val + w.val, by omega⟩)
      = kLane (key (aU m c) (aK m c) (smp0 t) j (rowOf t r)) w := by
  have hx : ∀ n, (show FVec Ideal S1x256x768 .f32 from block0 (V3 m) c 0 t) (ix3 0 r n) = aU m c (ix3 (smp0 t) (rowOf t r) ⟨3072 + n.val, by omega⟩) :=
    fun n => (blk_u (V3 m) c t r n).trans (congrFun (in_u m c) _)
  refine (kOut_at _ _ _ _ _ _ (aK m c) r w (rowOf t r) j (fun n => ?_) (fun k e => (blk_gk (V3 m) c t _).trans (in_gk m c k e))
    (fun k e => (blk_cos (V3 m) c t r _).trans (in_cos m c _ k e)) (fun k e => (blk_sin (V3 m) c t r _).trans (in_sin m c _ k e))).trans ?_
  · exact real_of_eq (hx ⟨n.val, by omega⟩) (hu _ _ n)
  · refine congrArg (fun (z : Fin 64 → EReal) => kLane (posn (nrm z (aK m c)) (rowOf t r)) w) (funext fun e => (hx _).trans ?_)
    exact congrArg (fun n => aU m c (ix3 (smp0 t) (rowOf t r) n)) (Fin.ext (by show 3072 + (512 + (j.val * 64 + e.val)) = 3584 + (j.val * 64 + e.val); omega))

theorem v_point (j : Fin 2) :
    (show FVec Ideal S1x256x512 .bf16 from kv0At (V3 m) c t) (ix3 0 r ⟨128 * (2 + j.val) + w.val, by omega⟩)
      = kLane (value (aU m c) (smp0 t) j (rowOf t r)) w := by
  have hx : ∀ n, (show FVec Ideal S1x256x768 .f32 from block0 (V3 m) c 0 t) (ix3 0 r n) = aU m c (ix3 (smp0 t) (rowOf t r) ⟨3072 + n.val, by omega⟩) :=
    fun n => (blk_u (V3 m) c t r n).trans (congrFun (in_u m c) _)
  refine (vOut_at _ _ _ _ _ _ r w j).trans ?_
  refine congrArg (fun (z : Fin 64 → EReal) => kLane z w) (funext fun e => (hx _).trans ?_)
  exact congrArg (fun n => aU m c (ix3 (smp0 t) (rowOf t r) n)) (Fin.ext (by show 3072 + (640 + (j.val * 64 + e.val)) = 3712 + (j.val * 64 + e.val); omega))
end

theorem emb6 (t : Fin cfg0.N) (r : Fin 256) (n : Fin 1024) : GQ m c (((cfg0.win (6 : Fin 8)).blk t).view.emb (ix3 0 r n)) = GQ m c (ix3 (smp0 t) (rowOf t r) n) := by
  refine congrArg (GQ m c) ?_
  blk_ext [idx0 t]
theorem emb7 (t : Fin cfg0.N) (r : Fin 256) (n : Fin 512) : GKV m c (((cfg0.win (7 : Fin 8)).blk t).view.emb (ix3 0 r n)) = GKV m c (ix3 (smp0 t) (rowOf t r) n) := by
  refine congrArg (GKV m c) ?_
  blk_ext [idx0 t]

/-- An index of a tile, by its row, head and lane. -/
theorem tile_idx {N : ℕ} (y : (⟨3, ![1, 256, 128 * N]⟩ : Shape).Idx) : ∃ (r : Fin 256) (h : Fin N) (w : Fin 128), y = ix3 0 r ⟨128 * h.val + w.val, by have := h.isLt; omega⟩ := by
  have h2 : (y 2).val < 128 * N := (y 2).isLt
  refine ⟨y 1, ⟨(y 2).val / 128, by omega⟩, ⟨(y 2).val % 128, by omega⟩, funext fun i => ?_⟩
  fin_cases i
  · exact Subsingleton.elim (α := Fin 1) _ _
  · rfl
  · exact Fin.ext (by show (y 2).val = 128 * ((y 2).val / 128) + (y 2).val % 128; omega)

theorem final6 (hu : RealCols (aU m c)) : (dats0 (V3 m) c).arrAt (6 : Fin 8) cfg0.N = GQ m c := by
  refine (dats0 (V3 m) c).arrAt_eq_of_covers 6 _ (by decide +kernel) fun t _ y => ?_
  blk_simp
  rw [after0_6]
  obtain ⟨r, h, w, rfl⟩ := tile_idx (N := 8) y
  refine (q_point m c t r w hu h).trans (Eq.trans ?_ (emb6 m c t r _).symm)
  unfold GQ
  refine congrArg₂ (fun h w => qLane (shiftA m c) (query (aU m c) (aQ m c) (smp0 t) h (rowOf t r)) w) (Fin.ext ?_) (Fin.ext ?_)
  · show h.val = (128 * h.val + w.val) / 128; omega
  · show w.val = (128 * h.val + w.val) % 128; omega

theorem final7 (hu : RealCols (aU m c)) : (dats0 (V3 m) c).arrAt (7 : Fin 8) cfg0.N = GKV m c := by
  refine (dats0 (V3 m) c).arrAt_eq_of_covers 7 _ (by decide +kernel) fun t _ y => ?_
  blk_simp
  rw [after0_7]
  obtain ⟨r, h, w, rfl⟩ := tile_idx (N := 4) y
  refine Eq.trans ?_ (emb7 m c t r _).symm
  have hw : (128 * h.val + w.val) % 128 = w.val := by omega
  have hh : (128 * h.val + w.val) / 128 = h.val := by omega
  unfold GKV
  by_cases h2 : h.val < 2
  · refine (k_point m c t r w hu ⟨h.val, h2⟩).trans ?_
    rw [dif_pos (by show (128 * h.val + w.val) / 128 < 2; omega)]
    refine congrArg₂ (fun j w => kLane (key (aU m c) (aK m c) (smp0 t) j (rowOf t r)) w) (Fin.ext hh.symm) (Fin.ext hw.symm)
  · have he : h = ⟨2 + (h.val - 2), by omega⟩ := Fin.ext (by show h.val = 2 + (h.val - 2); omega)
    refine Eq.trans (congrArg (fun h : Fin 4 => (show FVec Ideal S1x256x512 .bf16 from kv0At (V3 m) c t) (ix3 0 r ⟨128 * h.val + w.val, by omega⟩)) he) ?_
    refine (v_point m c t r w ⟨h.val - 2, by omega⟩).trans ?_
    rw [dif_neg (by show ¬ (128 * h.val + w.val) / 128 < 2; omega)]
    refine congrArg₂ (fun j w => kLane (value (aU m c) (smp0 t) j (rowOf t r)) w) (Fin.ext ?_) (Fin.ext hw.symm)
    show h.val - 2 = (128 * h.val + w.val) / 128 - 2
    omega

end Cert.Proof.Att

end
-- ==== Proof.TilePoint.lean ====
/-
  One tile of the attention at one row and lane, over the extended reals.
-/
module

public import proofs.«01_k».proof.Proof.Tiles
public import proofs.«01_k».proof.Proof.AttSpec
public import proofs.«01_k».proof.Proof.AttReal
public import Idealize.ShloMosaic.Lib.Pointwise

@[expose] public section

set_option maxRecDepth 16384
set_option Elab.async false

noncomputable section

namespace Cert.Proof.Att

open Cert.KernelIdeal Cert.KernelIdeal.Gen
open Idealize.ShloMosaic Idealize.ShloMosaic.TcCoe
open Cert.Proof.AttSpec

/-! ## The vector functions -/

section
variable (q : FVec Ideal S512x128 .bf16) (k v : FVec Ideal S1x256x128 .bf16) (acc m : FVec Ideal S512x128 .f32) (s : FVec Ideal S512x256 .f32)
  (M : FVec Ideal S512x1 .f32) (R : Fin 512) (l : Fin 128) (n : Fin 256) (d : Fin 64)

theorem scores_at : scores (F := Ideal) q k (ix2 R n) = ∑ w : Fin 128, q (ix2 R w) * k (ix3 0 n w) := by
  pointwise [scores]
theorem addValues_at : addValues (F := Ideal) acc s v (ix2 R l) = acc (ix2 R l) + ∑ n : Fin 256, Ideal.exp2 (s (ix2 R n)) * v (ix3 0 n l) := by
  pointwise [addValues]
  rfl
theorem stepFree_at : stepFree (F := Ideal) q M acc k v (ix2 R l)
    = acc (ix2 R l) + ∑ n : Fin 256, Ideal.exp2 ((∑ w : Fin 128, q (ix2 R w) * k (ix3 0 n w)) - M (ix2 R 0)) * v (ix3 0 n l) := by
  unfold stepFree
  rw [addValues_at]
  refine congrArg (_ + ·) (Finset.sum_congr rfl fun n _ => congrArg (Ideal.exp2 · * _) ?_)
  rw [← scores_at]
  pointwise
theorem stepBounded_at : stepBounded (F := Ideal) q acc k v (ix2 R l)
    = acc (ix2 R l) + ∑ n : Fin 256, Ideal.exp2 (∑ w : Fin 128, q (ix2 R w) * k (ix3 0 n w)) * v (ix3 0 n l) := by
  unfold stepBounded
  rw [addValues_at]
  refine congrArg (_ + ·) (Finset.sum_congr rfl fun n _ => congrArg (Ideal.exp2 · * _) ?_)
  rw [scores_at]
theorem maxStep_at : maxStep (F := Ideal) q m k (ix2 R l)
    = max (max (m (ix2 R l)) (scores (F := Ideal) q k (ix2 R ⟨l.val, by omega⟩))) (scores (F := Ideal) q k (ix2 R ⟨128 + l.val, by omega⟩)) := by
  unfold maxStep
  generalize scores (F := Ideal) q k = S
  pointwise
theorem rowMax_at : rowMax (F := Ideal) m (ix2 R 0) = Finset.fold max ⊥ (fun l : Fin 128 => m (ix2 R l)) Finset.univ := by
  have h : Ideal.ofBits .f32 0xFF800000#32 = ⊥ := by simp [Ideal.ofBits, Ideal.ieee]
  rw [← h]
  pointwise [rowMax]
theorem quotient_at : quotient (F := Ideal) acc (ix2 R d) = Ideal.div (acc (ix2 R ⟨d.val, by omega⟩)) (acc (ix2 R 64)) := by
  pointwise [quotient]
theorem acc0_at : acc0 (F := Ideal) (ix2 R l) = 0 := by
  pointwise [acc0]
theorem max0_at : max0 (F := Ideal) (ix2 R l) = ⊥ := by
  have h : Ideal.ofBits .f32 0xFF800000#32 = ⊥ := by simp [Ideal.ofBits, Ideal.ieee]
  rw [← h]
  rfl
theorem head0_at (o : FVec Ideal S512x64 .f32) (r : Fin 128) : head0 (F := Ideal) o (ix3 0 r d) = o (ix2 ⟨r.val, by omega⟩ d) := by
  pointwise [head0]
theorem head1_at (o : FVec Ideal S512x64 .f32) (r : Fin 128) : head1 (F := Ideal) o (ix3 0 r d) = o (ix2 ⟨128 + r.val, by omega⟩ d) := by
  pointwise [head1]
theorem head2_at (o : FVec Ideal S512x64 .f32) (r : Fin 128) : head2 (F := Ideal) o (ix3 0 r d) = o (ix2 ⟨256 + r.val, by omega⟩ d) := by
  pointwise [head2]
theorem head3_at (o : FVec Ideal S512x64 .f32) (r : Fin 128) : head3 (F := Ideal) o (ix3 0 r d) = o (ix2 ⟨384 + r.val, by omega⟩ d) := by
  pointwise [head3]
theorem groupRows_at (a0 a1 a2 a3 : FVec Ideal S1x128x128 .bf16) (r : Fin 128) :
    groupRows (F := Ideal) a0 a1 a2 a3 (ix2 ⟨r.val, by omega⟩ l) = a0 (ix3 0 r l) ∧ groupRows (F := Ideal) a0 a1 a2 a3 (ix2 ⟨128 + r.val, by omega⟩ l) = a1 (ix3 0 r l)
      ∧ groupRows (F := Ideal) a0 a1 a2 a3 (ix2 ⟨256 + r.val, by omega⟩ l) = a2 (ix3 0 r l) ∧ groupRows (F := Ideal) a0 a1 a2 a3 (ix2 ⟨384 + r.val, by omega⟩ l) = a3 (ix3 0 r l) := by
  refine ⟨?_, ?_, ?_, ?_⟩ <;> pointwise [groupRows]
  · rw [dif_neg (by omega), dif_neg (by omega), dif_pos (by omega)]
    exact congrArg (fun r => a2 (ix3 0 r l)) (Fin.ext (by show 256 + r.val - 128 - 128 = r.val; omega))
  · rw [dif_neg (by omega), dif_neg (by omega), dif_neg (by omega)]
    exact congrArg (fun r => a3 (ix3 0 r l)) (Fin.ext (by show 384 + r.val - 128 - 128 - 128 = r.val; omega))
end

end Cert.Proof.Att

end
-- ==== Proof.TileSum.lean ====
/-
  A group's result as a weighted mean over the keys.
-/
module

public import proofs.«01_k».proof.Proof.TilePoint

@[expose] public section

set_option maxRecDepth 16384
set_option Elab.async false

noncomputable section

namespace Cert.Proof.Att

open Cert.KernelIdeal Cert.KernelIdeal.Gen
open Idealize.ShloMosaic Idealize.ShloMosaic.TcCoe
open Cert.Proof.AttSpec

variable (q : FVec Ideal S512x128 .bf16) (x1 : FVec Ideal S1x4352x512 .bf16) (jk jv : Fin 4) (R : Fin 512)

/-- Row `k` of the keys' and values' array, lane `w` of part `j`. -/
def kvAt (j : Fin 4) (k : Fin 4352) (w : Fin 128) : EReal := x1 (ix3 0 k ⟨128 * j.val + w.val, by omega⟩)

/-- Row `R`'s exponent against key `k`. -/
def expo (k : Fin 4352) : EReal := ∑ w : Fin 128, q (ix2 R w) * kvAt x1 jk k w

/-- The row of position `n` in tile `c`. -/
def tileRow (c : Fin 17) (n : Fin 256) : Fin 4352 := ⟨c.val * 256 + n.val, by omega⟩

theorem kvTile_at (c : Fin 17) (j : Fin 4) (n : Fin 256) (w : Fin 128) : kvTile (F := Ideal) x1 c j (ix3 0 n w) = kvAt x1 j (tileRow c n) w := by
  refine congrArg x1 (funext fun i => ?_)
  fin_cases i
  · rfl
  · exact Fin.ext (by show 256 * c.val + 1 * n.val = c.val * 256 + n.val; omega)
  · exact Fin.ext (by show 128 * j.val + 1 * w.val = 128 * j.val + w.val; omega)

theorem scoresTile_at (c : Fin 17) (n : Fin 256) : scores (F := Ideal) q (kvTile x1 c jk) (ix2 R n) = expo q x1 jk R (tileRow c n) := by
  rw [scores_at]
  exact Finset.sum_congr rfl fun w _ => congrArg (_ * ·) (kvTile_at x1 c jk n w)

/-! ## The accumulator -/

theorem boundedStep (c : Fin 17) (acc : FVec Ideal S512x128 .f32) (l : Fin 128) :
    stepBounded (F := Ideal) q acc (kvTile x1 c jk) (kvTile x1 c jv) (ix2 R l)
      = acc (ix2 R l) + ∑ n : Fin 256, Ideal.exp2 (expo q x1 jk R (tileRow c n)) * kvAt x1 jv (tileRow c n) l := by
  unfold stepBounded
  rw [addValues_at]
  exact congrArg (_ + ·) (Finset.sum_congr rfl fun n _ => congrArg₂ (Ideal.exp2 · * ·) (scoresTile_at q x1 jk R c n) (kvTile_at x1 c jv n l))

theorem freeStep (M : FVec Ideal S512x1 .f32) (c : Fin 17) (acc : FVec Ideal S512x128 .f32) (l : Fin 128) :
    stepFree (F := Ideal) q M acc (kvTile x1 c jk) (kvTile x1 c jv) (ix2 R l)
      = acc (ix2 R l) + ∑ n : Fin 256, Ideal.exp2 (expo q x1 jk R (tileRow c n) - M (ix2 R 0)) * kvAt x1 jv (tileRow c n) l := by
  rw [stepFree_at]
  refine congrArg (_ + ·) (Finset.sum_congr rfl fun n _ => congrArg₂ (Ideal.exp2 · * ·) (congrArg (· - _) ?_) (kvTile_at x1 c jv n l))
  exact Finset.sum_congr rfl fun w _ => congrArg (_ * ·) (kvTile_at x1 c jk n w)

/-- A run of steps that each add a term adds their sum. -/
theorem fold_add (step : FVec Ideal S512x128 .f32 → Fin 17 → FVec Ideal S512x128 .f32) (l : Fin 128) (f : Fin 17 → EReal)
    (h : ∀ acc c, step acc c (ix2 R l) = acc (ix2 R l) + f c) (cs : List (Fin 17)) (a : FVec Ideal S512x128 .f32) :
    cs.foldl step a (ix2 R l) = a (ix2 R l) + (cs.map f).sum := by
  induction cs generalizing a with
  | nil => simp
  | cons c cs ih => rw [List.foldl_cons, ih, h, List.map_cons, List.sum_cons, add_assoc]

theorem sum_all (f : Fin 4352 → EReal) : (allTiles.map fun c => ∑ n : Fin 256, f (tileRow c n)).sum = ∑ k, f k := by
  rw [Fin.sum_univ_tiles 17 256 rfl f, Fin.sum_univ_def]
  rfl

theorem sum_first (f : Fin 4352 → EReal) : (([0] : List (Fin 17)).map fun c => ∑ n : Fin 256, f (tileRow c n)).sum = ∑ k : Fin 256, f (ctxRow k) := by
  rw [List.map_cons, List.map_nil, List.sum_cons, List.sum_nil, add_zero]
  exact Finset.sum_congr rfl fun n _ => congrArg f (Fin.ext (by show 0 * 256 + n.val = n.val; omega))

/-! ## The maximum is real -/

theorem max_fold (cs : List (Fin 17)) (l : Fin 128) (hs : ∀ k, IsR (expo q x1 jk R k)) (m : FVec Ideal S512x128 .f32)
    (hm : m (ix2 R l) = ⊥ ∨ IsR (m (ix2 R l))) (hc : cs ≠ [] ∨ IsR (m (ix2 R l))) :
    IsR (cs.foldl (fun m c => maxStep q m (kvTile x1 c jk)) m (ix2 R l)) := by
  induction cs generalizing m with
  | nil => exact hc.resolve_left (fun h => h rfl)
  | cons c cs ih =>
    have hr : IsR (maxStep (F := Ideal) q m (kvTile x1 c jk) (ix2 R l)) := by
      rw [maxStep_at, scoresTile_at, scoresTile_at]
      refine IsR.max ?_ (hs _)
      rcases hm with h | h
      · rw [h, bot_sup_eq]; exact hs _
      · exact h.max (hs _)
    exact ih _ (.inr hr) (.inr hr)

theorem rowMax_real (cs : List (Fin 17)) (hc : cs ≠ []) (hs : ∀ k, IsR (expo q x1 jk R k)) :
    IsR (rowMax (F := Ideal) (cs.foldl (fun m c => maxStep q m (kvTile x1 c jk)) max0) (ix2 R 0)) := by
  rw [rowMax_at]
  exact fold_max_real fun l => max_fold q x1 jk R cs l hs _ (.inl (max0_at R l)) (.inl hc)

/-! ## The groups -/

variable (d : Fin 64)

theorem bounded_all (h1 : ∀ k, kvAt x1 jv k 64 = 1) :
    groupBounded (F := Ideal) q x1 jk jv allTiles (ix2 R d) = mean2 (expo q x1 jk R) fun k => kvAt x1 jv k ⟨d.val, by omega⟩ := by
  unfold groupBounded mean2
  rw [quotient_at, fold_add R _ _ _ (fun acc c => boundedStep q x1 jk jv R c acc _), fold_add R _ _ _ (fun acc c => boundedStep q x1 jk jv R c acc _), acc0_at, acc0_at,
    zero_add, zero_add, sum_all (fun k => Ideal.exp2 (expo q x1 jk R k) * kvAt x1 jv k ⟨d.val, by omega⟩), sum_all (fun k => Ideal.exp2 (expo q x1 jk R k) * kvAt x1 jv k 64)]
  refine congrArg _ (Finset.sum_congr rfl fun k _ => ?_)
  rw [h1, mul_one]

theorem free_all (hs : ∀ k, IsR (expo q x1 jk R k)) (h1 : ∀ k, kvAt x1 jv k 64 = 1) :
    ∃ M, IsR M ∧ groupFree (F := Ideal) q x1 jk jv allTiles (ix2 R d) = mean2 (fun k => expo q x1 jk R k - M) fun k => kvAt x1 jv k ⟨d.val, by omega⟩ := by
  refine ⟨_, rowMax_real q x1 jk R allTiles (by simp) hs, ?_⟩
  unfold groupFree mean2
  dsimp only
  generalize rowMax (F := Ideal) (allTiles.foldl (fun m c => maxStep q m (kvTile x1 c jk)) max0) = M
  rw [quotient_at, fold_add R _ _ _ (fun acc c => freeStep q x1 jk jv R M c acc _), fold_add R _ _ _ (fun acc c => freeStep q x1 jk jv R M c acc _), acc0_at, acc0_at,
    zero_add, zero_add, sum_all (fun k => Ideal.exp2 (expo q x1 jk R k - M (ix2 R 0)) * kvAt x1 jv k ⟨d.val, by omega⟩),
    sum_all (fun k => Ideal.exp2 (expo q x1 jk R k - M (ix2 R 0)) * kvAt x1 jv k 64)]
  refine congrArg _ (Finset.sum_congr rfl fun k _ => ?_)
  rw [h1, mul_one]

theorem free_ctx (hs : ∀ k, IsR (expo q x1 jk R k)) (h1 : ∀ k, kvAt x1 jv k 64 = 1) :
    ∃ M, IsR M ∧ groupFree (F := Ideal) q x1 jk jv [0] (ix2 R d)
      = mean2 (fun k : Fin 256 => expo q x1 jk R (ctxRow k) - M) fun k => kvAt x1 jv (ctxRow k) ⟨d.val, by omega⟩ := by
  refine ⟨_, rowMax_real q x1 jk R [0] (by simp) hs, ?_⟩
  unfold groupFree mean2
  dsimp only
  generalize rowMax (F := Ideal) (([0] : List (Fin 17)).foldl (fun m c => maxStep q m (kvTile x1 c jk)) max0) = M
  rw [quotient_at, fold_add R _ _ _ (fun acc c => freeStep q x1 jk jv R M c acc _), fold_add R _ _ _ (fun acc c => freeStep q x1 jk jv R M c acc _), acc0_at, acc0_at,
    zero_add, zero_add, sum_first (fun k => Ideal.exp2 (expo q x1 jk R k - M (ix2 R 0)) * kvAt x1 jv k ⟨d.val, by omega⟩),
    sum_first (fun k => Ideal.exp2 (expo q x1 jk R k - M (ix2 R 0)) * kvAt x1 jv k 64)]
  refine congrArg _ (Finset.sum_congr rfl fun k _ => ?_)
  rw [h1, mul_one]

end Cert.Proof.Att

end
-- ==== Proof.TileValue.lean ====
/-
  The attention's result tile from heads in their lanes.
-/
module

public import proofs.«01_k».proof.Proof.TileSum
public import proofs.«01_k».proof.Proof.PrepTile

@[expose] public section

set_option maxRecDepth 16384
set_option Elab.async false

noncomputable section

namespace Cert.Proof.Att

open Cert.KernelIdeal Cert.KernelIdeal.Gen
open Idealize.ShloMosaic Idealize.ShloMosaic.TcCoe
open Cert.Proof.AttSpec

theorem c8inv : Ideal.ofBits .f32 0x3E000000#32 = ((1 / 8 : ℝ) : EReal) := by simp [Ideal.ofBits, Ideal.ieee, -EReal.coe_mul]; norm_num
theorem cbot : Ideal.ofBits .f32 0xFF800000#32 = ⊥ := by simp [Ideal.ofBits, Ideal.ieee]

/-- The product of a query's lanes and a key's: their score over the logarithm of two, plus the shift. -/
theorem lanes_dot (Q K : Fin 64 → EReal) (σ : EReal) (hQ : ∀ e, IsR (Q e)) (hK : ∀ e, IsR (K e)) :
    ∑ w : Fin 128, qLane σ Q w * kLane K w = (∑ e, Q e * K e) * Ideal.ofBits .f32 0x3E000000#32 * (((Real.log 2)⁻¹ : ℝ) : EReal) + σ := by
  rw [Fin.sum_univ_tiles 2 64 rfl, Fin.sum_univ_two]
  have h0 : (∑ t : Fin 64, qLane σ Q ⟨(0 : Fin 2).val * 64 + t.val, by show 0 * 64 + t.val < 128; omega⟩ * kLane K ⟨(0 : Fin 2).val * 64 + t.val, by show 0 * 64 + t.val < 128; omega⟩)
      = (∑ e, Q e * K e) * Ideal.ofBits .f32 0x3E000000#32 * (((Real.log 2)⁻¹ : ℝ) : EReal) := by
    have h : ∀ t : Fin 64, qLane σ Q ⟨(0 : Fin 2).val * 64 + t.val, by show 0 * 64 + t.val < 128; omega⟩ * kLane K ⟨(0 : Fin 2).val * 64 + t.val, by show 0 * 64 + t.val < 128; omega⟩
        = Q t * qScale * K t := by
      intro t
      have ht : (⟨0 * 64 + t.val, by omega⟩ : Fin 64) = t := Fin.ext (by show 0 * 64 + t.val = t.val; omega)
      unfold qLane kLane
      rw [dif_pos (by show 0 * 64 + t.val < 64; omega), dif_pos (by show 0 * 64 + t.val < 64; omega)]
      exact congrArg₂ (fun a b => Q a * qScale * K b) ht ht
    rw [Finset.sum_congr rfl fun t _ => h t, c8inv]
    obtain ⟨a, rfl⟩ := exists_reals hQ
    obtain ⟨b, rfl⟩ := exists_reals hK
    have h1 : (∑ t : Fin 64, ((a t : ℝ) : EReal) * qScale * ((b t : ℝ) : EReal)) = ((∑ t, a t * ((1 / 8) * (Real.log 2)⁻¹) * b t : ℝ) : EReal) := by
      rw [← coe_sum]
      refine Finset.sum_congr rfl fun t _ => ?_
      unfold qScale
      rw [← EReal.coe_mul, ← EReal.coe_mul]
    have h2 : (∑ t : Fin 64, ((a t : ℝ) : EReal) * ((b t : ℝ) : EReal)) = ((∑ t, a t * b t : ℝ) : EReal) := by
      rw [← coe_sum]
      exact Finset.sum_congr rfl fun t _ => (EReal.coe_mul _ _).symm
    refine h1.trans ?_
    rw [show (∑ e : Fin 64, (fun i => ((a i : ℝ) : EReal)) e * (fun i => ((b i : ℝ) : EReal)) e) = _ from h2, ← EReal.coe_mul, ← EReal.coe_mul, Finset.sum_mul, Finset.sum_mul]
    exact congrArg _ (Finset.sum_congr rfl fun t _ => by ring)
  have h1 : (∑ t : Fin 64, qLane σ Q ⟨(1 : Fin 2).val * 64 + t.val, by show 1 * 64 + t.val < 128; omega⟩ * kLane K ⟨(1 : Fin 2).val * 64 + t.val, by show 1 * 64 + t.val < 128; omega⟩) = σ := by
    rw [Finset.sum_eq_single (0 : Fin 64)]
    · unfold qLane kLane
      rw [dif_neg (by decide), dif_neg (by decide), if_pos (by decide), if_pos (by decide), mul_one]
    · intro t _ ht
      have ht' : t.val ≠ 0 := fun h => ht (Fin.ext h)
      unfold qLane
      rw [dif_neg (by show ¬ 1 * 64 + t.val < 64; omega), if_neg (by show ¬ 1 * 64 + t.val = 64; omega), zero_mul]
    · intro h; exact absurd (Finset.mem_univ _) h
  exact congrArg₂ (· + ·) h0 h1

theorem kLane_one (K : Fin 64 → EReal) : kLane K 64 = 1 := by
  unfold kLane
  rw [dif_neg (by decide), if_pos (by decide)]
theorem kLane_lt (K : Fin 64 → EReal) (d : Fin 64) : kLane K ⟨d.val, by omega⟩ = K d := by
  unfold kLane
  rw [dif_pos d.isLt]

theorem peak_real {n : ℕ} (s : Fin (n + 1) → EReal) (hs : ∀ k, IsR (s k)) : IsR (peak s) := by
  unfold peak
  rw [cbot, bot_sup_eq]
  exact fold_max_real hs

/-! ## A group's row -/

section
variable (q : FVec Ideal S512x128 .bf16) (x1 : FVec Ideal S1x4352x512 .bf16) (jk jv : Fin 4) (R : Fin 512) (d : Fin 64)
  (Q : Fin 64 → EReal) (K W : Fin 4352 → Fin 64 → EReal) (σ : EReal)

/-- A row's scores. -/
def sc (Q : Fin 64 → EReal) (K : Fin 4352 → Fin 64 → EReal) (k : Fin 4352) : EReal := (∑ e, Q e * K k e) * Ideal.ofBits .f32 0x3E000000#32

theorem sc_real (hQ : ∀ e, IsR (Q e)) (hK : ∀ k e, IsR (K k e)) (k : Fin 4352) : IsR (sc Q K k) := by
  unfold sc
  rw [c8inv]
  exact (IsR.sum _ fun e => (hQ e).mul (hK k e)).mul ⟨_, rfl⟩

variable (hq : ∀ w, q (ix2 R w) = qLane σ Q w) (hk : ∀ k w, kvAt x1 jk k w = kLane (K k) w) (hv : ∀ k w, kvAt x1 jv k w = kLane (W k) w)
  (hQ : ∀ e, IsR (Q e)) (hK : ∀ k e, IsR (K k e)) (hσ : IsR σ)

include hq hk hQ hK in
theorem expo_eq (k : Fin 4352) : expo q x1 jk R k = sc Q K k * (((Real.log 2)⁻¹ : ℝ) : EReal) + σ := by
  unfold expo sc
  rw [← lanes_dot Q (K k) σ hQ (hK k)]
  exact Finset.sum_congr rfl fun w _ => congrArg₂ (· * ·) (hq w) (hk k w)

include hq hk hQ hK hσ in
theorem expo_real (k : Fin 4352) : IsR (expo q x1 jk R k) := by
  rw [expo_eq q x1 jk R Q K σ hq hk hQ hK]
  exact ((sc_real Q K hQ hK k).mul ⟨_, rfl⟩).add hσ

include hq hk hv hQ hK hσ

theorem bounded_soft : groupBounded (F := Ideal) q x1 jk jv allTiles (ix2 R d) = soft (sc Q K) fun k => W k d := by
  rw [bounded_all q x1 jk jv R d fun k => (hv k 64).trans (kLane_one _)]
  unfold soft
  rw [show (fun k => kvAt x1 jv k ⟨d.val, by omega⟩) = fun k => W k d from funext fun k => (hv k _).trans (kLane_lt _ d)]
  exact mean2_eq (n := 4351) _ _ (sc_real Q K hQ hK) _ (peak_real (n := 4351) _ (sc_real Q K hQ hK)) σ hσ _ (expo_eq q x1 jk R Q K σ hq hk hQ hK)

theorem free_soft : groupFree (F := Ideal) q x1 jk jv allTiles (ix2 R d) = soft (sc Q K) fun k => W k d := by
  obtain ⟨M, hM, h⟩ := free_all q x1 jk jv R d (expo_real q x1 jk R Q K σ hq hk hQ hK hσ) fun k => (hv k 64).trans (kLane_one _)
  rw [h]
  unfold soft
  rw [show (fun k => kvAt x1 jv k ⟨d.val, by omega⟩) = fun k => W k d from funext fun k => (hv k _).trans (kLane_lt _ d)]
  refine mean2_eq (n := 4351) _ _ (sc_real Q K hQ hK) _ (peak_real (n := 4351) _ (sc_real Q K hQ hK)) (σ - M) (hσ.sub hM) _ fun k => ?_
  rw [expo_eq q x1 jk R Q K σ hq hk hQ hK, sub_eq_add_neg, sub_eq_add_neg, add_assoc]

theorem ctx_soft : groupFree (F := Ideal) q x1 jk jv [0] (ix2 R d) = soft (fun k : Fin 256 => sc Q K (ctxRow k)) fun k => W (ctxRow k) d := by
  obtain ⟨M, hM, h⟩ := free_ctx q x1 jk jv R d (expo_real q x1 jk R Q K σ hq hk hQ hK hσ) fun k => (hv k 64).trans (kLane_one _)
  rw [h]
  unfold soft
  rw [show (fun k => kvAt x1 jv (ctxRow k) ⟨d.val, by omega⟩) = fun k => W (ctxRow k) d from funext fun k => (hv _ _).trans (kLane_lt _ d)]
  refine mean2_eq (n := 255) _ _ (fun k => sc_real Q K hQ hK _) _ (peak_real (n := 255) _ (fun k => sc_real Q K hQ hK _)) (σ - M) (hσ.sub hM) _ fun k => ?_
  rw [expo_eq q x1 jk R Q K σ hq hk hQ hK, sub_eq_add_neg, sub_eq_add_neg, add_assoc]
end

/-! ## The tile's rows and heads -/

section
variable (x0 : FVec Ideal S1x128x1024 .bf16) (r : Fin 128) (w : Fin 128) (d : Fin 64)

theorem ld_q (j : Fin 8) : View.ld (Val := Elt Ideal) (e' := .bf16) x0 (qRect j) (ix3 0 r w) = x0 (ix3 0 r ⟨128 * j.val + w.val, by omega⟩) := by
  refine congrArg x0 (funext fun i => ?_)
  fin_cases i
  · rfl
  · exact Fin.ext (by show 0 + 1 * r.val = r.val; omega)
  · exact Fin.ext (by show 128 * j.val + 1 * w.val = 128 * j.val + w.val; omega)

/-- Row `r` of head `l` in a group of four. -/
abbrev gRow (l : Fin 4) (r : Fin 128) : Fin 512 := ⟨128 * l.val + r.val, by omega⟩

theorem group0_at (l : Fin 4) : group0 (F := Ideal) x0 (ix2 (gRow l r) w) = x0 (ix3 0 r ⟨128 * l.val + w.val, by omega⟩) := by
  unfold group0
  obtain ⟨h0, h1, h2, h3⟩ := groupRows_at w (View.ld (Val := Elt Ideal) (e' := .bf16) x0 (qRect 0)) (View.ld (Val := Elt Ideal) (e' := .bf16) x0 (qRect 1))
    (View.ld (Val := Elt Ideal) (e' := .bf16) x0 (qRect 2)) (View.ld (Val := Elt Ideal) (e' := .bf16) x0 (qRect 3)) r
  fin_cases l
  · have hr : (gRow ⟨0, by decide⟩ r) = ⟨r.val, by omega⟩ := Fin.ext (by show 128 * 0 + r.val = r.val; omega)
    exact (congrArg (fun R : Fin 512 => groupRows (F := Ideal) _ _ _ _ (ix2 R w)) hr).trans (h0.trans (ld_q x0 r w 0))
  · exact h1.trans (ld_q x0 r w 1)
  · exact h2.trans (ld_q x0 r w 2)
  · exact h3.trans (ld_q x0 r w 3)

theorem group1_at (l : Fin 4) : group1 (F := Ideal) x0 (ix2 (gRow l r) w) = x0 (ix3 0 r ⟨128 * (4 + l.val) + w.val, by omega⟩) := by
  unfold group1
  obtain ⟨h0, h1, h2, h3⟩ := groupRows_at w (View.ld (Val := Elt Ideal) (e' := .bf16) x0 (qRect 4)) (View.ld (Val := Elt Ideal) (e' := .bf16) x0 (qRect 5))
    (View.ld (Val := Elt Ideal) (e' := .bf16) x0 (qRect 6)) (View.ld (Val := Elt Ideal) (e' := .bf16) x0 (qRect 7)) r
  fin_cases l
  · have hr : (gRow ⟨0, by decide⟩ r) = ⟨r.val, by omega⟩ := Fin.ext (by show 128 * 0 + r.val = r.val; omega)
    exact (congrArg (fun R : Fin 512 => groupRows (F := Ideal) _ _ _ _ (ix2 R w)) hr).trans (h0.trans (ld_q x0 r w 4))
  · exact h1.trans (ld_q x0 r w 5)
  · exact h2.trans (ld_q x0 r w 6)
  · exact h3.trans (ld_q x0 r w 7)

theorem tile_at (a b : FVec Ideal S512x64 .f32) (h : Fin 8) :
    tile (F := Ideal) a b (ix3 0 r ⟨64 * h.val + d.val, by omega⟩)
      = (![head0 a, head1 a, head2 a, head3 a, head0 b, head1 b, head2 b, head3 b] h) (ix3 0 r d) := by
  unfold tile
  have key := View.canon_apply_of_pieces (Val := Elt Ideal) (S := S1x128x512) (e := .bf16)
    (fun y => (![head0 (F := Ideal) a, head1 a, head2 a, head3 a, head0 b, head1 b, head2 b, head3 b] ⟨(y 2).val / 64, by have : (y 2).val < 512 := (y 2).isLt; omega⟩)
      (ix3 0 (y 1) ⟨(y 2).val % 64, Nat.mod_lt _ (by decide)⟩)) (pieces (F := Ideal) a b) ?_ (ix3 0 r ⟨64 * h.val + d.val, by omega⟩) (cover_pieces (F := Ideal) a b _)
  · refine key.trans ?_
    have e1 : (⟨(64 * h.val + d.val) / 64, by omega⟩ : Fin 8) = h := Fin.ext (by show (64 * h.val + d.val) / 64 = h.val; omega)
    have e2 : (⟨(64 * h.val + d.val) % 64, by omega⟩ : Fin 64) = d := Fin.ext (by show (64 * h.val + d.val) % 64 = d.val; omega)
    exact congrArg₂ (fun (i : Fin 8) (k : Fin 64) => (![head0 (F := Ideal) a, head1 a, head2 a, head3 a, head0 b, head1 b, head2 b, head3 b] i) (ix3 0 r k)) e1 e2
  · intro pc hp
    have aux : ∀ (i : Fin 8) (x : S1x128x64.Idx),
        (![head0 (F := Ideal) a, head1 a, head2 a, head3 a, head0 b, head1 b, head2 b, head3 b] i) x
          = (![head0 (F := Ideal) a, head1 a, head2 a, head3 a, head0 b, head1 b, head2 b, head3 b] ⟨(((oRect i).emb x) 2).val / 64, by
              have : (((oRect i).emb x) 2).val < 512 := (((oRect i).emb x) 2).isLt
              omega⟩)
            (ix3 0 (((oRect i).emb x) 1) ⟨(((oRect i).emb x) 2).val % 64, Nat.mod_lt _ (by decide)⟩) := by
      intro i x
      have hx : (x 2).val < 64 := (x 2).isLt
      have hv : (((oRect i).emb x) 2).val = 64 * i.val + 1 * (x 2).val := rfl
      refine congrArg₂ (fun (i : Fin 8) (z : S1x128x64.Idx) => (![head0 (F := Ideal) a, head1 a, head2 a, head3 a, head0 b, head1 b, head2 b, head3 b] i) z)
        (Fin.ext (by show i.val = _ / 64; rw [hv]; omega)) (funext fun j => ?_)
      fin_cases j
      · exact Subsingleton.elim (α := Fin 1) _ _
      · exact Fin.ext (by show (x 1).val = 0 + 1 * (x 1).val; omega)
      · exact Fin.ext (by show (x 2).val = _ % 64; rw [hv]; omega)
    unfold pieces at hp
    simp only [List.mem_cons, List.not_mem_nil, or_false] at hp
    rcases hp with rfl | rfl | rfl | rfl | rfl | rfl | rfl | rfl
    · exact aux 7
    · exact aux 6
    · exact aux 5
    · exact aux 4
    · exact aux 3
    · exact aux 2
    · exact aux 1
    · exact aux 0

/-- A head's rows read off its group. -/
theorem tile_group (a b : FVec Ideal S512x64 .f32) (j : Fin 2) (l : Fin 4) :
    tile (F := Ideal) a b (ix3 0 r ⟨64 * (4 * j.val + l.val) + d.val, by omega⟩) = (![a, b] j) (ix2 (gRow l r) d) := by
  refine (tile_at r d a b ⟨4 * j.val + l.val, by omega⟩).trans ?_
  have h0 : (⟨r.val, by omega⟩ : Fin 512) = gRow 0 r := Fin.ext (by show r.val = 128 * 0 + r.val; omega)
  fin_cases j <;> fin_cases l
  · exact (head0_at d a r).trans (congrArg (fun R => a (ix2 R d)) h0)
  · exact head1_at d a r
  · exact head2_at d a r
  · exact head3_at d a r
  · exact (head0_at d b r).trans (congrArg (fun R => b (ix2 R d)) h0)
  · exact head1_at d b r
  · exact head2_at d b r
  · exact head3_at d b r
end

end Cert.Proof.Att

end
-- ==== Proof.TileRun.lean ====
/-
  The attention's result tile, whichever of the three paths makes it.
-/
module

public import proofs.«01_k».proof.Proof.TileValue
public import proofs.«01_k».proof.Proof.Dats1

@[expose] public section

set_option maxRecDepth 16384
set_option Elab.async false

noncomputable section

namespace Cert.Proof.Att

open Cert.KernelIdeal Cert.KernelIdeal.Gen
open Idealize.ShloMosaic Idealize.ShloMosaic.TcCoe
open Cert.Proof.AttSpec

/-- The queries' column of head `4 j + l`, lane `w`; -/
abbrev qCol (j : Fin 2) (l : Fin 4) (w : Fin 128) : Fin 1024 := ⟨128 * (4 * j.val + l.val) + w.val, by omega⟩
/-- where group `j`'s keys -/
abbrev kHead (j : Fin 2) : Fin 4 := ⟨j.val, by omega⟩
/-- and values sit. -/
abbrev vHead (j : Fin 2) : Fin 4 := ⟨2 + j.val, by omega⟩

variable (x0 : FVec Ideal S1x128x1024 .bf16) (x1 : FVec Ideal S1x4352x512 .bf16) (r : Fin 128) (d : Fin 64) (j : Fin 2) (l : Fin 4)
  (Q : Fin 64 → EReal) (K W : Fin 4352 → Fin 64 → EReal) (σ : EReal)

/-- Both groups' rows. -/
theorem group_at (w : Fin 128) : (![group0 (F := Ideal) x0, group1 x0] j) (ix2 (gRow l r) w) = x0 (ix3 0 r (qCol j l w)) := by
  fin_cases j
  · refine (group0_at x0 r w l).trans (congrArg (fun n => x0 (ix3 0 r n)) (Fin.ext ?_))
    show 128 * l.val + w.val = 128 * (4 * 0 + l.val) + w.val
    omega
  · refine (group1_at x0 r w l).trans (congrArg (fun n => x0 (ix3 0 r n)) (Fin.ext ?_))
    show 128 * (4 + l.val) + w.val = 128 * (4 * 1 + l.val) + w.val
    omega

variable (hq : ∀ w : Fin 128, x0 (ix3 0 r (qCol j l w)) = qLane σ Q w)
  (hk : ∀ k w, kvAt x1 (kHead j) k w = kLane (K k) w) (hv : ∀ k w, kvAt x1 (vHead j) k w = kLane (W k) w)
  (hQ : ∀ e, IsR (Q e)) (hK : ∀ k e, IsR (K k e)) (hσ : IsR σ)
include hq hk hv hQ hK hσ

theorem tileCtx_at : tileCtx (F := Ideal) x0 x1 (ix3 0 r ⟨64 * (4 * j.val + l.val) + d.val, by omega⟩) = soft (fun k : Fin 256 => sc Q K (ctxRow k)) fun k => W (ctxRow k) d := by
  unfold tileCtx
  refine (tile_group r d _ _ j l).trans ?_
  refine Eq.trans ?_ (ctx_soft (![group0 (F := Ideal) x0, group1 x0] j) x1 (kHead j) (vHead j) (gRow l r) d Q K W σ (fun w => (group_at x0 r j l w).trans (hq w)) hk hv hQ hK hσ)
  clear hq hk hv
  fin_cases j <;> rfl

theorem tileFree_at : tileFree (F := Ideal) x0 x1 (ix3 0 r ⟨64 * (4 * j.val + l.val) + d.val, by omega⟩) = soft (sc Q K) fun k => W k d := by
  unfold tileFree
  refine (tile_group r d _ _ j l).trans ?_
  refine Eq.trans ?_ (free_soft (![group0 (F := Ideal) x0, group1 x0] j) x1 (kHead j) (vHead j) (gRow l r) d Q K W σ (fun w => (group_at x0 r j l w).trans (hq w)) hk hv hQ hK hσ)
  clear hq hk hv
  fin_cases j <;> rfl

theorem tileBounded_at : tileBounded (F := Ideal) x0 x1 (ix3 0 r ⟨64 * (4 * j.val + l.val) + d.val, by omega⟩) = soft (sc Q K) fun k => W k d := by
  unfold tileBounded
  refine (tile_group r d _ _ j l).trans ?_
  refine Eq.trans ?_ (bounded_soft (![group0 (F := Ideal) x0, group1 x0] j) x1 (kHead j) (vHead j) (gRow l r) d Q K W σ (fun w => (group_at x0 r j l w).trans (hq w)) hk hv hQ hK hσ)
  clear hq hk hv
  fin_cases j <;> rfl

/-- Context rows' tiles look at the context, the others at everything. -/
theorem tileAt_at (i : grid1.Coords) (T : S1.Idx → Elt Ideal .i32) :
    tileAt (F := Ideal) i T x0 x1 (ix3 0 r ⟨64 * (4 * j.val + l.val) + d.val, by omega⟩)
      = if k1_cond1 i = 1#1 then soft (fun k : Fin 256 => sc Q K (ctxRow k)) (fun k => W (ctxRow k) d) else soft (sc Q K) fun k => W k d := by
  unfold tileAt
  by_cases h1 : k1_cond1 i = 1#1
  · rw [if_pos h1, if_pos h1]
    exact tileCtx_at x0 x1 r d j l Q K W σ hq hk hv hQ hK hσ
  rw [if_neg h1, if_neg h1]
  by_cases h2 : k1_cond2 i (flagWord T) = 1#1
  · rw [if_pos h2]
    exact tileBounded_at x0 x1 r d j l Q K W σ hq hk hv hQ hK hσ
  · rw [if_neg h2]
    exact tileFree_at x0 x1 r d j l Q K W σ hq hk hv hQ hK hσ

end Cert.Proof.Att

end
-- ==== Proof.AttWin.lean ====
/-
  The attention's windows: where their blocks sit, and the input blocks read at an index.
-/
module

public import proofs.«01_k».proof.Proof.Dats1
public import Idealize.ShloMosaic.Lib.Pipeline.Covers
public import Idealize.ShloMosaic.Lib.Pipeline.Value
public import Idealize.ShloMosaic.Lib.Pipeline.ValueKit
public import Idealize.ShloMosaic.Lib.Pointwise
public import proofs.«01_k».proof.Proof.AttSpec

@[expose] public section

set_option maxRecDepth 16384
set_option Elab.async false

noncomputable section

namespace Cert.Proof.Att

open Cert.KernelIdeal Cert.KernelIdeal.Gen
open Idealize.ShloMosaic Idealize.ShloMosaic.TcCoe Idealize.SL.Sem
open Idealize.ShloMosaic (ix2 ix3)
open Idealize.ShloMosaic.Pipeline (Dat Cfg Window)

variable (a : (pcfg1 (F := Ideal)).Adm)

/-- The points' blocks: sample `t / 34`, row tile `t % 34`; the context's row tiles are the first two. -/
theorem pts1 : ∀ t : Fin grid1.N, cc1_transform_0 (grid1.coords t) = ![t.val / 34 % 8, t.val % 34, 0]
    ∧ cc1_transform_1 (grid1.coords t) = ![t.val / 34 % 8, 0, 0] ∧ cc1_transform_2 (grid1.coords t) = ![t.val / 34 % 8, t.val % 34, 0]
    ∧ (k1_cond1 (grid1.coords t) = 1#1 ↔ t.val % 34 < 2) := by decide +kernel

/-- Where the windows' blocks sit at point `t`. -/
theorem idx1 (t : Fin (cfg1 a).N) : ((cfg1 a).win (0 : Fin 3)).index t = ![t.val / 34 % 8, t.val % 34, 0]
    ∧ ((cfg1 a).win (1 : Fin 3)).index t = ![t.val / 34 % 8, 0, 0] ∧ ((cfg1 a).win (2 : Fin 3)).index t = ![t.val / 34 % 8, t.val % 34, 0] :=
  ⟨(pts1 t).1, (pts1 t).2.1, (pts1 t).2.2.1⟩

/-- The sample and the row of a block's row. -/
abbrev smp1 (t : Fin (cfg1 a).N) : Fin 8 := ⟨t.val / 34 % 8, by omega⟩
abbrev rowAt (t : Fin (cfg1 a).N) (r : Fin 128) : Fin 4352 := ⟨t.val % 34 * 128 + r.val, by omega⟩

/-- Every block of the result is reached. -/
theorem reach1 : ∀ (b : Fin 8) (r : Fin 34), ∃ t : Fin grid1.N, cc1_transform_2 (grid1.coords t) = ![b.val, r.val, 0] := by
  intro b r
  have h : b.val * 34 + r.val < grid1.N := by show b.val * 34 + r.val < 8 * 34; omega
  refine ⟨⟨b.val * 34 + r.val, h⟩, ((pts1 _).2.2.1).trans ?_⟩
  have h0 : (b.val * 34 + r.val) / 34 % 8 = b.val := by omega
  have h1 : (b.val * 34 + r.val) % 34 = r.val := by omega
  show ![(b.val * 34 + r.val) / 34 % 8, (b.val * 34 + r.val) % 34, 0] = _
  rw [h0, h1]

theorem blocks1 : ∀ i : Fin 3, ((spec1 2).shape.size i + (spec1 2).size i - 1) / (spec1 2).size i = ![8, 34, 1] i ∧ 0 < (spec1 2).size i := by
  decide +kernel

theorem covers1 : ((cfg1 a).win (2 : Fin 3)).Covers :=
  Window.covers_of_index_surj _ rfl (fun i => (blocks1 i).2) fun β => by
    obtain ⟨t, ht⟩ := reach1 ⟨(β (0 : Fin 3)).val, lt_of_lt_of_eq (β (0 : Fin 3)).isLt (blocks1 0).1⟩ ⟨(β (1 : Fin 3)).val, lt_of_lt_of_eq (β (1 : Fin 3)).isLt (blocks1 1).1⟩
    refine ⟨t, fun i => (congrFun ht i).trans ?_⟩
    have h2 : (β (2 : Fin 3)).val = 0 := Nat.lt_one_iff.mp (lt_of_lt_of_eq (β (2 : Fin 3)).isLt (blocks1 2).1)
    match i with
    | ⟨0, _⟩ => rfl
    | ⟨1, _⟩ => rfl
    | ⟨2, _⟩ => exact h2.symm

variable (V : Dev nD → Valuation τ sig (Elt Ideal)) (c : Dev nD) (t : Fin (cfg1 a).N)

theorem blk_q (r : Fin 128) (n : Fin 1024) : (show FVec Ideal S1x128x1024 .bf16 from block1 V a c (0 : Fin 3) t) (ix3 0 r n)
    = (show FVec Ideal S8x4352x1024 .bf16 from V c (Proc.devRef .tc main_v67_0)) (ix3 (smp1 a t) (rowAt a t r) n) := by
  blk_ext [block1, idx1 a t]
theorem blk_kv (r : Fin 4352) (n : Fin 512) : (show FVec Ideal S1x4352x512 .bf16 from block1 V a c (1 : Fin 3) t) (ix3 0 r n)
    = (show FVec Ideal S8x4352x512 .bf16 from V c (Proc.devRef .tc main_v67_1)) (ix3 (smp1 a t) r n) := by
  blk_ext [block1, idx1 a t]

theorem embO (G : FVec Ideal S8x4352x512 .bf16) (r : Fin 128) (n : Fin 512) :
    G ((((cfg1 a).win (2 : Fin 3)).blk t).view.emb (ix3 0 r n)) = G (ix3 (smp1 a t) (rowAt a t r) n) := by
  refine congrArg G ?_
  blk_ext [idx1 a t]

end Cert.Proof.Att

end
-- ==== Proof.AttArray.lean ====
/-
  The kernel's result, the attention of its arguments.
-/
module

public import proofs.«01_k».proof.Proof.Run
public import proofs.«01_k».proof.Proof.PrepArray
public import proofs.«01_k».proof.Proof.TileRun
public import proofs.«01_k».proof.Proof.AttWin

@[expose] public section

set_option maxRecDepth 16384
set_option Elab.async false

noncomputable section

namespace Cert.Proof.Att

open Cert.KernelIdeal Cert.KernelIdeal.Gen
open Idealize.ShloMosaic Idealize.ShloMosaic.TcCoe Idealize.SL.Sem
open Idealize.ShloMosaic (ix1 ix2 ix3)
open Idealize.ShloMosaic.Pipeline (Dat Cfg Window)
open Cert.Proof.AttSpec

variable (m : (ℓ : Loc nD τ sig) → Buf (Elt Ideal) ℓ) (c : Dev nD)

/-- The attention finds the queries, -/
theorem in_q (hu : RealCols (aU m c)) : V5' m c (Proc.devRef .tc main_v67_0) = GQ m c := by
  refine (V5_of m (outs0 m) c main_v67_0 (by decide)).trans ?_
  simp only [V4]
  rw [Function.update_of_ne (StableHlo.devRef_ne_of_ne (by decide)), Function.update_self]
  exact (Pipeline.afterRegion_arr (dats0 (V3 m) c) (V3 m c) winFacts0.arr_inj (6 : Fin 8)).trans (final6 m c hu)
/-- the keys and values. -/
theorem in_kv (hu : RealCols (aU m c)) : V5' m c (Proc.devRef .tc main_v67_1) = GKV m c := by
  refine (V5_of m (outs0 m) c main_v67_1 (by decide)).trans ?_
  simp only [V4]
  rw [Function.update_self]
  exact (Pipeline.afterRegion_arr (dats0 (V3 m) c) (V3 m c) winFacts0.arr_inj (7 : Fin 8)).trans (final7 m c hu)

/-- The queries' lanes, -/
theorem GQ_at (b : Fin 8) (t : Fin 4352) (h : Fin 8) (w : Fin 128) :
    GQ m c (ix3 b t ⟨128 * h.val + w.val, by omega⟩) = qLane (shiftA m c) (query (aU m c) (aQ m c) b h t) w := by
  unfold GQ
  refine congrArg₂ (fun h w => qLane (shiftA m c) (query (aU m c) (aQ m c) b h t) w) (Fin.ext ?_) (Fin.ext ?_)
  · show (128 * h.val + w.val) / 128 = h.val; omega
  · show (128 * h.val + w.val) % 128 = w.val; omega
/-- the keys', -/
theorem GK_at (b : Fin 8) (t : Fin 4352) (j : Fin 2) (w : Fin 128) :
    GKV m c (ix3 b t ⟨128 * j.val + w.val, by omega⟩) = kLane (key (aU m c) (aK m c) b j t) w := by
  unfold GKV
  rw [dif_pos (by show (128 * j.val + w.val) / 128 < 2; omega)]
  refine congrArg₂ (fun j w => kLane (key (aU m c) (aK m c) b j t) w) (Fin.ext ?_) (Fin.ext ?_)
  · show (128 * j.val + w.val) / 128 = j.val; omega
  · show (128 * j.val + w.val) % 128 = w.val; omega
/-- the values'. -/
theorem GV_at (b : Fin 8) (t : Fin 4352) (j : Fin 2) (w : Fin 128) :
    GKV m c (ix3 b t ⟨128 * (2 + j.val) + w.val, by omega⟩) = kLane (value (aU m c) b j t) w := by
  unfold GKV
  rw [dif_neg (by show ¬ (128 * (2 + j.val) + w.val) / 128 < 2; omega)]
  refine congrArg₂ (fun j w => kLane (value (aU m c) b j t) w) (Fin.ext ?_) (Fin.ext ?_)
  · show (128 * (2 + j.val) + w.val) / 128 - 2 = j.val; omega
  · show (128 * (2 + j.val) + w.val) % 128 = w.val; omega

/-- The gains are real numbers. -/
abbrev RealGain (g : FVec Ideal SG .f32) : Prop := ∀ e, IsR (g (ix1 e))

theorem query_real (u : FVec Ideal SU .f32) (g : FVec Ideal SG .f32) (hu : RealCols u) (hg : RealGain g) (b h : Fin 8) (t : Fin 4352) (e : Fin 64) :
    IsR (query u g b h t e) := by
  unfold query
  exact posn_real _ _ _ fun e => nrm_real _ _ _ (fun e => hu b t ⟨h.val * 64 + e.val, by omega⟩) (hg e)
theorem key_real (u : FVec Ideal SU .f32) (g : FVec Ideal SG .f32) (hu : RealCols u) (hg : RealGain g) (b : Fin 8) (j : Fin 2) (t : Fin 4352) (e : Fin 64) :
    IsR (key u g b j t e) := by
  unfold key
  refine posn_real _ _ _ fun e => nrm_real _ _ _ (fun e => ?_) (hg e)
  have h := hu b t ⟨512 + (j.val * 64 + e.val), by omega⟩
  refine (congrArg (fun n => u (ix3 b t n)) (Fin.ext ?_) : _ = _) ▸ h
  show 3072 + (512 + (j.val * 64 + e.val)) = 3584 + (j.val * 64 + e.val)
  omega

/-- The attention's array. -/
def GA : FVec Ideal S8x4352x512 .bf16 := fun y =>
  att (aU m c) (aQ m c) (aK m c) (y 0) (y 1) ⟨(y 2).val / 64, by have : (y 2).val < 512 := (y 2).isLt; omega⟩ ⟨(y 2).val % 64, by omega⟩

theorem GA_at (b : Fin 8) (t : Fin 4352) (h : Fin 8) (d : Fin 64) (n : Fin 512) (hn : n.val = h.val * 64 + d.val) :
    GA m c (ix3 b t n) = att (aU m c) (aQ m c) (aK m c) b t h d := by
  unfold GA
  refine congrArg₂ (fun h d => att (aU m c) (aQ m c) (aK m c) b t h d) (Fin.ext ?_) (Fin.ext ?_)
  · show n.val / 64 = h.val; omega
  · show n.val % 64 = d.val; omega

/-- An index of a tile, by its row, head and lane. -/
theorem out_idx (y : (⟨3, ![1, 128, 512]⟩ : Shape).Idx) : ∃ (r : Fin 128) (j : Fin 2) (l : Fin 4) (d : Fin 64), y = ix3 0 r ⟨64 * (4 * j.val + l.val) + d.val, by omega⟩ := by
  have h2 : (y 2).val < 512 := (y 2).isLt
  refine ⟨y 1, ⟨(y 2).val / 256, by omega⟩, ⟨(y 2).val / 64 % 4, by omega⟩, ⟨(y 2).val % 64, by omega⟩, funext fun i => ?_⟩
  fin_cases i
  · exact Subsingleton.elim (α := Fin 1) _ _
  · rfl
  · exact Fin.ext (by show (y 2).val = 64 * (4 * ((y 2).val / 256) + (y 2).val / 64 % 4) + (y 2).val % 64; omega)

section
variable (hu : RealCols (aU m c)) (hgq : RealGain (aQ m c)) (hgk : RealGain (aK m c))
include hu hgq hgk

theorem att_tile (t : Fin (cfg1 (flag m)).N) (r : Fin 128) (j : Fin 2) (l : Fin 4) (d : Fin 64) :
    (show FVec Ideal S1x128x512 .bf16 from att1At (V5' m) (flag m) c t) (ix3 0 r ⟨64 * (4 * j.val + l.val) + d.val, by omega⟩)
      = att (aU m c) (aQ m c) (aK m c) (smp1 (flag m) t) (rowAt (flag m) t r) ⟨4 * j.val + l.val, by omega⟩ d := by
  have hj : grp ⟨4 * j.val + l.val, by omega⟩ = j := Fin.ext (by show (4 * j.val + l.val) / 4 = j.val; omega)
  refine (tileAt_at _ _ r d j l (query (aU m c) (aQ m c) (smp1 (flag m) t) ⟨4 * j.val + l.val, by omega⟩ (rowAt (flag m) t r))
    (fun k => key (aU m c) (aK m c) (smp1 (flag m) t) j k) (fun k => value (aU m c) (smp1 (flag m) t) j k) (shiftA m c)
    (fun w => ?_) (fun k w => ?_) (fun k w => ?_) (fun e => query_real _ _ hu hgq _ _ _ e) (fun k e => key_real _ _ hu hgk _ _ _ e)
    (in_shift m c hgq hgk) _ _).trans ?_
  · exact (blk_q (flag m) (V5' m) c t r _).trans ((congrFun (in_q m c hu) _).trans (GQ_at m c _ _ ⟨4 * j.val + l.val, by omega⟩ w))
  · exact (blk_kv (flag m) (V5' m) c t k _).trans ((congrFun (in_kv m c hu) _).trans (GK_at m c _ _ j w))
  · exact (blk_kv (flag m) (V5' m) c t k _).trans ((congrFun (in_kv m c hu) _).trans (GV_at m c _ _ j w))
  · unfold att score
    rw [hj]
    have hc := (pts1 t).2.2.2
    by_cases h : t.val % 34 < 2
    · exact (if_pos (hc.mpr h)).trans (if_pos (by show t.val % 34 * 128 + r.val < 256; omega)).symm
    · exact (if_neg fun h1 => h (hc.mp h1)).trans (if_neg (by show ¬ t.val % 34 * 128 + r.val < 256; omega)).symm

/-- What the kernel leaves. -/
theorem result_att : result (F := Ideal) m c = GA m c := by
  refine (dats1 (V5' m) (flag m) c).arrAt_eq_of_covers (2 : Fin 3) _ (covers1 (flag m)) fun t _ y => ?_
  blk_simp
  rw [after1_2]
  obtain ⟨r, j, l, d, rfl⟩ := out_idx y
  refine (att_tile m c hu hgq hgk t r j l d).trans (Eq.trans ?_ (embO (flag m) t (GA m c) r _).symm)
  refine (GA_at m c _ _ ⟨4 * j.val + l.val, by omega⟩ d _ ?_).symm
  show 64 * (4 * j.val + l.val) + d.val = (4 * j.val + l.val) * 64 + d.val
  omega
end

end Cert.Proof.Att

end
-- ==== Proof.PreReal.lean ====
/-
  What the precondition says: the columns the queries and keys come from, and both gains, are real numbers.
-/
module

public import proofs.«01_k».proof.Pre_finite_inputs
public import proofs.«01_k».proof.Proof.AttArray
public import Idealize.ShloMosaic.Lib.ReduceAll

@[expose] public section

set_option maxRecDepth 16384
set_option Elab.async false

noncomputable section

namespace Cert.Proof.Att

open Idealize.ShloMosaic
open Cert.Proof.AttSpec

/-- Both of a conjunction. -/
theorem both_one {s : Shape} (a b : IVec s 1) (i : s.Idx) (h : andi a b i = 1#1) : a i = 1#1 ∧ b i = 1#1 := by
  have h' : a i &&& b i = 1#1 := h
  revert h'
  generalize a i = x
  generalize b i = y
  revert x y
  decide

theorem top_word : Ideal.ofBits .f32 0x7F800000#32 = (⊤ : EReal) := by simp [Ideal.ofBits, Ideal.ieee]

/-- A value whose magnitude compares below the infinite word is a real number. -/
theorem real_of_cmp (x : EReal) (h : Ideal.cmp .olt (max x (-x)) (Ideal.ofBits .f32 0x7F800000#32) = 1#1) : IsR x := by
  rw [top_word] at h
  refine isR_of_lt ?_
  by_contra hn
  have h0 : Ideal.cmp .olt (max x (-x)) ⊤ = 0#1 := by
    unfold Ideal.cmp
    show BitVec.ofBool (decide (max x (-x) < ⊤)) = 0#1
    rw [decide_eq_false hn]
    rfl
  rw [h0] at h
  exact absurd h (by decide)

instance : Subsingleton Cert.Pre_finite_inputs.S_.Idx := ⟨fun a b => funext fun i => i.elim0⟩

variable [Cert.Pre_finite_inputs.Facts]

/-- The precondition, spelled out. -/
theorem real_of_pre (u : FVec Ideal SU .f32) (q k : FVec Ideal SG .f32) (h : Cert.Pre_finite_inputs.fn (F := Ideal) u q k = fun _ => 1#1) :
    RealCols u ∧ RealGain q ∧ RealGain k := by
  have h0 := congrFun h ix0
  obtain ⟨h1, h4⟩ := both_one _ _ _ h0
  obtain ⟨h2, h3⟩ := both_one _ _ _ h1
  refine ⟨fun b t n => ?_, fun e => ?_, fun e => ?_⟩
  · have e := Host.reduce_andi_all _ _ _ _ _ h2 (ix3 b t n)
    have e' := real_of_cmp _ e
    refine (congrArg u (funext fun i => ?_) : _ = _) ▸ e'
    fin_cases i
    · exact Fin.ext (by show 0 + b.val = b.val; omega)
    · exact Fin.ext (by show 0 + t.val = t.val; omega)
    · rfl
  · exact real_of_cmp _ (Host.reduce_andi_all _ _ _ _ _ h3 (ix1 e))
  · exact real_of_cmp _ (Host.reduce_andi_all _ _ _ _ _ h4 (ix1 e))

end Cert.Proof.Att

end
-- ==== Proof.AttRefOps.lean ====
/-
  The attention's reference as runs of host operations, one after the other.
-/
module

public import proofs.«01_k».proof.Defs
public import proofs.«01_k».proof.Proof.Gen.ReferenceIdeal
public import Idealize.ShloMosaic.Lib.Claim
public import Idealize.ShloMosaic.Lib.Pointwise

@[expose] public section

set_option maxRecDepth 16384
set_option Elab.async false

noncomputable section

namespace Cert.Proof.AttRef

open Idealize.ShloMosaic Idealize.ShloMosaic.TcCoe Idealize.SL.Sem
open Cert.ReferenceIdeal Cert.ReferenceIdeal.Gen

variable {F : FTy → Type} [FloatOps F]

/-- The rotations' cosines and sines. -/
def ops1 : List (HloOp τ sig (Elt F)) := [
  StableHlo.nullary main_v0 (sitofp .f32 (iotaInDim S64 32 0)),
  StableHlo.unary main_v0 main_v1 (broadcastInDim S64x1 ![0] bcast_S64_S64x1_0 : (⟨S64, .f32⟩ : BufTy).Contents (Elt F) → (⟨S64x1, .f32⟩ : BufTy).Contents (Elt F)),
  StableHlo.unary main_v1 main_v2 (broadcastInDim S64x64 ![0, 1] bcast_S64x1_S64x64_0_1 : (⟨S64x1, .f32⟩ : BufTy).Contents (Elt F) → (⟨S64x64, .f32⟩ : BufTy).Contents (Elt F)),
  StableHlo.reshape main_v2 main_v3 (rfl : (.f32 : EltTy) = .f32) shapeCasts_S64x64_S4096,
  StableHlo.nullary main_v4 (sitofp .f32 (iotaInDim S64 32 0)),
  StableHlo.unary main_v4 main_v5 (broadcastInDim S1x64 ![1] bcast_S64_S1x64_1 : (⟨S64, .f32⟩ : BufTy).Contents (Elt F) → (⟨S1x64, .f32⟩ : BufTy).Contents (Elt F)),
  StableHlo.unary main_v5 main_v6 (broadcastInDim S64x64 ![0, 1] bcast_S1x64_S64x64_0_1 : (⟨S1x64, .f32⟩ : BufTy).Contents (Elt F) → (⟨S64x64, .f32⟩ : BufTy).Contents (Elt F)),
  StableHlo.reshape main_v6 main_v7 (rfl : (.f32 : EltTy) = .f32) shapeCasts_S64x64_S4096,
  StableHlo.nullary main_v8 (sitofp .f32 (iotaInDim S16 32 0)),
  StableHlo.unary main_v8 main_v9 (Host.negf : (⟨S16, .f32⟩ : BufTy).Contents (Elt F) → (⟨S16, .f32⟩ : BufTy).Contents (Elt F)),
  StableHlo.nullary main_cst (constant S_ .f32 0x41800000#32),
  StableHlo.unary main_cst main_v10 (broadcastInDim S16 ![] bcast_S_S16 : (⟨S_, .f32⟩ : BufTy).Contents (Elt F) → (⟨S16, .f32⟩ : BufTy).Contents (Elt F)),
  StableHlo.binary main_v9 main_v10 main_v11 (Host.divf : (⟨S16, .f32⟩ : BufTy).Contents (Elt F) → (⟨S16, .f32⟩ : BufTy).Contents (Elt F) → (⟨S16, .f32⟩ : BufTy).Contents (Elt F)),
  StableHlo.nullary main_cst_0 (constant S_ .f32 0x461C4000#32),
  StableHlo.unary main_cst_0 main_v12 (broadcastInDim S16 ![] bcast_S_S16 : (⟨S_, .f32⟩ : BufTy).Contents (Elt F) → (⟨S16, .f32⟩ : BufTy).Contents (Elt F)),
  StableHlo.binary main_v12 main_v11 main_v13 (Host.powf : (⟨S16, .f32⟩ : BufTy).Contents (Elt F) → (⟨S16, .f32⟩ : BufTy).Contents (Elt F) → (⟨S16, .f32⟩ : BufTy).Contents (Elt F)),
  StableHlo.unary main_v3 main_v14 (broadcastInDim S4096x1 ![0] bcast_S4096_S4096x1_0 : (⟨S4096, .f32⟩ : BufTy).Contents (Elt F) → (⟨S4096x1, .f32⟩ : BufTy).Contents (Elt F)),
  StableHlo.unary main_v13 main_v15 (broadcastInDim S1x16 ![1] bcast_S16_S1x16_1 : (⟨S16, .f32⟩ : BufTy).Contents (Elt F) → (⟨S1x16, .f32⟩ : BufTy).Contents (Elt F)),
  StableHlo.unary main_v14 main_v16 (broadcastInDim S4096x16 ![0, 1] bcast_S4096x1_S4096x16_0_1 : (⟨S4096x1, .f32⟩ : BufTy).Contents (Elt F) → (⟨S4096x16, .f32⟩ : BufTy).Contents (Elt F)),
  StableHlo.unary main_v15 main_v17 (broadcastInDim S4096x16 ![0, 1] bcast_S1x16_S4096x16_0_1 : (⟨S1x16, .f32⟩ : BufTy).Contents (Elt F) → (⟨S4096x16, .f32⟩ : BufTy).Contents (Elt F)),
  StableHlo.binary main_v16 main_v17 main_v18 (mulf : (⟨S4096x16, .f32⟩ : BufTy).Contents (Elt F) → (⟨S4096x16, .f32⟩ : BufTy).Contents (Elt F) → (⟨S4096x16, .f32⟩ : BufTy).Contents (Elt F)),
  StableHlo.unary main_v7 main_v19 (broadcastInDim S4096x1 ![0] bcast_S4096_S4096x1_0 : (⟨S4096, .f32⟩ : BufTy).Contents (Elt F) → (⟨S4096x1, .f32⟩ : BufTy).Contents (Elt F)),
  StableHlo.unary main_v13 main_v20 (broadcastInDim S1x16 ![1] bcast_S16_S1x16_1 : (⟨S16, .f32⟩ : BufTy).Contents (Elt F) → (⟨S1x16, .f32⟩ : BufTy).Contents (Elt F)),
  StableHlo.unary main_v19 main_v21 (broadcastInDim S4096x16 ![0, 1] bcast_S4096x1_S4096x16_0_1 : (⟨S4096x1, .f32⟩ : BufTy).Contents (Elt F) → (⟨S4096x16, .f32⟩ : BufTy).Contents (Elt F)),
  StableHlo.unary main_v20 main_v22 (broadcastInDim S4096x16 ![0, 1] bcast_S1x16_S4096x16_0_1 : (⟨S1x16, .f32⟩ : BufTy).Contents (Elt F) → (⟨S4096x16, .f32⟩ : BufTy).Contents (Elt F)),
  StableHlo.binary main_v21 main_v22 main_v23 (mulf : (⟨S4096x16, .f32⟩ : BufTy).Contents (Elt F) → (⟨S4096x16, .f32⟩ : BufTy).Contents (Elt F) → (⟨S4096x16, .f32⟩ : BufTy).Contents (Elt F)),
  StableHlo.unary main_v18 main_v24 (broadcastInDim S4096x1x16 ![0, 2] bcast_S4096x16_S4096x1x16_0_2 : (⟨S4096x16, .f32⟩ : BufTy).Contents (Elt F) → (⟨S4096x1x16, .f32⟩ : BufTy).Contents (Elt F)),
  StableHlo.unary main_v23 main_v25 (broadcastInDim S4096x1x16 ![0, 2] bcast_S4096x16_S4096x1x16_0_2 : (⟨S4096x16, .f32⟩ : BufTy).Contents (Elt F) → (⟨S4096x1x16, .f32⟩ : BufTy).Contents (Elt F)),
  StableHlo.binary main_v24 main_v25 main_v26 ((fun a b => concatenate S4096x2x16 1 [⟨S4096x1x16, a⟩, ⟨S4096x1x16, b⟩] concatenates_S4096x1x16_S4096x1x16_S4096x2x16_d1) : (⟨S4096x1x16, .f32⟩ : BufTy).Contents (Elt F) → (⟨S4096x1x16, .f32⟩ : BufTy).Contents (Elt F) → (⟨S4096x2x16, .f32⟩ : BufTy).Contents (Elt F)),
  StableHlo.unary main_v26 main_v27 (Host.cos : (⟨S4096x2x16, .f32⟩ : BufTy).Contents (Elt F) → (⟨S4096x2x16, .f32⟩ : BufTy).Contents (Elt F)),
  StableHlo.unary main_v26 main_v28 (Host.sin : (⟨S4096x2x16, .f32⟩ : BufTy).Contents (Elt F) → (⟨S4096x2x16, .f32⟩ : BufTy).Contents (Elt F))]

/-- The queries' normalised heads. -/
def ops2 : List (HloOp τ sig (Elt F)) := [
  StableHlo.unary main_arg0 main_v29 ((extractStridedSlice S8x4352x512 ![0, 0, 3072] · slices_S8x4352x7680_S8x4352x512_0_0_3072) : (⟨S8x4352x7680, .f32⟩ : BufTy).Contents (Elt F) → (⟨S8x4352x512, .f32⟩ : BufTy).Contents (Elt F)),
  StableHlo.reshape main_v29 main_v30 (rfl : (.f32 : EltTy) = .f32) shapeCasts_S8x4352x512_S8x4352x8x64,
  StableHlo.unary main_v30 main_v31 ((transpose S8x8x4352x64 [0, 2, 1, 3] · transposes_S8x4352x8x64_S8x8x4352x64_0_2_1_3) : (⟨S8x4352x8x64, .f32⟩ : BufTy).Contents (Elt F) → (⟨S8x8x4352x64, .f32⟩ : BufTy).Contents (Elt F)),
  StableHlo.binary main_v31 main_v31 main_v32 (mulf : (⟨S8x8x4352x64, .f32⟩ : BufTy).Contents (Elt F) → (⟨S8x8x4352x64, .f32⟩ : BufTy).Contents (Elt F) → (⟨S8x8x4352x64, .f32⟩ : BufTy).Contents (Elt F)),
  StableHlo.nullary main_cst_1 (constant S_ .f32 0x00000000#32),
  StableHlo.binary main_v32 main_cst_1 main_v33 ((fun x v => Host.reduceAdd x v reducesTo_S8x8x4352x64_S8x8x4352_d3 h_S_) : (⟨S8x8x4352x64, .f32⟩ : BufTy).Contents (Elt F) → (⟨S_, .f32⟩ : BufTy).Contents (Elt F) → (⟨S8x8x4352, .f32⟩ : BufTy).Contents (Elt F)),
  StableHlo.unary main_v33 main_v34 (broadcastInDim S8x8x4352x1 ![0, 1, 2] bcast_S8x8x4352_S8x8x4352x1_0_1_2 : (⟨S8x8x4352, .f32⟩ : BufTy).Contents (Elt F) → (⟨S8x8x4352x1, .f32⟩ : BufTy).Contents (Elt F)),
  StableHlo.nullary main_cst_2 (constant S_ .f32 0x42800000#32),
  StableHlo.unary main_cst_2 main_v35 (broadcastInDim S8x8x4352x1 ![] bcast_S_S8x8x4352x1 : (⟨S_, .f32⟩ : BufTy).Contents (Elt F) → (⟨S8x8x4352x1, .f32⟩ : BufTy).Contents (Elt F)),
  StableHlo.binary main_v34 main_v35 main_v36 (Host.divf : (⟨S8x8x4352x1, .f32⟩ : BufTy).Contents (Elt F) → (⟨S8x8x4352x1, .f32⟩ : BufTy).Contents (Elt F) → (⟨S8x8x4352x1, .f32⟩ : BufTy).Contents (Elt F)),
  StableHlo.nullary main_cst_3 (constant S_ .f32 0x358637BD#32),
  StableHlo.unary main_cst_3 main_v37 (broadcastInDim S8x8x4352x1 ![] bcast_S_S8x8x4352x1 : (⟨S_, .f32⟩ : BufTy).Contents (Elt F) → (⟨S8x8x4352x1, .f32⟩ : BufTy).Contents (Elt F)),
  StableHlo.binary main_v36 main_v37 main_v38 (addf : (⟨S8x8x4352x1, .f32⟩ : BufTy).Contents (Elt F) → (⟨S8x8x4352x1, .f32⟩ : BufTy).Contents (Elt F) → (⟨S8x8x4352x1, .f32⟩ : BufTy).Contents (Elt F)),
  StableHlo.unary main_v38 main_v39 (Host.rsqrt : (⟨S8x8x4352x1, .f32⟩ : BufTy).Contents (Elt F) → (⟨S8x8x4352x1, .f32⟩ : BufTy).Contents (Elt F)),
  StableHlo.unary main_v39 main_v40 (broadcastInDim S8x8x4352x64 ![0, 1, 2, 3] bcast_S8x8x4352x1_S8x8x4352x64_0_1_2_3 : (⟨S8x8x4352x1, .f32⟩ : BufTy).Contents (Elt F) → (⟨S8x8x4352x64, .f32⟩ : BufTy).Contents (Elt F)),
  StableHlo.binary main_v31 main_v40 main_v41 (mulf : (⟨S8x8x4352x64, .f32⟩ : BufTy).Contents (Elt F) → (⟨S8x8x4352x64, .f32⟩ : BufTy).Contents (Elt F) → (⟨S8x8x4352x64, .f32⟩ : BufTy).Contents (Elt F)),
  StableHlo.unary main_arg1 main_v42 (broadcastInDim S1x1x1x64 ![3] bcast_S64_S1x1x1x64_3 : (⟨S64, .f32⟩ : BufTy).Contents (Elt F) → (⟨S1x1x1x64, .f32⟩ : BufTy).Contents (Elt F)),
  StableHlo.unary main_v42 main_v43 (broadcastInDim S8x8x4352x64 ![0, 1, 2, 3] bcast_S1x1x1x64_S8x8x4352x64_0_1_2_3 : (⟨S1x1x1x64, .f32⟩ : BufTy).Contents (Elt F) → (⟨S8x8x4352x64, .f32⟩ : BufTy).Contents (Elt F)),
  StableHlo.binary main_v41 main_v43 main_v44 (mulf : (⟨S8x8x4352x64, .f32⟩ : BufTy).Contents (Elt F) → (⟨S8x8x4352x64, .f32⟩ : BufTy).Contents (Elt F) → (⟨S8x8x4352x64, .f32⟩ : BufTy).Contents (Elt F))]

/-- The keys' normalised heads, and the values'. -/
def ops3 : List (HloOp τ sig (Elt F)) := [
  StableHlo.unary main_arg0 main_v45 ((extractStridedSlice S8x4352x128 ![0, 0, 3584] · slices_S8x4352x7680_S8x4352x128_0_0_3584) : (⟨S8x4352x7680, .f32⟩ : BufTy).Contents (Elt F) → (⟨S8x4352x128, .f32⟩ : BufTy).Contents (Elt F)),
  StableHlo.reshape main_v45 main_v46 (rfl : (.f32 : EltTy) = .f32) shapeCasts_S8x4352x128_S8x4352x2x64,
  StableHlo.unary main_v46 main_v47 ((transpose S8x2x4352x64 [0, 2, 1, 3] · transposes_S8x4352x2x64_S8x2x4352x64_0_2_1_3) : (⟨S8x4352x2x64, .f32⟩ : BufTy).Contents (Elt F) → (⟨S8x2x4352x64, .f32⟩ : BufTy).Contents (Elt F)),
  StableHlo.binary main_v47 main_v47 main_v48 (mulf : (⟨S8x2x4352x64, .f32⟩ : BufTy).Contents (Elt F) → (⟨S8x2x4352x64, .f32⟩ : BufTy).Contents (Elt F) → (⟨S8x2x4352x64, .f32⟩ : BufTy).Contents (Elt F)),
  StableHlo.nullary main_cst_4 (constant S_ .f32 0x00000000#32),
  StableHlo.binary main_v48 main_cst_4 main_v49 ((fun x v => Host.reduceAdd x v reducesTo_S8x2x4352x64_S8x2x4352_d3 h_S_) : (⟨S8x2x4352x64, .f32⟩ : BufTy).Contents (Elt F) → (⟨S_, .f32⟩ : BufTy).Contents (Elt F) → (⟨S8x2x4352, .f32⟩ : BufTy).Contents (Elt F)),
  StableHlo.unary main_v49 main_v50 (broadcastInDim S8x2x4352x1 ![0, 1, 2] bcast_S8x2x4352_S8x2x4352x1_0_1_2 : (⟨S8x2x4352, .f32⟩ : BufTy).Contents (Elt F) → (⟨S8x2x4352x1, .f32⟩ : BufTy).Contents (Elt F)),
  StableHlo.nullary main_cst_5 (constant S_ .f32 0x42800000#32),
  StableHlo.unary main_cst_5 main_v51 (broadcastInDim S8x2x4352x1 ![] bcast_S_S8x2x4352x1 : (⟨S_, .f32⟩ : BufTy).Contents (Elt F) → (⟨S8x2x4352x1, .f32⟩ : BufTy).Contents (Elt F)),
  StableHlo.binary main_v50 main_v51 main_v52 (Host.divf : (⟨S8x2x4352x1, .f32⟩ : BufTy).Contents (Elt F) → (⟨S8x2x4352x1, .f32⟩ : BufTy).Contents (Elt F) → (⟨S8x2x4352x1, .f32⟩ : BufTy).Contents (Elt F)),
  StableHlo.nullary main_cst_6 (constant S_ .f32 0x358637BD#32),
  StableHlo.unary main_cst_6 main_v53 (broadcastInDim S8x2x4352x1 ![] bcast_S_S8x2x4352x1 : (⟨S_, .f32⟩ : BufTy).Contents (Elt F) → (⟨S8x2x4352x1, .f32⟩ : BufTy).Contents (Elt F)),
  StableHlo.binary main_v52 main_v53 main_v54 (addf : (⟨S8x2x4352x1, .f32⟩ : BufTy).Contents (Elt F) → (⟨S8x2x4352x1, .f32⟩ : BufTy).Contents (Elt F) → (⟨S8x2x4352x1, .f32⟩ : BufTy).Contents (Elt F)),
  StableHlo.unary main_v54 main_v55 (Host.rsqrt : (⟨S8x2x4352x1, .f32⟩ : BufTy).Contents (Elt F) → (⟨S8x2x4352x1, .f32⟩ : BufTy).Contents (Elt F)),
  StableHlo.unary main_v55 main_v56 (broadcastInDim S8x2x4352x64 ![0, 1, 2, 3] bcast_S8x2x4352x1_S8x2x4352x64_0_1_2_3 : (⟨S8x2x4352x1, .f32⟩ : BufTy).Contents (Elt F) → (⟨S8x2x4352x64, .f32⟩ : BufTy).Contents (Elt F)),
  StableHlo.binary main_v47 main_v56 main_v57 (mulf : (⟨S8x2x4352x64, .f32⟩ : BufTy).Contents (Elt F) → (⟨S8x2x4352x64, .f32⟩ : BufTy).Contents (Elt F) → (⟨S8x2x4352x64, .f32⟩ : BufTy).Contents (Elt F)),
  StableHlo.unary main_arg2 main_v58 (broadcastInDim S1x1x1x64 ![3] bcast_S64_S1x1x1x64_3 : (⟨S64, .f32⟩ : BufTy).Contents (Elt F) → (⟨S1x1x1x64, .f32⟩ : BufTy).Contents (Elt F)),
  StableHlo.unary main_v58 main_v59 (broadcastInDim S8x2x4352x64 ![0, 1, 2, 3] bcast_S1x1x1x64_S8x2x4352x64_0_1_2_3 : (⟨S1x1x1x64, .f32⟩ : BufTy).Contents (Elt F) → (⟨S8x2x4352x64, .f32⟩ : BufTy).Contents (Elt F)),
  StableHlo.binary main_v57 main_v59 main_v60 (mulf : (⟨S8x2x4352x64, .f32⟩ : BufTy).Contents (Elt F) → (⟨S8x2x4352x64, .f32⟩ : BufTy).Contents (Elt F) → (⟨S8x2x4352x64, .f32⟩ : BufTy).Contents (Elt F)),
  StableHlo.unary main_arg0 main_v61 ((extractStridedSlice S8x4352x128 ![0, 0, 3712] · slices_S8x4352x7680_S8x4352x128_0_0_3712) : (⟨S8x4352x7680, .f32⟩ : BufTy).Contents (Elt F) → (⟨S8x4352x128, .f32⟩ : BufTy).Contents (Elt F)),
  StableHlo.reshape main_v61 main_v62 (rfl : (.f32 : EltTy) = .f32) shapeCasts_S8x4352x128_S8x4352x2x64,
  StableHlo.unary main_v62 main_v63 ((transpose S8x2x4352x64 [0, 2, 1, 3] · transposes_S8x4352x2x64_S8x2x4352x64_0_2_1_3) : (⟨S8x4352x2x64, .f32⟩ : BufTy).Contents (Elt F) → (⟨S8x2x4352x64, .f32⟩ : BufTy).Contents (Elt F))]

/-- The keys rotated. -/
def ops4 : List (HloOp τ sig (Elt F)) := [
  StableHlo.unary main_v60 main_v64 ((extractStridedSlice S8x2x256x64 ![0, 0, 0, 0] · slices_S8x2x4352x64_S8x2x256x64_0_0_0_0) : (⟨S8x2x4352x64, .f32⟩ : BufTy).Contents (Elt F) → (⟨S8x2x256x64, .f32⟩ : BufTy).Contents (Elt F)),
  StableHlo.unary main_v60 main_v65 ((extractStridedSlice S8x2x4096x64 ![0, 0, 256, 0] · slices_S8x2x4352x64_S8x2x4096x64_0_0_256_0) : (⟨S8x2x4352x64, .f32⟩ : BufTy).Contents (Elt F) → (⟨S8x2x4096x64, .f32⟩ : BufTy).Contents (Elt F)),
  StableHlo.reshape main_v65 main_v66 (rfl : (.f32 : EltTy) = .f32) shapeCasts_S8x2x4096x64_S8x2x4096x2x2x16,
  StableHlo.unary main_v66 main_v67 ((extractStridedSlice S8x2x4096x2x1x16 ![0, 0, 0, 0, 0, 0] · slices_S8x2x4096x2x2x16_S8x2x4096x2x1x16_0_0_0_0_0_0) : (⟨S8x2x4096x2x2x16, .f32⟩ : BufTy).Contents (Elt F) → (⟨S8x2x4096x2x1x16, .f32⟩ : BufTy).Contents (Elt F)),
  StableHlo.reshape main_v67 main_v68 (rfl : (.f32 : EltTy) = .f32) shapeCasts_S8x2x4096x2x1x16_S8x2x4096x2x16,
  StableHlo.unary main_v66 main_v69 ((extractStridedSlice S8x2x4096x2x1x16 ![0, 0, 0, 0, 1, 0] · slices_S8x2x4096x2x2x16_S8x2x4096x2x1x16_0_0_0_0_1_0) : (⟨S8x2x4096x2x2x16, .f32⟩ : BufTy).Contents (Elt F) → (⟨S8x2x4096x2x1x16, .f32⟩ : BufTy).Contents (Elt F)),
  StableHlo.reshape main_v69 main_v70 (rfl : (.f32 : EltTy) = .f32) shapeCasts_S8x2x4096x2x1x16_S8x2x4096x2x16,
  StableHlo.unary main_v27 main_v71 (broadcastInDim S1x1x4096x2x16 ![2, 3, 4] bcast_S4096x2x16_S1x1x4096x2x16_2_3_4 : (⟨S4096x2x16, .f32⟩ : BufTy).Contents (Elt F) → (⟨S1x1x4096x2x16, .f32⟩ : BufTy).Contents (Elt F)),
  StableHlo.unary main_v71 main_v72 (broadcastInDim S8x2x4096x2x16 ![0, 1, 2, 3, 4] bcast_S1x1x4096x2x16_S8x2x4096x2x16_0_1_2_3_4 : (⟨S1x1x4096x2x16, .f32⟩ : BufTy).Contents (Elt F) → (⟨S8x2x4096x2x16, .f32⟩ : BufTy).Contents (Elt F)),
  StableHlo.binary main_v68 main_v72 main_v73 (mulf : (⟨S8x2x4096x2x16, .f32⟩ : BufTy).Contents (Elt F) → (⟨S8x2x4096x2x16, .f32⟩ : BufTy).Contents (Elt F) → (⟨S8x2x4096x2x16, .f32⟩ : BufTy).Contents (Elt F)),
  StableHlo.unary main_v28 main_v74 (broadcastInDim S1x1x4096x2x16 ![2, 3, 4] bcast_S4096x2x16_S1x1x4096x2x16_2_3_4 : (⟨S4096x2x16, .f32⟩ : BufTy).Contents (Elt F) → (⟨S1x1x4096x2x16, .f32⟩ : BufTy).Contents (Elt F)),
  StableHlo.unary main_v74 main_v75 (broadcastInDim S8x2x4096x2x16 ![0, 1, 2, 3, 4] bcast_S1x1x4096x2x16_S8x2x4096x2x16_0_1_2_3_4 : (⟨S1x1x4096x2x16, .f32⟩ : BufTy).Contents (Elt F) → (⟨S8x2x4096x2x16, .f32⟩ : BufTy).Contents (Elt F)),
  StableHlo.binary main_v70 main_v75 main_v76 (mulf : (⟨S8x2x4096x2x16, .f32⟩ : BufTy).Contents (Elt F) → (⟨S8x2x4096x2x16, .f32⟩ : BufTy).Contents (Elt F) → (⟨S8x2x4096x2x16, .f32⟩ : BufTy).Contents (Elt F)),
  StableHlo.binary main_v73 main_v76 main_v77 (subf : (⟨S8x2x4096x2x16, .f32⟩ : BufTy).Contents (Elt F) → (⟨S8x2x4096x2x16, .f32⟩ : BufTy).Contents (Elt F) → (⟨S8x2x4096x2x16, .f32⟩ : BufTy).Contents (Elt F)),
  StableHlo.unary main_v27 main_v78 (broadcastInDim S1x1x4096x2x16 ![2, 3, 4] bcast_S4096x2x16_S1x1x4096x2x16_2_3_4 : (⟨S4096x2x16, .f32⟩ : BufTy).Contents (Elt F) → (⟨S1x1x4096x2x16, .f32⟩ : BufTy).Contents (Elt F)),
  StableHlo.unary main_v78 main_v79 (broadcastInDim S8x2x4096x2x16 ![0, 1, 2, 3, 4] bcast_S1x1x4096x2x16_S8x2x4096x2x16_0_1_2_3_4 : (⟨S1x1x4096x2x16, .f32⟩ : BufTy).Contents (Elt F) → (⟨S8x2x4096x2x16, .f32⟩ : BufTy).Contents (Elt F)),
  StableHlo.binary main_v70 main_v79 main_v80 (mulf : (⟨S8x2x4096x2x16, .f32⟩ : BufTy).Contents (Elt F) → (⟨S8x2x4096x2x16, .f32⟩ : BufTy).Contents (Elt F) → (⟨S8x2x4096x2x16, .f32⟩ : BufTy).Contents (Elt F)),
  StableHlo.unary main_v28 main_v81 (broadcastInDim S1x1x4096x2x16 ![2, 3, 4] bcast_S4096x2x16_S1x1x4096x2x16_2_3_4 : (⟨S4096x2x16, .f32⟩ : BufTy).Contents (Elt F) → (⟨S1x1x4096x2x16, .f32⟩ : BufTy).Contents (Elt F)),
  StableHlo.unary main_v81 main_v82 (broadcastInDim S8x2x4096x2x16 ![0, 1, 2, 3, 4] bcast_S1x1x4096x2x16_S8x2x4096x2x16_0_1_2_3_4 : (⟨S1x1x4096x2x16, .f32⟩ : BufTy).Contents (Elt F) → (⟨S8x2x4096x2x16, .f32⟩ : BufTy).Contents (Elt F)),
  StableHlo.binary main_v68 main_v82 main_v83 (mulf : (⟨S8x2x4096x2x16, .f32⟩ : BufTy).Contents (Elt F) → (⟨S8x2x4096x2x16, .f32⟩ : BufTy).Contents (Elt F) → (⟨S8x2x4096x2x16, .f32⟩ : BufTy).Contents (Elt F)),
  StableHlo.binary main_v80 main_v83 main_v84 (addf : (⟨S8x2x4096x2x16, .f32⟩ : BufTy).Contents (Elt F) → (⟨S8x2x4096x2x16, .f32⟩ : BufTy).Contents (Elt F) → (⟨S8x2x4096x2x16, .f32⟩ : BufTy).Contents (Elt F)),
  StableHlo.unary main_v77 main_v85 (broadcastInDim S8x2x4096x2x1x16 ![0, 1, 2, 3, 5] bcast_S8x2x4096x2x16_S8x2x4096x2x1x16_0_1_2_3_5 : (⟨S8x2x4096x2x16, .f32⟩ : BufTy).Contents (Elt F) → (⟨S8x2x4096x2x1x16, .f32⟩ : BufTy).Contents (Elt F)),
  StableHlo.unary main_v84 main_v86 (broadcastInDim S8x2x4096x2x1x16 ![0, 1, 2, 3, 5] bcast_S8x2x4096x2x16_S8x2x4096x2x1x16_0_1_2_3_5 : (⟨S8x2x4096x2x16, .f32⟩ : BufTy).Contents (Elt F) → (⟨S8x2x4096x2x1x16, .f32⟩ : BufTy).Contents (Elt F)),
  StableHlo.binary main_v85 main_v86 main_v87 ((fun a b => concatenate S8x2x4096x2x2x16 4 [⟨S8x2x4096x2x1x16, a⟩, ⟨S8x2x4096x2x1x16, b⟩] concatenates_S8x2x4096x2x1x16_S8x2x4096x2x1x16_S8x2x4096x2x2x16_d4) : (⟨S8x2x4096x2x1x16, .f32⟩ : BufTy).Contents (Elt F) → (⟨S8x2x4096x2x1x16, .f32⟩ : BufTy).Contents (Elt F) → (⟨S8x2x4096x2x2x16, .f32⟩ : BufTy).Contents (Elt F)),
  StableHlo.reshape main_v87 main_v88 (rfl : (.f32 : EltTy) = .f32) shapeCasts_S8x2x4096x2x2x16_S8x2x4096x64]

/-- The keys' rows put together. -/
def ops4b : List (HloOp τ sig (Elt F)) := [
  StableHlo.binary main_v64 main_v88 main_v89 ((fun a b => concatenate S8x2x4352x64 2 [⟨S8x2x256x64, a⟩, ⟨S8x2x4096x64, b⟩] concatenates_S8x2x256x64_S8x2x4096x64_S8x2x4352x64_d2) : (⟨S8x2x256x64, .f32⟩ : BufTy).Contents (Elt F) → (⟨S8x2x4096x64, .f32⟩ : BufTy).Contents (Elt F) → (⟨S8x2x4352x64, .f32⟩ : BufTy).Contents (Elt F))]

/-- The context rows' scores, -/
def ops5 : List (HloOp τ sig (Elt F)) := [
  StableHlo.unary main_v44 main_v90 ((extractStridedSlice S8x8x256x64 ![0, 0, 0, 0] · slices_S8x8x4352x64_S8x8x256x64_0_0_0_0) : (⟨S8x8x4352x64, .f32⟩ : BufTy).Contents (Elt F) → (⟨S8x8x256x64, .f32⟩ : BufTy).Contents (Elt F)),
  StableHlo.unary main_v60 main_v91 ((extractStridedSlice S8x2x256x64 ![0, 0, 0, 0] · slices_S8x2x4352x64_S8x2x256x64_0_0_0_0) : (⟨S8x2x4352x64, .f32⟩ : BufTy).Contents (Elt F) → (⟨S8x2x256x64, .f32⟩ : BufTy).Contents (Elt F)),
  StableHlo.unary main_v63 main_v92 ((extractStridedSlice S8x2x256x64 ![0, 0, 0, 0] · slices_S8x2x4352x64_S8x2x256x64_0_0_0_0) : (⟨S8x2x4352x64, .f32⟩ : BufTy).Contents (Elt F) → (⟨S8x2x256x64, .f32⟩ : BufTy).Contents (Elt F)),
  StableHlo.reshape main_v90 main_v93 (rfl : (.f32 : EltTy) = .f32) shapeCasts_S8x8x256x64_S8x2x4x256x64,
  StableHlo.binary main_v93 main_v91 main_v94 ((fun l r => Host.dotGeneral dot_S8x2x4x256x64_S8x2x256x64_S8x2x4x256x256_4_3_23_2_01_01 none l r) : (⟨S8x2x4x256x64, .f32⟩ : BufTy).Contents (Elt F) → (⟨S8x2x256x64, .f32⟩ : BufTy).Contents (Elt F) → (⟨S8x2x4x256x256, .f32⟩ : BufTy).Contents (Elt F)),
  StableHlo.nullary main_cst_7 (constant S_ .f32 0x3E000000#32),
  StableHlo.unary main_cst_7 main_v95 (broadcastInDim S8x2x4x256x256 ![] bcast_S_S8x2x4x256x256 : (⟨S_, .f32⟩ : BufTy).Contents (Elt F) → (⟨S8x2x4x256x256, .f32⟩ : BufTy).Contents (Elt F)),
  StableHlo.binary main_v94 main_v95 main_v96 (mulf : (⟨S8x2x4x256x256, .f32⟩ : BufTy).Contents (Elt F) → (⟨S8x2x4x256x256, .f32⟩ : BufTy).Contents (Elt F) → (⟨S8x2x4x256x256, .f32⟩ : BufTy).Contents (Elt F))]

/-- their largest, -/
def ops6 : List (HloOp τ sig (Elt F)) := [
  StableHlo.nullary main_cst_8 (constant S_ .f32 0xFF800000#32),
  StableHlo.binary main_v96 main_cst_8 main_v97 ((fun x v => Host.reduce FloatOps.maximumf x v reducesTo_S8x2x4x256x256_S8x2x4x256_d4 h_S_) : (⟨S8x2x4x256x256, .f32⟩ : BufTy).Contents (Elt F) → (⟨S_, .f32⟩ : BufTy).Contents (Elt F) → (⟨S8x2x4x256, .f32⟩ : BufTy).Contents (Elt F)),
  StableHlo.nullary main_cst_9 (constant S_ .f32 0xFF800000#32),
  StableHlo.unary main_cst_9 main_v98 (broadcastInDim S8x2x4x256 ![] bcast_S_S8x2x4x256 : (⟨S_, .f32⟩ : BufTy).Contents (Elt F) → (⟨S8x2x4x256, .f32⟩ : BufTy).Contents (Elt F)),
  StableHlo.binary main_v98 main_v97 main_v99 (maximumf : (⟨S8x2x4x256, .f32⟩ : BufTy).Contents (Elt F) → (⟨S8x2x4x256, .f32⟩ : BufTy).Contents (Elt F) → (⟨S8x2x4x256, .f32⟩ : BufTy).Contents (Elt F)),
  StableHlo.unary main_v99 main_v100 (broadcastInDim S8x2x4x256x1 ![0, 1, 2, 3] bcast_S8x2x4x256_S8x2x4x256x1_0_1_2_3 : (⟨S8x2x4x256, .f32⟩ : BufTy).Contents (Elt F) → (⟨S8x2x4x256x1, .f32⟩ : BufTy).Contents (Elt F)),
  StableHlo.unary main_v100 main_v101 (broadcastInDim S8x2x4x256x256 ![0, 1, 2, 3, 4] bcast_S8x2x4x256x1_S8x2x4x256x256_0_1_2_3_4 : (⟨S8x2x4x256x1, .f32⟩ : BufTy).Contents (Elt F) → (⟨S8x2x4x256x256, .f32⟩ : BufTy).Contents (Elt F))]

/-- the mean of the values, -/
def ops7 : List (HloOp τ sig (Elt F)) := [
  StableHlo.binary main_v96 main_v101 main_v102 (subf : (⟨S8x2x4x256x256, .f32⟩ : BufTy).Contents (Elt F) → (⟨S8x2x4x256x256, .f32⟩ : BufTy).Contents (Elt F) → (⟨S8x2x4x256x256, .f32⟩ : BufTy).Contents (Elt F)),
  StableHlo.unary main_v102 main_v103 (Host.exp : (⟨S8x2x4x256x256, .f32⟩ : BufTy).Contents (Elt F) → (⟨S8x2x4x256x256, .f32⟩ : BufTy).Contents (Elt F)),
  StableHlo.nullary main_cst_10 (constant S_ .f32 0x00000000#32),
  StableHlo.binary main_v103 main_cst_10 main_v104 ((fun x v => Host.reduceAdd x v reducesTo_S8x2x4x256x256_S8x2x4x256_d4 h_S_) : (⟨S8x2x4x256x256, .f32⟩ : BufTy).Contents (Elt F) → (⟨S_, .f32⟩ : BufTy).Contents (Elt F) → (⟨S8x2x4x256, .f32⟩ : BufTy).Contents (Elt F)),
  StableHlo.unary main_v104 main_v105 (broadcastInDim S8x2x4x256x1 ![0, 1, 2, 3] bcast_S8x2x4x256_S8x2x4x256x1_0_1_2_3 : (⟨S8x2x4x256, .f32⟩ : BufTy).Contents (Elt F) → (⟨S8x2x4x256x1, .f32⟩ : BufTy).Contents (Elt F)),
  StableHlo.unary main_v105 main_v106 (broadcastInDim S8x2x4x256x256 ![0, 1, 2, 3, 4] bcast_S8x2x4x256x1_S8x2x4x256x256_0_1_2_3_4 : (⟨S8x2x4x256x1, .f32⟩ : BufTy).Contents (Elt F) → (⟨S8x2x4x256x256, .f32⟩ : BufTy).Contents (Elt F)),
  StableHlo.binary main_v103 main_v106 main_v107 (Host.divf : (⟨S8x2x4x256x256, .f32⟩ : BufTy).Contents (Elt F) → (⟨S8x2x4x256x256, .f32⟩ : BufTy).Contents (Elt F) → (⟨S8x2x4x256x256, .f32⟩ : BufTy).Contents (Elt F)),
  StableHlo.binary main_v107 main_v92 main_v108 ((fun l r => Host.dotGeneral dot_S8x2x4x256x256_S8x2x256x64_S8x2x4x256x64_4_2_23_3_01_01 none l r) : (⟨S8x2x4x256x256, .f32⟩ : BufTy).Contents (Elt F) → (⟨S8x2x256x64, .f32⟩ : BufTy).Contents (Elt F) → (⟨S8x2x4x256x64, .f32⟩ : BufTy).Contents (Elt F))]

/-- the heads put side by side. -/
def ops8 : List (HloOp τ sig (Elt F)) := [
  StableHlo.reshape main_v108 main_v109 (rfl : (.f32 : EltTy) = .f32) shapeCasts_S8x2x4x256x64_S8x8x256x64,
  StableHlo.unary main_v109 main_v110 ((transpose S8x256x8x64 [0, 2, 1, 3] · transposes_S8x8x256x64_S8x256x8x64_0_2_1_3) : (⟨S8x8x256x64, .f32⟩ : BufTy).Contents (Elt F) → (⟨S8x256x8x64, .f32⟩ : BufTy).Contents (Elt F)),
  StableHlo.reshape main_v110 main_v111 (rfl : (.f32 : EltTy) = .f32) shapeCasts_S8x256x8x64_S8x256x512]

/-- The latent rows' queries rotated. -/
def ops9 : List (HloOp τ sig (Elt F)) := [
  StableHlo.unary main_v44 main_v112 ((extractStridedSlice S8x8x4096x64 ![0, 0, 256, 0] · slices_S8x8x4352x64_S8x8x4096x64_0_0_256_0) : (⟨S8x8x4352x64, .f32⟩ : BufTy).Contents (Elt F) → (⟨S8x8x4096x64, .f32⟩ : BufTy).Contents (Elt F)),
  StableHlo.reshape main_v112 main_v113 (rfl : (.f32 : EltTy) = .f32) shapeCasts_S8x8x4096x64_S8x8x4096x2x2x16,
  StableHlo.unary main_v113 main_v114 ((extractStridedSlice S8x8x4096x2x1x16 ![0, 0, 0, 0, 0, 0] · slices_S8x8x4096x2x2x16_S8x8x4096x2x1x16_0_0_0_0_0_0) : (⟨S8x8x4096x2x2x16, .f32⟩ : BufTy).Contents (Elt F) → (⟨S8x8x4096x2x1x16, .f32⟩ : BufTy).Contents (Elt F)),
  StableHlo.reshape main_v114 main_v115 (rfl : (.f32 : EltTy) = .f32) shapeCasts_S8x8x4096x2x1x16_S8x8x4096x2x16,
  StableHlo.unary main_v113 main_v116 ((extractStridedSlice S8x8x4096x2x1x16 ![0, 0, 0, 0, 1, 0] · slices_S8x8x4096x2x2x16_S8x8x4096x2x1x16_0_0_0_0_1_0) : (⟨S8x8x4096x2x2x16, .f32⟩ : BufTy).Contents (Elt F) → (⟨S8x8x4096x2x1x16, .f32⟩ : BufTy).Contents (Elt F)),
  StableHlo.reshape main_v116 main_v117 (rfl : (.f32 : EltTy) = .f32) shapeCasts_S8x8x4096x2x1x16_S8x8x4096x2x16,
  StableHlo.unary main_v27 main_v118 (broadcastInDim S1x1x4096x2x16 ![2, 3, 4] bcast_S4096x2x16_S1x1x4096x2x16_2_3_4 : (⟨S4096x2x16, .f32⟩ : BufTy).Contents (Elt F) → (⟨S1x1x4096x2x16, .f32⟩ : BufTy).Contents (Elt F)),
  StableHlo.unary main_v118 main_v119 (broadcastInDim S8x8x4096x2x16 ![0, 1, 2, 3, 4] bcast_S1x1x4096x2x16_S8x8x4096x2x16_0_1_2_3_4 : (⟨S1x1x4096x2x16, .f32⟩ : BufTy).Contents (Elt F) → (⟨S8x8x4096x2x16, .f32⟩ : BufTy).Contents (Elt F)),
  StableHlo.binary main_v115 main_v119 main_v120 (mulf : (⟨S8x8x4096x2x16, .f32⟩ : BufTy).Contents (Elt F) → (⟨S8x8x4096x2x16, .f32⟩ : BufTy).Contents (Elt F) → (⟨S8x8x4096x2x16, .f32⟩ : BufTy).Contents (Elt F)),
  StableHlo.unary main_v28 main_v121 (broadcastInDim S1x1x4096x2x16 ![2, 3, 4] bcast_S4096x2x16_S1x1x4096x2x16_2_3_4 : (⟨S4096x2x16, .f32⟩ : BufTy).Contents (Elt F) → (⟨S1x1x4096x2x16, .f32⟩ : BufTy).Contents (Elt F)),
  StableHlo.unary main_v121 main_v122 (broadcastInDim S8x8x4096x2x16 ![0, 1, 2, 3, 4] bcast_S1x1x4096x2x16_S8x8x4096x2x16_0_1_2_3_4 : (⟨S1x1x4096x2x16, .f32⟩ : BufTy).Contents (Elt F) → (⟨S8x8x4096x2x16, .f32⟩ : BufTy).Contents (Elt F)),
  StableHlo.binary main_v117 main_v122 main_v123 (mulf : (⟨S8x8x4096x2x16, .f32⟩ : BufTy).Contents (Elt F) → (⟨S8x8x4096x2x16, .f32⟩ : BufTy).Contents (Elt F) → (⟨S8x8x4096x2x16, .f32⟩ : BufTy).Contents (Elt F)),
  StableHlo.binary main_v120 main_v123 main_v124 (subf : (⟨S8x8x4096x2x16, .f32⟩ : BufTy).Contents (Elt F) → (⟨S8x8x4096x2x16, .f32⟩ : BufTy).Contents (Elt F) → (⟨S8x8x4096x2x16, .f32⟩ : BufTy).Contents (Elt F)),
  StableHlo.unary main_v27 main_v125 (broadcastInDim S1x1x4096x2x16 ![2, 3, 4] bcast_S4096x2x16_S1x1x4096x2x16_2_3_4 : (⟨S4096x2x16, .f32⟩ : BufTy).Contents (Elt F) → (⟨S1x1x4096x2x16, .f32⟩ : BufTy).Contents (Elt F)),
  StableHlo.unary main_v125 main_v126 (broadcastInDim S8x8x4096x2x16 ![0, 1, 2, 3, 4] bcast_S1x1x4096x2x16_S8x8x4096x2x16_0_1_2_3_4 : (⟨S1x1x4096x2x16, .f32⟩ : BufTy).Contents (Elt F) → (⟨S8x8x4096x2x16, .f32⟩ : BufTy).Contents (Elt F)),
  StableHlo.binary main_v117 main_v126 main_v127 (mulf : (⟨S8x8x4096x2x16, .f32⟩ : BufTy).Contents (Elt F) → (⟨S8x8x4096x2x16, .f32⟩ : BufTy).Contents (Elt F) → (⟨S8x8x4096x2x16, .f32⟩ : BufTy).Contents (Elt F)),
  StableHlo.unary main_v28 main_v128 (broadcastInDim S1x1x4096x2x16 ![2, 3, 4] bcast_S4096x2x16_S1x1x4096x2x16_2_3_4 : (⟨S4096x2x16, .f32⟩ : BufTy).Contents (Elt F) → (⟨S1x1x4096x2x16, .f32⟩ : BufTy).Contents (Elt F)),
  StableHlo.unary main_v128 main_v129 (broadcastInDim S8x8x4096x2x16 ![0, 1, 2, 3, 4] bcast_S1x1x4096x2x16_S8x8x4096x2x16_0_1_2_3_4 : (⟨S1x1x4096x2x16, .f32⟩ : BufTy).Contents (Elt F) → (⟨S8x8x4096x2x16, .f32⟩ : BufTy).Contents (Elt F)),
  StableHlo.binary main_v115 main_v129 main_v130 (mulf : (⟨S8x8x4096x2x16, .f32⟩ : BufTy).Contents (Elt F) → (⟨S8x8x4096x2x16, .f32⟩ : BufTy).Contents (Elt F) → (⟨S8x8x4096x2x16, .f32⟩ : BufTy).Contents (Elt F)),
  StableHlo.binary main_v127 main_v130 main_v131 (addf : (⟨S8x8x4096x2x16, .f32⟩ : BufTy).Contents (Elt F) → (⟨S8x8x4096x2x16, .f32⟩ : BufTy).Contents (Elt F) → (⟨S8x8x4096x2x16, .f32⟩ : BufTy).Contents (Elt F)),
  StableHlo.unary main_v124 main_v132 (broadcastInDim S8x8x4096x2x1x16 ![0, 1, 2, 3, 5] bcast_S8x8x4096x2x16_S8x8x4096x2x1x16_0_1_2_3_5 : (⟨S8x8x4096x2x16, .f32⟩ : BufTy).Contents (Elt F) → (⟨S8x8x4096x2x1x16, .f32⟩ : BufTy).Contents (Elt F)),
  StableHlo.unary main_v131 main_v133 (broadcastInDim S8x8x4096x2x1x16 ![0, 1, 2, 3, 5] bcast_S8x8x4096x2x16_S8x8x4096x2x1x16_0_1_2_3_5 : (⟨S8x8x4096x2x16, .f32⟩ : BufTy).Contents (Elt F) → (⟨S8x8x4096x2x1x16, .f32⟩ : BufTy).Contents (Elt F)),
  StableHlo.binary main_v132 main_v133 main_v134 ((fun a b => concatenate S8x8x4096x2x2x16 4 [⟨S8x8x4096x2x1x16, a⟩, ⟨S8x8x4096x2x1x16, b⟩] concatenates_S8x8x4096x2x1x16_S8x8x4096x2x1x16_S8x8x4096x2x2x16_d4) : (⟨S8x8x4096x2x1x16, .f32⟩ : BufTy).Contents (Elt F) → (⟨S8x8x4096x2x1x16, .f32⟩ : BufTy).Contents (Elt F) → (⟨S8x8x4096x2x2x16, .f32⟩ : BufTy).Contents (Elt F)),
  StableHlo.reshape main_v134 main_v135 (rfl : (.f32 : EltTy) = .f32) shapeCasts_S8x8x4096x2x2x16_S8x8x4096x64]

/-- The latent rows' scores, -/
def ops10 : List (HloOp τ sig (Elt F)) := [
  StableHlo.reshape main_v135 main_v136 (rfl : (.f32 : EltTy) = .f32) shapeCasts_S8x8x4096x64_S8x2x4x4096x64,
  StableHlo.binary main_v136 main_v89 main_v137 ((fun l r => Host.dotGeneral dot_S8x2x4x4096x64_S8x2x4352x64_S8x2x4x4096x4352_4_3_23_2_01_01 none l r) : (⟨S8x2x4x4096x64, .f32⟩ : BufTy).Contents (Elt F) → (⟨S8x2x4352x64, .f32⟩ : BufTy).Contents (Elt F) → (⟨S8x2x4x4096x4352, .f32⟩ : BufTy).Contents (Elt F)),
  StableHlo.nullary main_cst_11 (constant S_ .f32 0x3E000000#32),
  StableHlo.unary main_cst_11 main_v138 (broadcastInDim S8x2x4x4096x4352 ![] bcast_S_S8x2x4x4096x4352 : (⟨S_, .f32⟩ : BufTy).Contents (Elt F) → (⟨S8x2x4x4096x4352, .f32⟩ : BufTy).Contents (Elt F)),
  StableHlo.binary main_v137 main_v138 main_v139 (mulf : (⟨S8x2x4x4096x4352, .f32⟩ : BufTy).Contents (Elt F) → (⟨S8x2x4x4096x4352, .f32⟩ : BufTy).Contents (Elt F) → (⟨S8x2x4x4096x4352, .f32⟩ : BufTy).Contents (Elt F))]

/-- their largest, -/
def ops11 : List (HloOp τ sig (Elt F)) := [
  StableHlo.nullary main_cst_12 (constant S_ .f32 0xFF800000#32),
  StableHlo.binary main_v139 main_cst_12 main_v140 ((fun x v => Host.reduce FloatOps.maximumf x v reducesTo_S8x2x4x4096x4352_S8x2x4x4096_d4 h_S_) : (⟨S8x2x4x4096x4352, .f32⟩ : BufTy).Contents (Elt F) → (⟨S_, .f32⟩ : BufTy).Contents (Elt F) → (⟨S8x2x4x4096, .f32⟩ : BufTy).Contents (Elt F)),
  StableHlo.nullary main_cst_13 (constant S_ .f32 0xFF800000#32),
  StableHlo.unary main_cst_13 main_v141 (broadcastInDim S8x2x4x4096 ![] bcast_S_S8x2x4x4096 : (⟨S_, .f32⟩ : BufTy).Contents (Elt F) → (⟨S8x2x4x4096, .f32⟩ : BufTy).Contents (Elt F)),
  StableHlo.binary main_v141 main_v140 main_v142 (maximumf : (⟨S8x2x4x4096, .f32⟩ : BufTy).Contents (Elt F) → (⟨S8x2x4x4096, .f32⟩ : BufTy).Contents (Elt F) → (⟨S8x2x4x4096, .f32⟩ : BufTy).Contents (Elt F)),
  StableHlo.unary main_v142 main_v143 (broadcastInDim S8x2x4x4096x1 ![0, 1, 2, 3] bcast_S8x2x4x4096_S8x2x4x4096x1_0_1_2_3 : (⟨S8x2x4x4096, .f32⟩ : BufTy).Contents (Elt F) → (⟨S8x2x4x4096x1, .f32⟩ : BufTy).Contents (Elt F)),
  StableHlo.unary main_v143 main_v144 (broadcastInDim S8x2x4x4096x4352 ![0, 1, 2, 3, 4] bcast_S8x2x4x4096x1_S8x2x4x4096x4352_0_1_2_3_4 : (⟨S8x2x4x4096x1, .f32⟩ : BufTy).Contents (Elt F) → (⟨S8x2x4x4096x4352, .f32⟩ : BufTy).Contents (Elt F))]

/-- the mean of the values, -/
def ops12 : List (HloOp τ sig (Elt F)) := [
  StableHlo.binary main_v139 main_v144 main_v145 (subf : (⟨S8x2x4x4096x4352, .f32⟩ : BufTy).Contents (Elt F) → (⟨S8x2x4x4096x4352, .f32⟩ : BufTy).Contents (Elt F) → (⟨S8x2x4x4096x4352, .f32⟩ : BufTy).Contents (Elt F)),
  StableHlo.unary main_v145 main_v146 (Host.exp : (⟨S8x2x4x4096x4352, .f32⟩ : BufTy).Contents (Elt F) → (⟨S8x2x4x4096x4352, .f32⟩ : BufTy).Contents (Elt F)),
  StableHlo.nullary main_cst_14 (constant S_ .f32 0x00000000#32),
  StableHlo.binary main_v146 main_cst_14 main_v147 ((fun x v => Host.reduceAdd x v reducesTo_S8x2x4x4096x4352_S8x2x4x4096_d4 h_S_) : (⟨S8x2x4x4096x4352, .f32⟩ : BufTy).Contents (Elt F) → (⟨S_, .f32⟩ : BufTy).Contents (Elt F) → (⟨S8x2x4x4096, .f32⟩ : BufTy).Contents (Elt F)),
  StableHlo.unary main_v147 main_v148 (broadcastInDim S8x2x4x4096x1 ![0, 1, 2, 3] bcast_S8x2x4x4096_S8x2x4x4096x1_0_1_2_3 : (⟨S8x2x4x4096, .f32⟩ : BufTy).Contents (Elt F) → (⟨S8x2x4x4096x1, .f32⟩ : BufTy).Contents (Elt F)),
  StableHlo.unary main_v148 main_v149 (broadcastInDim S8x2x4x4096x4352 ![0, 1, 2, 3, 4] bcast_S8x2x4x4096x1_S8x2x4x4096x4352_0_1_2_3_4 : (⟨S8x2x4x4096x1, .f32⟩ : BufTy).Contents (Elt F) → (⟨S8x2x4x4096x4352, .f32⟩ : BufTy).Contents (Elt F)),
  StableHlo.binary main_v146 main_v149 main_v150 (Host.divf : (⟨S8x2x4x4096x4352, .f32⟩ : BufTy).Contents (Elt F) → (⟨S8x2x4x4096x4352, .f32⟩ : BufTy).Contents (Elt F) → (⟨S8x2x4x4096x4352, .f32⟩ : BufTy).Contents (Elt F)),
  StableHlo.binary main_v150 main_v63 main_v151 ((fun l r => Host.dotGeneral dot_S8x2x4x4096x4352_S8x2x4352x64_S8x2x4x4096x64_4_2_23_3_01_01 none l r) : (⟨S8x2x4x4096x4352, .f32⟩ : BufTy).Contents (Elt F) → (⟨S8x2x4352x64, .f32⟩ : BufTy).Contents (Elt F) → (⟨S8x2x4x4096x64, .f32⟩ : BufTy).Contents (Elt F))]

/-- and the two results put together. -/
def ops13 : List (HloOp τ sig (Elt F)) := [
  StableHlo.reshape main_v151 main_v152 (rfl : (.f32 : EltTy) = .f32) shapeCasts_S8x2x4x4096x64_S8x8x4096x64,
  StableHlo.unary main_v152 main_v153 ((transpose S8x4096x8x64 [0, 2, 1, 3] · transposes_S8x8x4096x64_S8x4096x8x64_0_2_1_3) : (⟨S8x8x4096x64, .f32⟩ : BufTy).Contents (Elt F) → (⟨S8x4096x8x64, .f32⟩ : BufTy).Contents (Elt F)),
  StableHlo.reshape main_v153 main_v154 (rfl : (.f32 : EltTy) = .f32) shapeCasts_S8x4096x8x64_S8x4096x512,
  StableHlo.binary main_v111 main_v154 main_v155 ((fun a b => concatenate S8x4352x512 1 [⟨S8x256x512, a⟩, ⟨S8x4096x512, b⟩] concatenates_S8x256x512_S8x4096x512_S8x4352x512_d1) : (⟨S8x256x512, .f32⟩ : BufTy).Contents (Elt F) → (⟨S8x4096x512, .f32⟩ : BufTy).Contents (Elt F) → (⟨S8x4352x512, .f32⟩ : BufTy).Contents (Elt F)),
  StableHlo.unary main_v155 main_v156 ((truncf .bf16 · bitsLt_bf16_f32) : (⟨S8x4352x512, .f32⟩ : BufTy).Contents (Elt F) → (⟨S8x4352x512, .bf16⟩ : BufTy).Contents (Elt F))]

end Cert.Proof.AttRef

end
-- ==== Proof.AttRef1.lean ====
/-
  The reference's rotations and normalised heads.
-/
module

public import proofs.«01_k».proof.Proof.AttRefOps
public import proofs.«01_k».proof.Proof.AttSpec

@[expose] public section

set_option maxRecDepth 16384
set_option Elab.async false

noncomputable section

namespace Cert.Proof.AttRef

open Idealize.ShloMosaic Idealize.ShloMosaic.TcCoe Idealize.SL.Sem
open Cert.ReferenceIdeal Cert.ReferenceIdeal.Gen
open Cert.Proof.AttSpec

variable (V : Valuation τ sig (Elt Ideal))

theorem cos_at (p : Fin 4096) (ax : Fin 2) (i : Fin 16) :
    (show FVec Ideal S4096x2x16 .f32 from StableHlo.after ops1 V (Proc.devRef .tc main_v27)) (ix3 p ax i) = Ideal.cos (angle p ax i) := by
  unfold ops1
  after_results
  pointwise
  refine congrArg Ideal.cos ?_
  unfold angle pos
  by_cases h : ax.val < 1
  · rw [dif_pos h, if_pos h]; rfl
  · rw [dif_neg h, if_neg h]; rfl

theorem sin_at (p : Fin 4096) (ax : Fin 2) (i : Fin 16) :
    (show FVec Ideal S4096x2x16 .f32 from StableHlo.after ops1 V (Proc.devRef .tc main_v28)) (ix3 p ax i) = Ideal.sin (angle p ax i) := by
  unfold ops1
  after_results
  pointwise
  refine congrArg Ideal.sin ?_
  unfold angle pos
  by_cases h : ax.val < 1
  · rw [dif_pos h, if_pos h]; rfl
  · rw [dif_neg h, if_neg h]; rfl

theorem q_at (b h : Fin 8) (t : Fin 4352) (d : Fin 64) :
    (show FVec Ideal S8x8x4352x64 .f32 from StableHlo.after ops2 V (Proc.devRef .tc main_v44)) (ix4 b h t d)
      = nrm (fun e => (show FVec Ideal S8x4352x7680 .f32 from V (Proc.devRef .tc main_arg0)) (ix3 b t ⟨3072 + (h.val * 64 + e.val), by omega⟩))
        (V (Proc.devRef .tc main_arg1)) d := by
  unfold ops2
  after_results
  pointwise [nrm]

theorem k_at (b : Fin 8) (j : Fin 2) (t : Fin 4352) (d : Fin 64) :
    (show FVec Ideal S8x2x4352x64 .f32 from StableHlo.after ops3 V (Proc.devRef .tc main_v60)) (ix4 b j t d)
      = nrm (fun e => (show FVec Ideal S8x4352x7680 .f32 from V (Proc.devRef .tc main_arg0)) (ix3 b t ⟨3584 + (j.val * 64 + e.val), by omega⟩))
        (V (Proc.devRef .tc main_arg2)) d := by
  unfold ops3
  after_results
  pointwise [nrm]

theorem v_at (b : Fin 8) (j : Fin 2) (t : Fin 4352) (d : Fin 64) :
    (show FVec Ideal S8x2x4352x64 .f32 from StableHlo.after ops3 V (Proc.devRef .tc main_v63)) (ix4 b j t d)
      = value (V (Proc.devRef .tc main_arg0)) b j t d := by
  unfold ops3
  after_results
  pointwise [value]

end Cert.Proof.AttRef

end
-- ==== Proof.AttRef2.lean ====
/-
  The reference's rotated heads.
-/
module

public import proofs.«01_k».proof.Proof.AttRefOps
public import proofs.«01_k».proof.Proof.AttSpec

@[expose] public section

set_option maxRecDepth 16384
set_option Elab.async false

noncomputable section

namespace Cert.Proof.AttRef

open Idealize.ShloMosaic Idealize.ShloMosaic.TcCoe Idealize.SL.Sem
open Cert.ReferenceIdeal Cert.ReferenceIdeal.Gen
open Cert.Proof.AttSpec

/-- A rotated lane by the two lanes it is made of. -/
theorem posn_lat (y : Fin 64 → EReal) (t : Fin 4352) (p : Fin 4096) (ht : t.val = 256 + p.val) (d A B : Fin 64)
    (hA : A.val = d.val / 32 * 32 + d.val % 16) (hB : B.val = d.val / 32 * 32 + 16 + d.val % 16) :
    posn y t d = if d.val / 16 % 2 < 1 then y A * Ideal.cos (angle p ⟨d.val / 32, by omega⟩ ⟨d.val % 16, by omega⟩) - y B * Ideal.sin (angle p ⟨d.val / 32, by omega⟩ ⟨d.val % 16, by omega⟩) else y B * Ideal.cos (angle p ⟨d.val / 32, by omega⟩ ⟨d.val % 16, by omega⟩) + y A * Ideal.sin (angle p ⟨d.val / 32, by omega⟩ ⟨d.val % 16, by omega⟩) := by
  have hp : (⟨t.val - 256, by omega⟩ : Fin 4096) = p := Fin.ext (by show t.val - 256 = p.val; omega)
  have h0 : lane ⟨d.val / 32, by omega⟩ 0 ⟨d.val % 16, by omega⟩ = A := Fin.ext (by show 32 * (d.val / 32) + 16 * 0 + d.val % 16 = A.val; omega)
  have h1 : lane ⟨d.val / 32, by omega⟩ 1 ⟨d.val % 16, by omega⟩ = B := Fin.ext (by show 32 * (d.val / 32) + 16 * 1 + d.val % 16 = B.val; omega)
  unfold posn rope
  rw [dif_neg (by omega), hp, h0, h1]
  by_cases h : d.val / 16 % 2 < 1
  · rw [if_pos h, if_pos (by show d.val % 32 / 16 < 1; omega)]
  · rw [if_neg h, if_neg (by show ¬ d.val % 32 / 16 < 1; omega)]

/-- The same, read from right to left. -/
theorem posn_of (y : Fin 64 → EReal) (t : Fin 4352) (p : Fin 4096) (ht : t.val = 256 + p.val) (d A B : Fin 64)
    (hA : A.val = d.val / 32 * 32 + d.val % 16) (hB : B.val = d.val / 32 * 32 + 16 + d.val % 16)
    (a1 b1 : d.val / 16 % 2 < 1 → EReal) (a2 b2 : ¬ d.val / 16 % 2 < 1 → EReal)
    (h1 : ∀ h, a1 h = y A) (h2 : ∀ h, b1 h = y B) (h3 : ∀ h, a2 h = y A) (h4 : ∀ h, b2 h = y B) :
    (if h : d.val / 16 % 2 < 1 then a1 h * Ideal.cos (angle p ⟨d.val / 32, by omega⟩ ⟨d.val % 16, by omega⟩) - b1 h * Ideal.sin (angle p ⟨d.val / 32, by omega⟩ ⟨d.val % 16, by omega⟩) else b2 h * Ideal.cos (angle p ⟨d.val / 32, by omega⟩ ⟨d.val % 16, by omega⟩) + a2 h * Ideal.sin (angle p ⟨d.val / 32, by omega⟩ ⟨d.val % 16, by omega⟩)) = posn y t d := by
  rw [posn_lat y t p ht d A B hA hB]
  by_cases h : d.val / 16 % 2 < 1
  · rw [dif_pos h, if_pos h, h1, h2]
  · rw [dif_neg h, if_neg h, h3, h4]

variable (V : Valuation τ sig (Elt Ideal))

set_option maxHeartbeats 2000000 in
theorem rope_k_lat (hc : ∀ p ax i, (show FVec Ideal S4096x2x16 .f32 from V (Proc.devRef .tc main_v27)) (ix3 p ax i) = Ideal.cos (angle p ax i))
    (hs : ∀ p ax i, (show FVec Ideal S4096x2x16 .f32 from V (Proc.devRef .tc main_v28)) (ix3 p ax i) = Ideal.sin (angle p ax i))
    (b : Fin 8) (j : Fin 2) (p : Fin 4096) (d : Fin 64) :
    (show FVec Ideal S8x2x4096x64 .f32 from StableHlo.after ops4 V (Proc.devRef .tc main_v88)) (ix4 b j p d)
      = posn (fun e => (show FVec Ideal S8x2x4352x64 .f32 from V (Proc.devRef .tc main_v60)) (ix4 b j ⟨256 + p.val, by omega⟩ e)) ⟨256 + p.val, by omega⟩ d := by
  unfold ops4
  after_results
  pointwise [hc, hs]
  exact posn_of _ _ p rfl d ⟨d.val / 32 * 32 + d.val % 16, by omega⟩ ⟨d.val / 32 * 32 + 16 + d.val % 16, by omega⟩ rfl rfl _ _ _ _
    (fun _ => rfl) (fun _ => rfl) (fun _ => rfl) (fun _ => rfl)

theorem ctx_k (b : Fin 8) (j : Fin 2) (t : Fin 256) (d : Fin 64) :
    (show FVec Ideal S8x2x256x64 .f32 from StableHlo.after ops4 V (Proc.devRef .tc main_v64)) (ix4 b j t d)
      = (show FVec Ideal S8x2x4352x64 .f32 from V (Proc.devRef .tc main_v60)) (ix4 b j ⟨t.val, by omega⟩ d) := by
  unfold ops4
  after_results
  pointwise

theorem join_k (b : Fin 8) (j : Fin 2) (t : Fin 4352) (d : Fin 64) :
    (show FVec Ideal S8x2x4352x64 .f32 from StableHlo.after ops4b V (Proc.devRef .tc main_v89)) (ix4 b j t d)
      = if ht : t.val < 256 then (show FVec Ideal S8x2x256x64 .f32 from V (Proc.devRef .tc main_v64)) (ix4 b j ⟨t.val, ht⟩ d)
        else (show FVec Ideal S8x2x4096x64 .f32 from V (Proc.devRef .tc main_v88)) (ix4 b j ⟨t.val - 256, by omega⟩ d) := by
  unfold ops4b
  after_results
  pointwise

theorem rope_k (hc : ∀ p ax i, (show FVec Ideal S4096x2x16 .f32 from V (Proc.devRef .tc main_v27)) (ix3 p ax i) = Ideal.cos (angle p ax i))
    (hs : ∀ p ax i, (show FVec Ideal S4096x2x16 .f32 from V (Proc.devRef .tc main_v28)) (ix3 p ax i) = Ideal.sin (angle p ax i))
    (b : Fin 8) (j : Fin 2) (t : Fin 4352) (d : Fin 64) :
    (show FVec Ideal S8x2x4352x64 .f32 from StableHlo.after ops4b (StableHlo.after ops4 V) (Proc.devRef .tc main_v89)) (ix4 b j t d)
      = posn (fun e => (show FVec Ideal S8x2x4352x64 .f32 from V (Proc.devRef .tc main_v60)) (ix4 b j t e)) t d := by
  rw [join_k]
  by_cases ht : t.val < 256
  · rw [dif_pos ht]
    refine (ctx_k V b j ⟨t.val, ht⟩ d).trans ?_
    unfold posn
    rw [dif_pos ht]
  · rw [dif_neg ht]
    refine (rope_k_lat V hc hs b j ⟨t.val - 256, by omega⟩ d).trans ?_
    have h2 : (⟨256 + (⟨t.val - 256, by omega⟩ : Fin 4096).val, by omega⟩ : Fin 4352) = t := Fin.ext (by show 256 + (t.val - 256) = t.val; omega)
    rw [h2]

set_option maxHeartbeats 2000000 in
theorem rope_q (hc : ∀ p ax i, (show FVec Ideal S4096x2x16 .f32 from V (Proc.devRef .tc main_v27)) (ix3 p ax i) = Ideal.cos (angle p ax i))
    (hs : ∀ p ax i, (show FVec Ideal S4096x2x16 .f32 from V (Proc.devRef .tc main_v28)) (ix3 p ax i) = Ideal.sin (angle p ax i))
    (b h : Fin 8) (p : Fin 4096) (d : Fin 64) :
    (show FVec Ideal S8x8x4096x64 .f32 from StableHlo.after ops9 V (Proc.devRef .tc main_v135)) (ix4 b h p d)
      = posn (fun e => (show FVec Ideal S8x8x4352x64 .f32 from V (Proc.devRef .tc main_v44)) (ix4 b h ⟨256 + p.val, by omega⟩ e)) ⟨256 + p.val, by omega⟩ d := by
  unfold ops9
  after_results
  pointwise [hc, hs]
  exact posn_of _ _ p rfl d ⟨d.val / 32 * 32 + d.val % 16, by omega⟩ ⟨d.val / 32 * 32 + 16 + d.val % 16, by omega⟩ rfl rfl _ _ _ _
    (fun _ => rfl) (fun _ => rfl) (fun _ => rfl) (fun _ => rfl)

end Cert.Proof.AttRef

end
-- ==== Proof.AttRef3.lean ====
/-
  The reference's attention of the context rows, from heads and values.
-/
module

public import proofs.«01_k».proof.Proof.AttRefOps
public import proofs.«01_k».proof.Proof.AttSpec

@[expose] public section

set_option maxRecDepth 16384
set_option Elab.async false

noncomputable section

namespace Cert.Proof.AttRef

open Idealize.ShloMosaic Idealize.ShloMosaic.TcCoe Idealize.SL.Sem
open Cert.ReferenceIdeal Cert.ReferenceIdeal.Gen
open Cert.Proof.AttSpec

variable (V : Valuation τ sig (Elt Ideal))

theorem ctx_scores (b : Fin 8) (j : Fin 2) (l : Fin 4) (t k : Fin 256) :
    (show FVec Ideal S8x2x4x256x256 .f32 from StableHlo.after ops5 V (Proc.devRef .tc main_v96)) (ix5 b j l t k)
      = (∑ e : Fin 64, (show FVec Ideal S8x8x4352x64 .f32 from V (Proc.devRef .tc main_v44)) (ix4 b ⟨j.val * 4 + l.val, by omega⟩ ⟨t.val, by omega⟩ e)
          * (show FVec Ideal S8x2x4352x64 .f32 from V (Proc.devRef .tc main_v60)) (ix4 b j ⟨k.val, by omega⟩ e)) * Ideal.ofBits .f32 0x3E000000#32 := by
  unfold ops5
  after_results
  pointwise

theorem ctx_values (b : Fin 8) (j : Fin 2) (k : Fin 256) (d : Fin 64) :
    (show FVec Ideal S8x2x256x64 .f32 from StableHlo.after ops5 V (Proc.devRef .tc main_v92)) (ix4 b j k d) = (show FVec Ideal S8x2x4352x64 .f32 from V (Proc.devRef .tc main_v63)) (ix4 b j ⟨k.val, by omega⟩ d) := by
  unfold ops5
  after_results
  pointwise

/-- A number of each row spread over its scores. -/
theorem ctx_spread (c : FVec Ideal S_ .f32) (Q : FVec Ideal S8x2x4x256 .f32) (b : Fin 8) (j : Fin 2) (l : Fin 4) (t : Fin 256) (k : Fin 256) :
    (broadcastInDim S8x2x4x256x256 ![0, 1, 2, 3, 4] bcast_S8x2x4x256x1_S8x2x4x256x256_0_1_2_3_4
      (broadcastInDim S8x2x4x256x1 ![0, 1, 2, 3] bcast_S8x2x4x256_S8x2x4x256x1_0_1_2_3
        (maximumf (broadcastInDim S8x2x4x256 ![] bcast_S_S8x2x4x256 c) Q))) (ix5 b j l t k) = max (c ix0) (Q (ix4 b j l t)) := by
  pointwise

/-- The largest of a row. -/
theorem ctx_largest (x : FVec Ideal S8x2x4x256x256 .f32) (v : FVec Ideal S_ .f32) (b : Fin 8) (j : Fin 2) (l : Fin 4) (t : Fin 256) :
    (Host.reduce (FloatOps.maximumf : Ideal .f32 → Ideal .f32 → Ideal .f32) x v reducesTo_S8x2x4x256x256_S8x2x4x256_d4 h_S_) (ix4 b j l t)
      = Finset.fold max (v (Shape.Idx.first h_S_)) (fun k => x (ix5 b j l t k)) Finset.univ := by
  pointwise

theorem ctx_peak (b : Fin 8) (j : Fin 2) (l : Fin 4) (t : Fin 256) (k : Fin 256) :
    (show FVec Ideal S8x2x4x256x256 .f32 from StableHlo.after ops6 V (Proc.devRef .tc main_v101)) (ix5 b j l t k)
      = peak fun k : Fin 256 => (show FVec Ideal S8x2x4x256x256 .f32 from V (Proc.devRef .tc main_v96)) (ix5 b j l t k) := by
  unfold ops6
  after_results
  exact (ctx_spread _ _ b j l t k).trans (congrArg₂ max rfl (ctx_largest _ _ b j l t))

theorem ctx_mean (b : Fin 8) (j : Fin 2) (l : Fin 4) (t : Fin 256) (d : Fin 64) (M : EReal)
    (hM : ∀ k : Fin 256, (show FVec Ideal S8x2x4x256x256 .f32 from V (Proc.devRef .tc main_v101)) (ix5 b j l t k) = M) :
    (show FVec Ideal S8x2x4x256x64 .f32 from StableHlo.after ops7 V (Proc.devRef .tc main_v108)) (ix5 b j l t d)
      = mean M (fun k : Fin 256 => (show FVec Ideal S8x2x4x256x256 .f32 from V (Proc.devRef .tc main_v96)) (ix5 b j l t k)) (fun k => (show FVec Ideal S8x2x256x64 .f32 from V (Proc.devRef .tc main_v92)) (ix4 b j k d)) := by
  unfold ops7
  after_results
  pointwise [mean, hM]

theorem ctx_heads (b : Fin 8) (t : Fin 256) (n : Fin 512) :
    (show FVec Ideal S8x256x512 .f32 from StableHlo.after ops8 V (Proc.devRef .tc main_v111)) (ix3 b t n)
      = (show FVec Ideal S8x2x4x256x64 .f32 from V (Proc.devRef .tc main_v108)) (ix5 b ⟨n.val / 64 / 4, by omega⟩ ⟨n.val / 64 % 4, by omega⟩ t ⟨n.val % 64, by omega⟩) := by
  unfold ops8
  after_results
  pointwise

end Cert.Proof.AttRef

end
-- ==== Proof.AttRef4.lean ====
/-
  The reference's attention of the latent rows, from heads and values.
-/
module

public import proofs.«01_k».proof.Proof.AttRefOps
public import proofs.«01_k».proof.Proof.AttSpec

@[expose] public section

set_option maxRecDepth 16384
set_option Elab.async false

noncomputable section

namespace Cert.Proof.AttRef

open Idealize.ShloMosaic Idealize.ShloMosaic.TcCoe Idealize.SL.Sem
open Cert.ReferenceIdeal Cert.ReferenceIdeal.Gen
open Cert.Proof.AttSpec

variable (V : Valuation τ sig (Elt Ideal))

theorem lat_scores (b : Fin 8) (j : Fin 2) (l : Fin 4) (t : Fin 4096) (k : Fin 4352) :
    (show FVec Ideal S8x2x4x4096x4352 .f32 from StableHlo.after ops10 V (Proc.devRef .tc main_v139)) (ix5 b j l t k)
      = (∑ e : Fin 64, (show FVec Ideal S8x8x4096x64 .f32 from V (Proc.devRef .tc main_v135)) (ix4 b ⟨j.val * 4 + l.val, by omega⟩ t e)
          * (show FVec Ideal S8x2x4352x64 .f32 from V (Proc.devRef .tc main_v89)) (ix4 b j k e)) * Ideal.ofBits .f32 0x3E000000#32 := by
  unfold ops10
  after_results
  pointwise

/-- A number of each row spread over its scores. -/
theorem lat_spread (c : FVec Ideal S_ .f32) (Q : FVec Ideal S8x2x4x4096 .f32) (b : Fin 8) (j : Fin 2) (l : Fin 4) (t : Fin 4096) (k : Fin 4352) :
    (broadcastInDim S8x2x4x4096x4352 ![0, 1, 2, 3, 4] bcast_S8x2x4x4096x1_S8x2x4x4096x4352_0_1_2_3_4
      (broadcastInDim S8x2x4x4096x1 ![0, 1, 2, 3] bcast_S8x2x4x4096_S8x2x4x4096x1_0_1_2_3
        (maximumf (broadcastInDim S8x2x4x4096 ![] bcast_S_S8x2x4x4096 c) Q))) (ix5 b j l t k) = max (c ix0) (Q (ix4 b j l t)) := by
  pointwise

/-- The largest of a row. -/
theorem lat_largest (x : FVec Ideal S8x2x4x4096x4352 .f32) (v : FVec Ideal S_ .f32) (b : Fin 8) (j : Fin 2) (l : Fin 4) (t : Fin 4096) :
    (Host.reduce (FloatOps.maximumf : Ideal .f32 → Ideal .f32 → Ideal .f32) x v reducesTo_S8x2x4x4096x4352_S8x2x4x4096_d4 h_S_) (ix4 b j l t)
      = Finset.fold max (v (Shape.Idx.first h_S_)) (fun k => x (ix5 b j l t k)) Finset.univ := by
  pointwise

theorem lat_peak (b : Fin 8) (j : Fin 2) (l : Fin 4) (t : Fin 4096) (k : Fin 4352) :
    (show FVec Ideal S8x2x4x4096x4352 .f32 from StableHlo.after ops11 V (Proc.devRef .tc main_v144)) (ix5 b j l t k)
      = peak fun k : Fin 4352 => (show FVec Ideal S8x2x4x4096x4352 .f32 from V (Proc.devRef .tc main_v139)) (ix5 b j l t k) := by
  unfold ops11
  after_results
  exact (lat_spread _ _ b j l t k).trans (congrArg₂ max rfl (lat_largest _ _ b j l t))

theorem lat_mean (b : Fin 8) (j : Fin 2) (l : Fin 4) (t : Fin 4096) (d : Fin 64) (M : EReal)
    (hM : ∀ k : Fin 4352, (show FVec Ideal S8x2x4x4096x4352 .f32 from V (Proc.devRef .tc main_v144)) (ix5 b j l t k) = M) :
    (show FVec Ideal S8x2x4x4096x64 .f32 from StableHlo.after ops12 V (Proc.devRef .tc main_v151)) (ix5 b j l t d)
      = mean M (fun k : Fin 4352 => (show FVec Ideal S8x2x4x4096x4352 .f32 from V (Proc.devRef .tc main_v139)) (ix5 b j l t k)) (fun k => (show FVec Ideal S8x2x4352x64 .f32 from V (Proc.devRef .tc main_v63)) (ix4 b j k d)) := by
  unfold ops12
  after_results
  pointwise [mean, hM]

theorem out_at (b : Fin 8) (t : Fin 4352) (n : Fin 512) :
    (show FVec Ideal S8x4352x512 .bf16 from StableHlo.after ops13 V (Proc.devRef .tc main_v156)) (ix3 b t n)
      = if ht : t.val < 256 then (show FVec Ideal S8x256x512 .f32 from V (Proc.devRef .tc main_v111)) (ix3 b ⟨t.val, ht⟩ n)
        else (show FVec Ideal S8x2x4x4096x64 .f32 from V (Proc.devRef .tc main_v151)) (ix5 b ⟨n.val / 64 / 4, by omega⟩ ⟨n.val / 64 % 4, by omega⟩ ⟨t.val - 256, by omega⟩ ⟨n.val % 64, by omega⟩) := by
  unfold ops13
  after_results
  pointwise

end Cert.Proof.AttRef

end
-- ==== Proof.AttRef5.lean ====
/-
  What each stage of the reference's attention leaves as it was, and the whole reference's value at an index.
-/
module

public import proofs.«01_k».proof.Proof.AttRef1
public import proofs.«01_k».proof.Proof.AttRef2
public import proofs.«01_k».proof.Proof.AttRef3
public import proofs.«01_k».proof.Proof.AttRef4

@[expose] public section

set_option maxRecDepth 16384
set_option Elab.async false

noncomputable section

namespace Cert.Proof.AttRef

open Idealize.ShloMosaic Idealize.ShloMosaic.TcCoe Idealize.SL.Sem
open Cert.ReferenceIdeal Cert.ReferenceIdeal.Gen
open Cert.Proof.AttSpec

variable (V : Valuation τ sig (Elt Ideal))

/-! ## The contents after each stage -/

def s1 : Valuation τ sig (Elt Ideal) := StableHlo.after ops1 V
def s2 : Valuation τ sig (Elt Ideal) := StableHlo.after ops2 (s1 V)
def s3 : Valuation τ sig (Elt Ideal) := StableHlo.after ops3 (s2 V)
def s4 : Valuation τ sig (Elt Ideal) := StableHlo.after ops4b (StableHlo.after ops4 (s3 V))
def s5 : Valuation τ sig (Elt Ideal) := StableHlo.after ops5 (s4 V)
def s6 : Valuation τ sig (Elt Ideal) := StableHlo.after ops6 (s5 V)
def s7 : Valuation τ sig (Elt Ideal) := StableHlo.after ops7 (s6 V)
def s8 : Valuation τ sig (Elt Ideal) := StableHlo.after ops8 (s7 V)
def s9 : Valuation τ sig (Elt Ideal) := StableHlo.after ops9 (s8 V)
def s10 : Valuation τ sig (Elt Ideal) := StableHlo.after ops10 (s9 V)
def s11 : Valuation τ sig (Elt Ideal) := StableHlo.after ops11 (s10 V)
def s12 : Valuation τ sig (Elt Ideal) := StableHlo.after ops12 (s11 V)
def s13 : Valuation τ sig (Elt Ideal) := StableHlo.after ops13 (s12 V)

/-! ## What a stage leaves as it was -/

theorem k1_arg0 : s1 V (Proc.devRef .tc main_arg0) = V (Proc.devRef .tc main_arg0) := by
  unfold s1 ops1
  after_results
theorem k1_arg1 : s1 V (Proc.devRef .tc main_arg1) = V (Proc.devRef .tc main_arg1) := by
  unfold s1 ops1
  after_results
theorem k1_arg2 : s1 V (Proc.devRef .tc main_arg2) = V (Proc.devRef .tc main_arg2) := by
  unfold s1 ops1
  after_results
theorem k2_arg0 : s2 V (Proc.devRef .tc main_arg0) = s1 V (Proc.devRef .tc main_arg0) := by
  unfold s2 ops2
  after_results
theorem k2_arg2 : s2 V (Proc.devRef .tc main_arg2) = s1 V (Proc.devRef .tc main_arg2) := by
  unfold s2 ops2
  after_results
theorem k2_v27 : s2 V (Proc.devRef .tc main_v27) = s1 V (Proc.devRef .tc main_v27) := by
  unfold s2 ops2
  after_results
theorem k2_v28 : s2 V (Proc.devRef .tc main_v28) = s1 V (Proc.devRef .tc main_v28) := by
  unfold s2 ops2
  after_results
theorem k3_v44 : s3 V (Proc.devRef .tc main_v44) = s2 V (Proc.devRef .tc main_v44) := by
  unfold s3 ops3
  after_results
theorem k3_v27 : s3 V (Proc.devRef .tc main_v27) = s2 V (Proc.devRef .tc main_v27) := by
  unfold s3 ops3
  after_results
theorem k3_v28 : s3 V (Proc.devRef .tc main_v28) = s2 V (Proc.devRef .tc main_v28) := by
  unfold s3 ops3
  after_results
theorem k4_v44 : s4 V (Proc.devRef .tc main_v44) = s3 V (Proc.devRef .tc main_v44) := by
  unfold s4 ops4b ops4
  after_results
theorem k4_v60 : s4 V (Proc.devRef .tc main_v60) = s3 V (Proc.devRef .tc main_v60) := by
  unfold s4 ops4b ops4
  after_results
theorem k4_v63 : s4 V (Proc.devRef .tc main_v63) = s3 V (Proc.devRef .tc main_v63) := by
  unfold s4 ops4b ops4
  after_results
theorem k4_v27 : s4 V (Proc.devRef .tc main_v27) = s3 V (Proc.devRef .tc main_v27) := by
  unfold s4 ops4b ops4
  after_results
theorem k4_v28 : s4 V (Proc.devRef .tc main_v28) = s3 V (Proc.devRef .tc main_v28) := by
  unfold s4 ops4b ops4
  after_results
theorem k5_v44 : s5 V (Proc.devRef .tc main_v44) = s4 V (Proc.devRef .tc main_v44) := by
  unfold s5 ops5
  after_results
theorem k5_v63 : s5 V (Proc.devRef .tc main_v63) = s4 V (Proc.devRef .tc main_v63) := by
  unfold s5 ops5
  after_results
theorem k5_v89 : s5 V (Proc.devRef .tc main_v89) = s4 V (Proc.devRef .tc main_v89) := by
  unfold s5 ops5
  after_results
theorem k5_v27 : s5 V (Proc.devRef .tc main_v27) = s4 V (Proc.devRef .tc main_v27) := by
  unfold s5 ops5
  after_results
theorem k5_v28 : s5 V (Proc.devRef .tc main_v28) = s4 V (Proc.devRef .tc main_v28) := by
  unfold s5 ops5
  after_results
theorem k6_v96 : s6 V (Proc.devRef .tc main_v96) = s5 V (Proc.devRef .tc main_v96) := by
  unfold s6 ops6
  after_results
theorem k6_v92 : s6 V (Proc.devRef .tc main_v92) = s5 V (Proc.devRef .tc main_v92) := by
  unfold s6 ops6
  after_results
theorem k6_v44 : s6 V (Proc.devRef .tc main_v44) = s5 V (Proc.devRef .tc main_v44) := by
  unfold s6 ops6
  after_results
theorem k6_v63 : s6 V (Proc.devRef .tc main_v63) = s5 V (Proc.devRef .tc main_v63) := by
  unfold s6 ops6
  after_results
theorem k6_v89 : s6 V (Proc.devRef .tc main_v89) = s5 V (Proc.devRef .tc main_v89) := by
  unfold s6 ops6
  after_results
theorem k6_v27 : s6 V (Proc.devRef .tc main_v27) = s5 V (Proc.devRef .tc main_v27) := by
  unfold s6 ops6
  after_results
theorem k6_v28 : s6 V (Proc.devRef .tc main_v28) = s5 V (Proc.devRef .tc main_v28) := by
  unfold s6 ops6
  after_results
theorem k7_v44 : s7 V (Proc.devRef .tc main_v44) = s6 V (Proc.devRef .tc main_v44) := by
  unfold s7 ops7
  after_results
theorem k7_v63 : s7 V (Proc.devRef .tc main_v63) = s6 V (Proc.devRef .tc main_v63) := by
  unfold s7 ops7
  after_results
theorem k7_v89 : s7 V (Proc.devRef .tc main_v89) = s6 V (Proc.devRef .tc main_v89) := by
  unfold s7 ops7
  after_results
theorem k7_v27 : s7 V (Proc.devRef .tc main_v27) = s6 V (Proc.devRef .tc main_v27) := by
  unfold s7 ops7
  after_results
theorem k7_v28 : s7 V (Proc.devRef .tc main_v28) = s6 V (Proc.devRef .tc main_v28) := by
  unfold s7 ops7
  after_results
theorem k8_v44 : s8 V (Proc.devRef .tc main_v44) = s7 V (Proc.devRef .tc main_v44) := by
  unfold s8 ops8
  after_results
theorem k8_v63 : s8 V (Proc.devRef .tc main_v63) = s7 V (Proc.devRef .tc main_v63) := by
  unfold s8 ops8
  after_results
theorem k8_v89 : s8 V (Proc.devRef .tc main_v89) = s7 V (Proc.devRef .tc main_v89) := by
  unfold s8 ops8
  after_results
theorem k8_v27 : s8 V (Proc.devRef .tc main_v27) = s7 V (Proc.devRef .tc main_v27) := by
  unfold s8 ops8
  after_results
theorem k8_v28 : s8 V (Proc.devRef .tc main_v28) = s7 V (Proc.devRef .tc main_v28) := by
  unfold s8 ops8
  after_results
theorem k9_v111 : s9 V (Proc.devRef .tc main_v111) = s8 V (Proc.devRef .tc main_v111) := by
  unfold s9 ops9
  after_results
theorem k9_v63 : s9 V (Proc.devRef .tc main_v63) = s8 V (Proc.devRef .tc main_v63) := by
  unfold s9 ops9
  after_results
theorem k9_v89 : s9 V (Proc.devRef .tc main_v89) = s8 V (Proc.devRef .tc main_v89) := by
  unfold s9 ops9
  after_results
theorem k10_v111 : s10 V (Proc.devRef .tc main_v111) = s9 V (Proc.devRef .tc main_v111) := by
  unfold s10 ops10
  after_results
theorem k10_v63 : s10 V (Proc.devRef .tc main_v63) = s9 V (Proc.devRef .tc main_v63) := by
  unfold s10 ops10
  after_results
theorem k11_v139 : s11 V (Proc.devRef .tc main_v139) = s10 V (Proc.devRef .tc main_v139) := by
  unfold s11 ops11
  after_results
theorem k11_v111 : s11 V (Proc.devRef .tc main_v111) = s10 V (Proc.devRef .tc main_v111) := by
  unfold s11 ops11
  after_results
theorem k11_v63 : s11 V (Proc.devRef .tc main_v63) = s10 V (Proc.devRef .tc main_v63) := by
  unfold s11 ops11
  after_results
theorem k12_v111 : s12 V (Proc.devRef .tc main_v111) = s11 V (Proc.devRef .tc main_v111) := by
  unfold s12 ops12
  after_results

/-! ## The heads -/

variable (b : Fin 8)

/-- The program's three arguments. -/
abbrev argU (V : Valuation τ sig (Elt Ideal)) : FVec Ideal SU .f32 := V (Proc.devRef .tc main_arg0)
abbrev argQ (V : Valuation τ sig (Elt Ideal)) : FVec Ideal SG .f32 := V (Proc.devRef .tc main_arg1)
abbrev argK (V : Valuation τ sig (Elt Ideal)) : FVec Ideal SG .f32 := V (Proc.devRef .tc main_arg2)

theorem v44_at (h : Fin 8) (t : Fin 4352) (d : Fin 64) : (show FVec Ideal S8x8x4352x64 .f32 from s2 V (Proc.devRef .tc main_v44)) (ix4 b h t d)
    = nrm (fun e => (argU V) (ix3 b t ⟨3072 + (h.val * 64 + e.val), by omega⟩)) (argQ V) d := by
  refine (q_at (s1 V) b h t d).trans ?_
  rw [k1_arg0, k1_arg1]

theorem v60_at (j : Fin 2) (t : Fin 4352) (d : Fin 64) : (show FVec Ideal S8x2x4352x64 .f32 from s3 V (Proc.devRef .tc main_v60)) (ix4 b j t d)
    = nrm (fun e => (argU V) (ix3 b t ⟨3584 + (j.val * 64 + e.val), by omega⟩)) (argK V) d := by
  refine (k_at (s2 V) b j t d).trans ?_
  rw [k2_arg0, k1_arg0, k2_arg2, k1_arg2]

theorem v63_at (j : Fin 2) (t : Fin 4352) (d : Fin 64) : (show FVec Ideal S8x2x4352x64 .f32 from s3 V (Proc.devRef .tc main_v63)) (ix4 b j t d)
    = value (argU V) b j t d := by
  refine (v_at (s2 V) b j t d).trans ?_
  rw [k2_arg0, k1_arg0]

theorem v89_at (j : Fin 2) (t : Fin 4352) (d : Fin 64) : (show FVec Ideal S8x2x4352x64 .f32 from s4 V (Proc.devRef .tc main_v89)) (ix4 b j t d)
    = key (argU V) (argK V) b j t d := by
  refine (rope_k (s3 V) (fun p ax i => ?_) (fun p ax i => ?_) b j t d).trans ?_
  · rw [k3_v27, k2_v27]; exact cos_at V p ax i
  · rw [k3_v28, k2_v28]; exact sin_at V p ax i
  · exact congrArg (fun y => posn y t d) (funext fun e => v60_at V b j t e)

theorem v135_at (h : Fin 8) (p : Fin 4096) (d : Fin 64) : (show FVec Ideal S8x8x4096x64 .f32 from s9 V (Proc.devRef .tc main_v135)) (ix4 b h p d)
    = query (argU V) (argQ V) b h ⟨256 + p.val, by omega⟩ d := by
  refine (rope_q (s8 V) (fun p ax i => ?_) (fun p ax i => ?_) b h p d).trans ?_
  · rw [k8_v27, k7_v27, k6_v27, k5_v27, k4_v27, k3_v27, k2_v27]; exact cos_at V p ax i
  · rw [k8_v28, k7_v28, k6_v28, k5_v28, k4_v28, k3_v28, k2_v28]; exact sin_at V p ax i
  · rw [k8_v44, k7_v44, k6_v44, k5_v44, k4_v44, k3_v44]
    exact congrArg (fun y => posn y ⟨256 + p.val, by omega⟩ d) (funext fun e => v44_at V b h _ e)

/-! ## The attention -/

theorem grp_mk (j : Fin 2) (l : Fin 4) : grp ⟨j.val * 4 + l.val, by omega⟩ = j := Fin.ext (by show (j.val * 4 + l.val) / 4 = j.val; omega)
theorem posn_ctx (y : Fin 64 → EReal) (t : Fin 4352) (ht : t.val < 256) (d : Fin 64) : posn y t d = y d := by
  unfold posn; rw [dif_pos ht]

theorem v96_at (j : Fin 2) (l : Fin 4) (t k : Fin 256) : (show FVec Ideal S8x2x4x256x256 .f32 from s5 V (Proc.devRef .tc main_v96)) (ix5 b j l t k)
    = score (argU V) (argQ V) (argK V) b ⟨j.val * 4 + l.val, by omega⟩ (ctxRow t) (ctxRow k) := by
  refine (ctx_scores (s4 V) b j l t k).trans ?_
  rw [k4_v44, k3_v44, k4_v60]
  unfold score
  rw [grp_mk]
  refine congrArg (· * _) (Finset.sum_congr rfl fun e _ => congrArg₂ (· * ·) ?_ ?_)
  · exact (v44_at V b _ (ctxRow t) e).trans (posn_ctx _ (ctxRow t) t.isLt e).symm
  · exact (v60_at V b j (ctxRow k) e).trans (posn_ctx _ (ctxRow k) k.isLt e).symm

theorem v108_at (j : Fin 2) (l : Fin 4) (t : Fin 256) (d : Fin 64) : (show FVec Ideal S8x2x4x256x64 .f32 from s7 V (Proc.devRef .tc main_v108)) (ix5 b j l t d)
    = soft (fun k : Fin 256 => score (argU V) (argQ V) (argK V) b ⟨j.val * 4 + l.val, by omega⟩ (ctxRow t) (ctxRow k)) (fun k => value (argU V) b j (ctxRow k) d) := by
  have hS : (fun k : Fin 256 => (show FVec Ideal S8x2x4x256x256 .f32 from s5 V (Proc.devRef .tc main_v96)) (ix5 b j l t k))
      = fun k : Fin 256 => score (argU V) (argQ V) (argK V) b ⟨j.val * 4 + l.val, by omega⟩ (ctxRow t) (ctxRow k) := funext fun k => v96_at V b j l t k
  refine (ctx_mean (s6 V) b j l t d _ fun k => (ctx_peak (s5 V) b j l t k).trans (congrArg peak hS)).trans ?_
  rw [k6_v96, hS, k6_v92]
  refine congrArg (mean _ _) (funext fun k => (ctx_values (s4 V) b j k d).trans ?_)
  rw [k4_v63]
  exact v63_at V b j (ctxRow k) d

theorem v139_at (j : Fin 2) (l : Fin 4) (t : Fin 4096) (k : Fin 4352) : (show FVec Ideal S8x2x4x4096x4352 .f32 from s10 V (Proc.devRef .tc main_v139)) (ix5 b j l t k)
    = score (argU V) (argQ V) (argK V) b ⟨j.val * 4 + l.val, by omega⟩ ⟨256 + t.val, by omega⟩ k := by
  refine (lat_scores (s9 V) b j l t k).trans ?_
  rw [k9_v89, k8_v89, k7_v89, k6_v89, k5_v89]
  unfold score
  rw [grp_mk]
  exact congrArg (· * _) (Finset.sum_congr rfl fun e _ => congrArg₂ (· * ·) (v135_at V b _ t e) (v89_at V b j k e))

theorem v151_at (j : Fin 2) (l : Fin 4) (t : Fin 4096) (d : Fin 64) : (show FVec Ideal S8x2x4x4096x64 .f32 from s12 V (Proc.devRef .tc main_v151)) (ix5 b j l t d)
    = soft (fun k : Fin 4352 => score (argU V) (argQ V) (argK V) b ⟨j.val * 4 + l.val, by omega⟩ ⟨256 + t.val, by omega⟩ k) (fun k => value (argU V) b j k d) := by
  have hS : (fun k : Fin 4352 => (show FVec Ideal S8x2x4x4096x4352 .f32 from s10 V (Proc.devRef .tc main_v139)) (ix5 b j l t k))
      = fun k : Fin 4352 => score (argU V) (argQ V) (argK V) b ⟨j.val * 4 + l.val, by omega⟩ ⟨256 + t.val, by omega⟩ k := funext fun k => v139_at V b j l t k
  refine (lat_mean (s11 V) b j l t d _ fun k => (lat_peak (s10 V) b j l t k).trans (congrArg peak hS)).trans ?_
  rw [k11_v139, hS, k11_v63, k10_v63, k9_v63, k8_v63, k7_v63, k6_v63, k5_v63, k4_v63]
  exact congrArg (mean _ _) (funext fun k => v63_at V b j k d)

/-- The reference's result at an index. -/
theorem v156_at (t : Fin 4352) (h : Fin 8) (d : Fin 64) : (show FVec Ideal S8x4352x512 .bf16 from s13 V (Proc.devRef .tc main_v156)) (ix3 b t ⟨h.val * 64 + d.val, by omega⟩)
    = att (argU V) (argQ V) (argK V) b t h d := by
  have hd : (⟨(⟨h.val * 64 + d.val, by omega⟩ : Fin 512).val % 64, by omega⟩ : Fin 64) = d := Fin.ext (by show (h.val * 64 + d.val) % 64 = d.val; omega)
  have hj : (⟨(⟨h.val * 64 + d.val, by omega⟩ : Fin 512).val / 64 / 4, by omega⟩ : Fin 2) = grp h := Fin.ext (by show (h.val * 64 + d.val) / 64 / 4 = h.val / 4; omega)
  have hh : (⟨(grp h).val * 4 + (⟨(⟨h.val * 64 + d.val, by omega⟩ : Fin 512).val / 64 % 4, by omega⟩ : Fin 4).val, by have := (grp h).isLt; omega⟩ : Fin 8) = h :=
    Fin.ext (by show h.val / 4 * 4 + (h.val * 64 + d.val) / 64 % 4 = h.val; omega)
  refine (out_at (s12 V) b t ⟨h.val * 64 + d.val, by omega⟩).trans ?_
  rw [hd, hj]
  unfold att
  by_cases ht : t.val < 256
  · rw [dif_pos ht, if_pos ht, k12_v111, k11_v111, k10_v111, k9_v111]
    refine (ctx_heads (s7 V) b ⟨t.val, ht⟩ ⟨h.val * 64 + d.val, by omega⟩).trans ?_
    rw [hd, hj]
    refine (v108_at V b (grp h) _ ⟨t.val, ht⟩ d).trans ?_
    rw [hh]
    rfl
  · have h2 : (⟨256 + (⟨t.val - 256, by omega⟩ : Fin 4096).val, by omega⟩ : Fin 4352) = t := Fin.ext (by show 256 + (t.val - 256) = t.val; omega)
    rw [dif_neg ht, if_neg ht]
    refine (v151_at V b (grp h) _ ⟨t.val - 256, by omega⟩ d).trans ?_
    rw [hh, h2]

end Cert.Proof.AttRef

end
-- ==== Proof.AttRefRun.lean ====
/-
  The attention's reference runs to the attention.
-/
module

public import proofs.«01_k».proof.Proof.AttRef5
public import proofs.«01_k».proof.Proof.Gen.ReferenceIdeal

@[expose] public section

set_option maxRecDepth 16384
set_option Elab.async false

noncomputable section

namespace Cert.Proof.AttRef

open Idealize.ShloMosaic Idealize.ShloMosaic.TcCoe Idealize.SL.Sem
open Cert.ReferenceIdeal Cert.ReferenceIdeal.Gen
open Cert.Proof.AttSpec

theorem after_append {τ' : Topo} {sig' : RefSig} {Val : EltTy → Type} (a b : List (HloOp τ' sig' Val)) (V : Valuation τ' sig' Val) :
    StableHlo.after (a ++ b) V = StableHlo.after b (StableHlo.after a V) := by
  induction a generalizing V with
  | nil => rfl
  | cons op l ih => exact ih _

/-- All the operations, stage after stage. -/
theorem after_stages (V : Valuation τ sig (Elt Ideal)) :
    StableHlo.after (ops1 ++ (ops2 ++ (ops3 ++ ((ops4 ++ ops4b) ++ (ops5 ++ (ops6 ++ (ops7 ++ (ops8 ++ (ops9 ++ (ops10 ++ (ops11 ++ (ops12 ++ ops13)))))))))))) V = s13 V := by
  simp only [after_append]
  rfl

set_option maxHeartbeats 8000000 in
/-- Any array that is the attention at every index is what the reference leaves. -/
theorem ref_run (m : (ℓ : Loc nD τ sig) → Buf (Elt Ideal) ℓ) (g : Dev nD → PrngReg) (X : Dev nD → FVec Ideal S8x4352x512 .bf16)
    (hX : ∀ c b t h (d : Fin 64), X c (ix3 b t ⟨h.val * 64 + d.val, by have := h.isLt; omega⟩) = att (m ((c.tc : Thread nD τ).loc main_arg0)) (m ((c.tc : Thread nD τ).loc main_arg1))
      (m ((c.tc : Thread nD τ).loc main_arg2)) b t h d) :
    θ_run (defs (F := Ideal)) (onTc (τ := τ) (main (F := Ideal))) ⟨m, fun _ => 0, g⟩ (fun r => ∀ c : Dev nD,
      r.2.mem ((c.tc : Thread nD τ).loc main_v156) = X c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (StableHlo.run_hlo _ _ (by hlo_seq) (by decide) (by decide) (by simp)
    (by intro _ h; (repeat (cases h with | head => rfl | tail _ h => ?_)); exact nomatch h) m g) fun r hr c => ⟨(hr c main_v156).trans ?_, (hr c main_arg0).trans ?_, (hr c main_arg1).trans ?_, (hr c main_arg2).trans ?_⟩
  all_goals clear hr
  rotate_left
  all_goals (try (after_results; done))
  refine (congrFun (after_stages (StableHlo.launchContents m c)) (Proc.devRef .tc main_v156)).trans ?_
  funext y
  obtain ⟨b, t, n, rfl⟩ : ∃ (b : Fin 8) (t : Fin 4352) (n : Fin 512), y = ix3 b t n := ⟨y 0, y 1, y 2, by ext i; fin_cases i <;> rfl⟩
  obtain ⟨h, d, rfl⟩ : ∃ (h : Fin 8) (d : Fin 64), n = ⟨h.val * 64 + d.val, by omega⟩ :=
    ⟨⟨n.val / 64, by omega⟩, ⟨n.val % 64, by omega⟩, Fin.ext (by show n.val = n.val / 64 * 64 + n.val % 64; omega)⟩
  exact (v156_at (StableHlo.launchContents m c) b t h d).trans (hX c b t h d).symm

end Cert.Proof.AttRef

end
-- ==== Proof.AttEq.lean ====
/-
  The attention kernel and its reference leave the same array, where the precondition holds.
-/
module

public import proofs.«01_k».proof.Defs
public import proofs.«01_k».proof.Proof.PreReal
public import proofs.«01_k».proof.Proof.AttRefRun
public import proofs.«01_k».proof.Proof.Gen.Pre_finite_inputs

@[expose] public section

set_option maxRecDepth 16384
set_option Elab.async false

noncomputable section

namespace Cert.Proof.Att

open Idealize.ShloMosaic Idealize.ShloMosaic.TcCoe Idealize.SL.Sem
open Cert.Proof.AttSpec

/-- The equation of the claim. -/
theorem algebraic : Cert.algebraic_KernelIdeal_ReferenceIdeal_pre_finite_inputs := by
  intro m g m' g' hpre hagree
  have hreal : ∀ c, RealCols (aU m c) ∧ RealGain (aQ m c) ∧ RealGain (aK m c) := fun c => real_of_pre _ _ _ (hpre c)
  refine ⟨fun c => GA m c, ?_, ?_⟩
  · refine θ_run_mono (run_main (F := Ideal) m g) fun r hr c => ?_
    obtain ⟨h0, h1, h2, h⟩ := hr.1 c
    exact ⟨h.trans (result_att m c (hreal c).1 (hreal c).2.1 (hreal c).2.2), h0, h1, h2⟩
  · refine AttRef.ref_run m' g' (fun c => GA m c) fun c b t h d => ?_
    obtain ⟨h0, h1, h2⟩ := hagree c
    rw [h0, h1, h2]
    exact GA_at m c b t h d _ rfl

end Cert.Proof.Att

end
-- ==== Proof.lean ====
/-
  The claims: both kernels and their references run to the end and leave their arguments alone, the kernels over the reals are the
  printed ones, and the values agree.
-/
module

public import proofs.«01_k».proof.Defs
public import proofs.«01_k».proof.Proof.Frames
public import proofs.«01_k».proof.Proof.RefFrames
public import proofs.«01_k».proof.Proof.InProjEq
public import proofs.«01_k».proof.Proof.PreFrames
public import proofs.«01_k».proof.Proof.AttEq
public import proofs.«01_k».proof.Proof.Gen.Pre_finite_inputs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_finite_inputs.Gen.facts,
    Att.frame_k,
    Att.frame_ki,
    frame_ki_pre,
    frame_ri,
    frame_ri_pre,
    fun m ρ _ => Cert.Kernel2.Gen.frame m ρ,
    fun m ρ _ => Cert.Kernel2Ideal.Gen.frame m ρ,
    frame_ri2,
    Att.preserves,
    Att.algebraic,
    trivial,
    InProj.algebraic⟩

end Cert.Proof

end
